-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel17Ideal_finite17 [hPre_finite17 : Cert.Pre_finite17.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1))) = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_finite17 [hPre_finite17 : Cert.Pre_finite17.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1))) = (fun _ => 1#1)

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Kernel17Ideal_pre_finite17 [hKernel17Ideal : Cert.Kernel17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_finite17 m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Reference17Ideal_pre_finite17 [hReference17Ideal : Cert.Reference17Ideal.Facts] [hPre_finite17 : Cert.Pre_finite17.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_finite17 m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v85_0)) (v1 : (c : Dev Cert.KernelIdeal.nD) → Buf (Elt Ideal) ((c.tc : Thread Cert.KernelIdeal.nD Cert.KernelIdeal.τ).loc Cert.KernelIdeal.main_v85_1)) (v2 : (c : Dev Cert.KernelIdeal.nD) → Buf (Elt Ideal) ((c.tc : Thread Cert.KernelIdeal.nD Cert.KernelIdeal.τ).loc Cert.KernelIdeal.main_v85_2)) (v3 : (c : Dev Cert.KernelIdeal.nD) → Buf (Elt Ideal) ((c.tc : Thread Cert.KernelIdeal.nD Cert.KernelIdeal.τ).loc Cert.KernelIdeal.main_v85_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85_0) = v0 c
          ∧ r.2.mem ((c.tc : Thread Cert.KernelIdeal.nD Cert.KernelIdeal.τ).loc Cert.KernelIdeal.main_v85_1) = v1 c
          ∧ r.2.mem ((c.tc : Thread Cert.KernelIdeal.nD Cert.KernelIdeal.τ).loc Cert.KernelIdeal.main_v85_2) = v2 c
          ∧ r.2.mem ((c.tc : Thread Cert.KernelIdeal.nD Cert.KernelIdeal.τ).loc Cert.KernelIdeal.main_v85_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v114) = v1 c
          ∧ r.2.mem ((c.tc : Thread Cert.ReferenceIdeal.nD Cert.ReferenceIdeal.τ).loc Cert.ReferenceIdeal.main_v112) = v2 c
          ∧ r.2.mem ((c.tc : Thread Cert.ReferenceIdeal.nD Cert.ReferenceIdeal.τ).loc Cert.ReferenceIdeal.main_v110) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_v32) = v1 c
          ∧ r.2.mem ((c.tc : Thread Cert.Reference2Ideal.nD Cert.Reference2Ideal.τ).loc Cert.Reference2Ideal.main_v39) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_v9) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_v9) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v70) = v0 c
          ∧ r.2.mem ((c.tc : Thread Cert.Reference9Ideal.nD Cert.Reference9Ideal.τ).loc Cert.Reference9Ideal.main_v38) = v1 c
          ∧ r.2.mem ((c.tc : Thread Cert.Reference9Ideal.nD Cert.Reference9Ideal.τ).loc Cert.Reference9Ideal.main_v44) = v2 c
          ∧ r.2.mem ((c.tc : Thread Cert.Reference9Ideal.nD Cert.Reference9Ideal.τ).loc Cert.Reference9Ideal.main_v41) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v52) = v0 c
          ∧ r.2.mem ((c.tc : Thread Cert.Reference10Ideal.nD Cert.Reference10Ideal.τ).loc Cert.Reference10Ideal.main_v29) = v1 c
          ∧ r.2.mem ((c.tc : Thread Cert.Reference10Ideal.nD Cert.Reference10Ideal.τ).loc Cert.Reference10Ideal.main_v37) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)) (v4 : (c : Dev Cert.Kernel11Ideal.nD) → Buf (Elt Ideal) ((c.tc : Thread Cert.Kernel11Ideal.nD Cert.Kernel11Ideal.τ).loc Cert.Kernel11Ideal.main_v0_4)) (v5 : (c : Dev Cert.Kernel11Ideal.nD) → Buf (Elt Ideal) ((c.tc : Thread Cert.Kernel11Ideal.nD Cert.Kernel11Ideal.τ).loc Cert.Kernel11Ideal.main_v0_5)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_v0_4) = v4 c
          ∧ r.2.mem ((c.tc : Thread Cert.Kernel11Ideal.nD Cert.Kernel11Ideal.τ).loc Cert.Kernel11Ideal.main_v0_5) = v5 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v20) = v0 c
          ∧ r.2.mem ((c.tc : Thread Cert.Reference11Ideal.nD Cert.Reference11Ideal.τ).loc Cert.Reference11Ideal.main_v88) = v1 c
          ∧ r.2.mem ((c.tc : Thread Cert.Reference11Ideal.nD Cert.Reference11Ideal.τ).loc Cert.Reference11Ideal.main_v89) = v2 c
          ∧ r.2.mem ((c.tc : Thread Cert.Reference11Ideal.nD Cert.Reference11Ideal.τ).loc Cert.Reference11Ideal.main_v86) = v3 c
          ∧ r.2.mem ((c.tc : Thread Cert.Reference11Ideal.nD Cert.Reference11Ideal.τ).loc Cert.Reference11Ideal.main_v67) = v4 c
          ∧ r.2.mem ((c.tc : Thread Cert.Reference11Ideal.nD Cert.Reference11Ideal.τ).loc Cert.Reference11Ideal.main_v90) = v5 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_v13) = v1 c
          ∧ r.2.mem ((c.tc : Thread Cert.Reference16Ideal.nD Cert.Reference16Ideal.τ).loc Cert.Reference16Ideal.main_v21) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal_pre_finite17 [hKernel17Ideal : Cert.Kernel17Ideal.Facts] [hReference17Ideal : Cert.Reference17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_finite17 m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_finite : Cert.Pre_finite.Facts) (hPre_finite9 : Cert.Pre_finite9.Facts) (hPre_finite10 : Cert.Pre_finite10.Facts) (hPre_finite11 : Cert.Pre_finite11.Facts) (hPre_finite17 : Cert.Pre_finite17.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Kernel17Ideal_pre_finite17 (hKernel17Ideal := hKernel17Ideal) (hPre_finite17 := hPre_finite17)
    ∧ quiescent_Reference17Ideal (hReference17Ideal := hReference17Ideal)
    ∧ quiescent_Reference17Ideal_pre_finite17 (hReference17Ideal := hReference17Ideal) (hPre_finite17 := hPre_finite17)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal_pre_finite10 (hKernel10Ideal := hKernel10Ideal) (hReference10Ideal := hReference10Ideal) (hPre_finite10 := hPre_finite10)
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal_pre_finite17 (hKernel17Ideal := hKernel17Ideal) (hReference17Ideal := hReference17Ideal) (hPre_finite17 := hPre_finite17)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Pre_finite.lean ====
abbrev S2x2304x512 : Shape := ⟨3, ![2, 2304, 512]⟩
abbrev S2x2304x1024 : Shape := ⟨3, ![2, 2304, 1024]⟩
abbrev S2x2048x1024 : Shape := ⟨3, ![2, 2048, 1024]⟩
abbrev S_ : Shape := ⟨0, ![]⟩

class Facts : Prop where
  bcast_S_S2x2304x512 : S_.BroadcastsInDim S2x2304x512 (![] : Fin 0 → Fin S2x2304x512.rank)
  reducesTo_S2x2304x512_S_d0_1_2 : S2x2304x512.ReducesTo [0, 1, 2] S_
  h_S_ : 0 < S_.numel
  bitsLt_bf16_f32 : FTy.bits .bf16 < FTy.bits .f32
  bcast_S_S2x2304x1024 : S_.BroadcastsInDim S2x2304x1024 (![] : Fin 0 → Fin S2x2304x1024.rank)
  reducesTo_S2x2304x1024_S_d0_1_2 : S2x2304x1024.ReducesTo [0, 1, 2] S_
  bcast_S_S2x2048x1024 : S_.BroadcastsInDim S2x2048x1024 (![] : Fin 0 → Fin S2x2048x1024.rank)
  reducesTo_S2x2048x1024_S_d0_1_2 : S2x2048x1024.ReducesTo [0, 1, 2] S_

variable [Facts]

def fn_part1 {F : FTy → Type} [FloatOps F] (main_arg4 : FVec F S2x2048x1024 .f32) (main_v15 : IVec S_ 1) (main_v16 : FVec F S2x2304x512 .f32) (main_cst_4 : FVec F S_ .f32) : IVec S_ 1 :=
  let main_v17 : FVec F S2x2304x512 .f32 := broadcastInDim S2x2304x512 ![] bcast_S_S2x2304x512 main_cst_4
  let main_v18 : IVec S2x2304x512 1 := cmpf .olt main_v16 main_v17
  let main_c_5 : IVec S_ 1 := constantI S_ 1 1#1
  let main_v19 : IVec S_ 1 := (fun x v => Host.reduce IntOp.andi x v reducesTo_S2x2304x512_S_d0_1_2 h_S_) main_v18 main_c_5
  let main_v20 : IVec S_ 1 := andi main_v15 main_v19
  let main_v21 : FVec F S2x2048x1024 .f32 := Host.absf main_arg4
  let main_cst_6 : FVec F S_ .f32 := constant S_ .f32 0x7F800000#32
  let main_v22 : FVec F S2x2048x1024 .f32 := broadcastInDim S2x2048x1024 ![] bcast_S_S2x2048x1024 main_cst_6
  let main_v23 : IVec S2x2048x1024 1 := cmpf .olt main_v21 main_v22
  let main_c_7 : IVec S_ 1 := constantI S_ 1 1#1
  let main_v24 : IVec S_ 1 := (fun x v => Host.reduce IntOp.andi x v reducesTo_S2x2048x1024_S_d0_1_2 h_S_) main_v23 main_c_7
  let main_v25 : IVec S_ 1 := andi main_v20 main_v24
  main_v25

def fn {F : FTy → Type} [FloatOps F] (main_arg0 : FVec F S2x2304x512 .f32) (main_arg1 : FVec F S2x2304x512 .bf16) (main_arg2 : FVec F S2x2304x1024 .bf16) (main_arg3 : FVec F S2x2304x512 .f32) (main_arg4 : FVec F S2x2048x1024 .f32) : IVec S_ 1 :=
  let main_v0 : FVec F S2x2304x512 .f32 := Host.absf main_arg0
  let main_cst : FVec F S_ .f32 := constant S_ .f32 0x7F800000#32
  let main_v1 : FVec F S2x2304x512 .f32 := broadcastInDim S2x2304x512 ![] bcast_S_S2x2304x512 main_cst
  let main_v2 : IVec S2x2304x512 1 := cmpf .olt main_v0 main_v1
  let main_c : IVec S_ 1 := constantI S_ 1 1#1
  let main_v3 : IVec S_ 1 := (fun x v => Host.reduce IntOp.andi x v reducesTo_S2x2304x512_S_d0_1_2 h_S_) main_v2 main_c
  let main_v4 : FVec F S2x2304x512 .f32 := (extf .f32 · bitsLt_bf16_f32) main_arg1
  let main_v5 : FVec F S2x2304x512 .f32 := Host.absf main_v4
  let main_cst_0 : FVec F S_ .f32 := constant S_ .f32 0x7F800000#32
  let main_v6 : FVec F S2x2304x512 .f32 := broadcastInDim S2x2304x512 ![] bcast_S_S2x2304x512 main_cst_0
  let main_v7 : IVec S2x2304x512 1 := cmpf .olt main_v5 main_v6
  let main_c_1 : IVec S_ 1 := constantI S_ 1 1#1
  let main_v8 : IVec S_ 1 := (fun x v => Host.reduce IntOp.andi x v reducesTo_S2x2304x512_S_d0_1_2 h_S_) main_v7 main_c_1
  let main_v9 : IVec S_ 1 := andi main_v3 main_v8
  let main_v10 : FVec F S2x2304x1024 .f32 := (extf .f32 · bitsLt_bf16_f32) main_arg2
  let main_v11 : FVec F S2x2304x1024 .f32 := Host.absf main_v10
  let main_cst_2 : FVec F S_ .f32 := constant S_ .f32 0x7F800000#32
  let main_v12 : FVec F S2x2304x1024 .f32 := broadcastInDim S2x2304x1024 ![] bcast_S_S2x2304x1024 main_cst_2
  let main_v13 : IVec S2x2304x1024 1 := cmpf .olt main_v11 main_v12
  let main_c_3 : IVec S_ 1 := constantI S_ 1 1#1
  let main_v14 : IVec S_ 1 := (fun x v => Host.reduce IntOp.andi x v reducesTo_S2x2304x1024_S_d0_1_2 h_S_) main_v13 main_c_3
  let main_v15 : IVec S_ 1 := andi main_v9 main_v14
  let main_v16 : FVec F S2x2304x512 .f32 := Host.absf main_arg3
  let main_cst_4 : FVec F S_ .f32 := constant S_ .f32 0x7F800000#32
  fn_part1 (F := F) main_arg4 main_v15 main_v16 main_cst_4
-- ==== Pre_finite10.lean ====
abbrev S2x2048x1024 : Shape := ⟨3, ![2, 2048, 1024]⟩
abbrev S4096x1024 : Shape := ⟨2, ![4096, 1024]⟩
abbrev S1024x1024 : Shape := ⟨2, ![1024, 1024]⟩
abbrev S1x256 : Shape := ⟨2, ![1, 256]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1x256 : S_.BroadcastsInDim S1x256 (![] : Fin 0 → Fin S1x256.rank)
  reducesTo_S1x256_S_d0_1 : S1x256.ReducesTo [0, 1] S_

variable [Facts]

def fn_part1 {F : FTy → Type} [FloatOps F] (main_arg4 : FVec F S1024x1024 .bf16) (main_arg5 : FVec F S1x256 .f32) (main_v3 : IVec S_ 1) (main_v7 : IVec S_ 1) (main_v12 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : FVec F S1024x1024 .f32 := (extf .f32 · bitsLt_bf16_f32) main_arg4
  let main_v19 : FVec F S1024x1024 .f32 := Host.absf main_v18
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : FVec F S1x256 .f32 := Host.absf main_arg5
  let main_cst_8 : FVec F S_ .f32 := constant S_ .f32 0x7F800000#32
  let main_v24 : FVec F S1x256 .f32 := broadcastInDim S1x256 ![] bcast_S_S1x256 main_cst_8
  let main_v25 : IVec S1x256 1 := cmpf .olt main_v23 main_v24
  let main_c_9 : IVec S_ 1 := constantI S_ 1 1#1
  let main_v26 : IVec S_ 1 := (fun x v => Host.reduce IntOp.andi x v reducesTo_S1x256_S_d0_1 h_S_) main_v25 main_c_9
  let main_v27 : IVec S_ 1 := andi main_v3 main_v7
  let main_v28 : IVec S_ 1 := andi main_v27 main_v12
  let main_v29 : IVec S_ 1 := andi main_v28 main_v17
  let main_v30 : IVec S_ 1 := andi main_v29 main_v22
  let main_v31 : IVec S_ 1 := andi main_v30 main_v26
  main_v31

def fn {F : FTy → Type} [FloatOps F] (main_arg0 : FVec F S2x2048x1024 .f32) (main_arg1 : FVec F S2x2048x1024 .f32) (main_arg2 : FVec F S4096x1024 .bf16) (main_arg3 : FVec F S4096x1024 .bf16) (main_arg4 : FVec F S1024x1024 .bf16) (main_arg5 : FVec F S1x256 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : FVec F S4096x1024 .f32 := (extf .f32 · bitsLt_bf16_f32) main_arg2
  let main_v9 : FVec F S4096x1024 .f32 := Host.absf main_v8
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : FVec F S4096x1024 .f32 := (extf .f32 · bitsLt_bf16_f32) main_arg3
  let main_v14 : FVec F S4096x1024 .f32 := Host.absf main_v13
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_v3 main_v7 main_v12 main_v16
-- ==== Pre_finite11.lean ====
abbrev S4096x2048 : Shape := ⟨2, ![4096, 2048]⟩
abbrev S4096x1024 : Shape := ⟨2, ![4096, 1024]⟩
abbrev S1024x1024 : Shape := ⟨2, ![1024, 1024]⟩
abbrev S2x1x1024 : Shape := ⟨3, ![2, 1, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S2x1x1024 : S_.BroadcastsInDim S2x1x1024 (![] : Fin 0 → Fin S2x1x1024.rank)
  reducesTo_S2x1x1024_S_d0_1_2 : S2x1x1024.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_v4 : IVec S_ 1) (main_v9 : IVec S_ 1) (main_v14 : IVec S_ 1) (main_v19 : IVec S_ 1) (main_v23 : IVec S_ 1) (main_v27 : IVec S_ 1) (main_v31 : IVec S_ 1) (main_v32 : FVec F S4096x1024 .f32) (main_cst_12 : FVec F S_ .f32) : IVec S_ 1 :=
  let main_v33 : FVec F S4096x1024 .f32 := broadcastInDim S4096x1024 ![] bcast_S_S4096x1024 main_cst_12
  let main_v34 : IVec S4096x1024 1 := cmpf .olt main_v32 main_v33
  let main_c_13 : IVec S_ 1 := constantI S_ 1 1#1
  let main_v35 : IVec S_ 1 := (fun x v => Host.reduce IntOp.andi x v reducesTo_S4096x1024_S_d0_1 h_S_) main_v34 main_c_13
  let main_v36 : IVec S_ 1 := andi main_v4 main_v9
  let main_v37 : IVec S_ 1 := andi main_v36 main_v14
  let main_v38 : IVec S_ 1 := andi main_v37 main_v19
  let main_v39 : IVec S_ 1 := andi main_v38 main_v23
  let main_v40 : IVec S_ 1 := andi main_v39 main_v27
  let main_v41 : IVec S_ 1 := andi main_v40 main_v31
  let main_v42 : IVec S_ 1 := andi main_v41 main_v35
  main_v42

def fn_part1 {F : FTy → Type} [FloatOps F] (main_arg4 : FVec F S4096x1024 .f32) (main_arg5 : FVec F S2x1x1024 .f32) (main_arg6 : FVec F S1x1024 .f32) (main_arg7 : FVec F S4096x1024 .f32) (main_v4 : IVec S_ 1) (main_v9 : IVec S_ 1) (main_v14 : IVec S_ 1) (main_v16 : FVec F S1024x1024 .f32) (main_cst_4 : FVec F S_ .f32) : IVec S_ 1 :=
  let main_v17 : FVec F S1024x1024 .f32 := broadcastInDim S1024x1024 ![] bcast_S_S1024x1024 main_cst_4
  let main_v18 : IVec S1024x1024 1 := cmpf .olt main_v16 main_v17
  let main_c_5 : IVec S_ 1 := constantI S_ 1 1#1
  let main_v19 : IVec S_ 1 := (fun x v => Host.reduce IntOp.andi x v reducesTo_S1024x1024_S_d0_1 h_S_) main_v18 main_c_5
  let main_v20 : FVec F S4096x1024 .f32 := Host.absf main_arg4
  let main_cst_6 : FVec F S_ .f32 := constant S_ .f32 0x7F800000#32
  let main_v21 : FVec F S4096x1024 .f32 := broadcastInDim S4096x1024 ![] bcast_S_S4096x1024 main_cst_6
  let main_v22 : IVec S4096x1024 1 := cmpf .olt main_v20 main_v21
  let main_c_7 : IVec S_ 1 := constantI S_ 1 1#1
  let main_v23 : IVec S_ 1 := (fun x v => Host.reduce IntOp.andi x v reducesTo_S4096x1024_S_d0_1 h_S_) main_v22 main_c_7
  let main_v24 : FVec F S2x1x1024 .f32 := Host.absf main_arg5
  let main_cst_8 : FVec F S_ .f32 := constant S_ .f32 0x7F800000#32
  let main_v25 : FVec F S2x1x1024 .f32 := broadcastInDim S2x1x1024 ![] bcast_S_S2x1x1024 main_cst_8
  let main_v26 : IVec S2x1x1024 1 := cmpf .olt main_v24 main_v25
  let main_c_9 : IVec S_ 1 := constantI S_ 1 1#1
  let main_v27 : IVec S_ 1 := (fun x v => Host.reduce IntOp.andi x v reducesTo_S2x1x1024_S_d0_1_2 h_S_) main_v26 main_c_9
  let main_v28 : FVec F S1x1024 .f32 := Host.absf main_arg6
  let main_cst_10 : FVec F S_ .f32 := constant S_ .f32 0x7F800000#32
  let main_v29 : FVec F S1x1024 .f32 := broadcastInDim S1x1024 ![] bcast_S_S1x1024 main_cst_10
  let main_v30 : IVec S1x1024 1 := cmpf .olt main_v28 main_v29
  let main_c_11 : IVec S_ 1 := constantI S_ 1 1#1
  let main_v31 : IVec S_ 1 := (fun x v => Host.reduce IntOp.andi x v reducesTo_S1x1024_S_d0_1 h_S_) main_v30 main_c_11
  let main_v32 : FVec F S4096x1024 .f32 := Host.absf main_arg7
  let main_cst_12 : FVec F S_ .f32 := constant S_ .f32 0x7F800000#32
  fn_part2 (F := F) main_v4 main_v9 main_v14 main_v19 main_v23 main_v27 main_v31 main_v32 main_cst_12

def fn {F : FTy → Type} [FloatOps F] (main_arg0 : FVec F S4096x2048 .bf16) (main_arg1 : FVec F S4096x1024 .bf16) (main_arg2 : FVec F S4096x1024 .bf16) (main_arg3 : FVec F S1024x1024 .bf16) (main_arg4 : FVec F S4096x1024 .f32) (main_arg5 : FVec F S2x1x1024 .f32) (main_arg6 : FVec F S1x1024 .f32) (main_arg7 : FVec F S4096x1024 .f32) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S4096x1024 .f32 := (extf .f32 · bitsLt_bf16_f32) main_arg1
  let main_v6 : FVec F S4096x1024 .f32 := Host.absf main_v5
  let main_cst_0 : FVec F S_ .f32 := constant S_ .f32 0x7F800000#32
  let main_v7 : FVec F S4096x1024 .f32 := broadcastInDim S4096x1024 ![] bcast_S_S4096x1024 main_cst_0
  let main_v8 : IVec S4096x1024 1 := cmpf .olt main_v6 main_v7
  let main_c_1 : IVec S_ 1 := constantI S_ 1 1#1
  let main_v9 : IVec S_ 1 := (fun x v => Host.reduce IntOp.andi x v reducesTo_S4096x1024_S_d0_1 h_S_) main_v8 main_c_1
  let main_v10 : FVec F S4096x1024 .f32 := (extf .f32 · bitsLt_bf16_f32) main_arg2
  let main_v11 : FVec F S4096x1024 .f32 := Host.absf main_v10
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : FVec F S1024x1024 .f32 := (extf .f32 · bitsLt_bf16_f32) main_arg3
  let main_v16 : FVec F S1024x1024 .f32 := Host.absf main_v15
  let main_cst_4 : FVec F S_ .f32 := constant S_ .f32 0x7F800000#32
  fn_part1 (F := F) main_arg4 main_arg5 main_arg6 main_arg7 main_v4 main_v9 main_v14 main_v16 main_cst_4
-- ==== Pre_finite17.lean ====
abbrev S4x8x1024 : Shape := ⟨3, ![4, 8, 1024]⟩
abbrev S8x1024 : Shape := ⟨2, ![8, 1024]⟩
abbrev S_ : Shape := ⟨0, ![]⟩

class Facts : Prop where
  bcast_S_S4x8x1024 : S_.BroadcastsInDim S4x8x1024 (![] : Fin 0 → Fin S4x8x1024.rank)
  reducesTo_S4x8x1024_S_d0_1_2 : S4x8x1024.ReducesTo [0, 1, 2] S_
  h_S_ : 0 < S_.numel
  bcast_S_S8x1024 : S_.BroadcastsInDim S8x1024 (![] : Fin 0 → Fin S8x1024.rank)
  reducesTo_S8x1024_S_d0_1 : S8x1024.ReducesTo [0, 1] S_

variable [Facts]

def fn {F : FTy → Type} [FloatOps F] (main_arg0 : FVec F S4x8x1024 .f32) (main_arg1 : FVec F S8x1024 .f32) : IVec S_ 1 :=
  let main_v0 : FVec F S4x8x1024 .f32 := Host.absf main_arg0
  let main_cst : FVec F S_ .f32 := constant S_ .f32 0x7F800000#32
  let main_v1 : FVec F S4x8x1024 .f32 := broadcastInDim S4x8x1024 ![] bcast_S_S4x8x1024 main_cst
  let main_v2 : IVec S4x8x1024 1 := cmpf .olt main_v0 main_v1
  let main_c : IVec S_ 1 := constantI S_ 1 1#1
  let main_v3 : IVec S_ 1 := (fun x v => Host.reduce IntOp.andi x v reducesTo_S4x8x1024_S_d0_1_2 h_S_) main_v2 main_c
  let main_v4 : FVec F S8x1024 .f32 := Host.absf main_arg1
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  main_v8
-- ==== Pre_finite9.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bitsLt_bf16_f32 : FTy.bits .bf16 < FTy.bits .f32
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_arg5 : FVec F S1x1024 .f32) (main_v3 : IVec S_ 1) (main_v8 : IVec S_ 1) (main_v13 : IVec S_ 1) (main_v15 : FVec F S1024x1024 .f32) (main_v16 : FVec F S1024x1024 .f32) : IVec S_ 1 :=
  let main_v17 : IVec S1024x1024 1 := cmpf .olt main_v15 main_v16
  let main_c_5 : IVec S_ 1 := constantI S_ 1 1#1
  let main_v18 : IVec S_ 1 := (fun x v => Host.reduce IntOp.andi x v reducesTo_S1024x1024_S_d0_1 h_S_) main_v17 main_c_5
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : FVec F S1x1024 .f32 := Host.absf main_arg5
  let main_cst_8 : FVec F S_ .f32 := constant S_ .f32 0x7F800000#32
  let main_v24 : FVec F S1x1024 .f32 := broadcastInDim S1x1024 ![] bcast_S_S1x1024 main_cst_8
  let main_v25 : IVec S1x1024 1 := cmpf .olt main_v23 main_v24
  let main_c_9 : IVec S_ 1 := constantI S_ 1 1#1
  let main_v26 : IVec S_ 1 := (fun x v => Host.reduce IntOp.andi x v reducesTo_S1x1024_S_d0_1 h_S_) main_v25 main_c_9
  let main_v27 : IVec S_ 1 := andi main_v3 main_v8
  let main_v28 : IVec S_ 1 := andi main_v27 main_v13
  let main_v29 : IVec S_ 1 := andi main_v28 main_v18
  let main_v30 : IVec S_ 1 := andi main_v29 main_v22
  let main_v31 : IVec S_ 1 := andi main_v30 main_v26
  main_v31

def fn {F : FTy → Type} [FloatOps F] (main_arg0 : FVec F S4096x1024 .f32) (main_arg1 : FVec F S4096x1024 .bf16) (main_arg2 : FVec F S4096x1024 .bf16) (main_arg3 : FVec F S1024x1024 .bf16) (main_arg4 : FVec F S1x1024 .f32) (main_arg5 : FVec F S1x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := (extf .f32 · bitsLt_bf16_f32) main_arg1
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_c_1 : IVec S_ 1 := constantI S_ 1 1#1
  let main_v8 : IVec S_ 1 := (fun x v => Host.reduce IntOp.andi x v reducesTo_S4096x1024_S_d0_1 h_S_) main_v7 main_c_1
  let main_v9 : FVec F S4096x1024 .f32 := (extf .f32 · bitsLt_bf16_f32) main_arg2
  let main_v10 : FVec F S4096x1024 .f32 := Host.absf main_v9
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : FVec F S1024x1024 .f32 := (extf .f32 · bitsLt_bf16_f32) main_arg3
  let main_v15 : FVec F S1024x1024 .f32 := Host.absf main_v14
  let main_cst_4 : FVec F S_ .f32 := constant S_ .f32 0x7F800000#32
  let main_v16 : FVec F S1024x1024 .f32 := broadcastInDim S1024x1024 ![] bcast_S_S1024x1024 main_cst_4
  fn_part1 (F := F) main_arg4 main_arg5 main_v3 main_v8 main_v13 main_v15 main_v16
-- ==== Kernel.lean ====
abbrev S2x2304x512 : Shape := ⟨3, ![2, 2304, 512]⟩
abbrev S2x2304x1024 : Shape := ⟨3, ![2, 2304, 1024]⟩
abbrev S2x2048x1024 : Shape := ⟨3, ![2, 2048, 1024]⟩
abbrev S2x2304x4x128 : Shape := ⟨4, ![2, 2304, 4, 128]⟩
abbrev S2x4x2304x128 : Shape := ⟨4, ![2, 4, 2304, 128]⟩
abbrev S2x2304x4x256 : Shape := ⟨4, ![2, 2304, 4, 256]⟩
abbrev S2x4x2304x256 : Shape := ⟨4, ![2, 4, 2304, 256]⟩
abbrev S2x4x36x64x128 : Shape := ⟨5, ![2, 4, 36, 64, 128]⟩
abbrev S2x4x36x1x128 : Shape := ⟨5, ![2, 4, 36, 1, 128]⟩
abbrev S2x4x36x128 : Shape := ⟨4, ![2, 4, 36, 128]⟩
abbrev S37 : Shape := ⟨1, ![37]⟩
abbrev S36 : Shape := ⟨1, ![36]⟩
abbrev S_ : Shape := ⟨0, ![]⟩
abbrev S1x36 : Shape := ⟨2, ![1, 36]⟩
abbrev S37x1 : Shape := ⟨2, ![37, 1]⟩
abbrev S37x36 : Shape := ⟨2, ![37, 36]⟩
abbrev S37x36x1 : Shape := ⟨3, ![37, 36, 1]⟩
abbrev S2x4x1x36x128 : Shape := ⟨5, ![2, 4, 1, 36, 128]⟩
abbrev S2x4x37x36x128 : Shape := ⟨5, ![2, 4, 37, 36, 128]⟩
abbrev S2x4x37x128 : Shape := ⟨4, ![2, 4, 37, 128]⟩
abbrev S2304 : Shape := ⟨1, ![2304]⟩
abbrev S1x2304 : Shape := ⟨2, ![1, 2304]⟩
abbrev S37x2304 : Shape := ⟨2, ![37, 2304]⟩
abbrev S37x2304x1 : Shape := ⟨3, ![37, 2304, 1]⟩
abbrev S2x4x37x1x128 : Shape := ⟨5, ![2, 4, 37, 1, 128]⟩
abbrev S36x1 : Shape := ⟨2, ![36, 1]⟩
abbrev S36x36 : Shape := ⟨2, ![36, 36]⟩
abbrev S36x36x1 : Shape := ⟨3, ![36, 36, 1]⟩
abbrev S2x4x36x36x128 : Shape := ⟨5, ![2, 4, 36, 36, 128]⟩
abbrev S2x4x1x2304x128 : Shape := ⟨5, ![2, 4, 1, 2304, 128]⟩
abbrev S2x4x37x2304x128 : Shape := ⟨5, ![2, 4, 37, 2304, 128]⟩
abbrev S2x4x256x37x128 : Shape := ⟨5, ![2, 4, 256, 37, 128]⟩
abbrev S2x4x37x256x128 : Shape := ⟨5, ![2, 4, 37, 256, 128]⟩
abbrev S2x4x36x256x128 : Shape := ⟨5, ![2, 4, 36, 256, 128]⟩
abbrev S2x4x1x256x128 : Shape := ⟨5, ![2, 4, 1, 256, 128]⟩
abbrev S2x4x256x128 : Shape := ⟨4, ![2, 4, 256, 128]⟩
abbrev S1x256x512 : Shape := ⟨3, ![1, 256, 512]⟩
abbrev S1x256x1024 : Shape := ⟨3, ![1, 256, 1024]⟩
abbrev S1x4x4x256x128 : Shape := ⟨5, ![1, 4, 4, 256, 128]⟩
abbrev S1x4x256x128 : Shape := ⟨4, ![1, 4, 256, 128]⟩
abbrev S4x256x128 : Shape := ⟨3, ![4, 256, 128]⟩
abbrev S4x64x128 : Shape := ⟨3, ![4, 64, 128]⟩
abbrev S4x64x256 : Shape := ⟨3, ![4, 64, 256]⟩
abbrev S1x64x128 : Shape := ⟨3, ![1, 64, 128]⟩
abbrev S64x128 : Shape := ⟨2, ![64, 128]⟩
abbrev S1x64x256 : Shape := ⟨3, ![1, 64, 256]⟩
abbrev S64x256 : Shape := ⟨2, ![64, 256]⟩
abbrev S1x1x1x256x128 : Shape := ⟨5, ![1, 1, 1, 256, 128]⟩
abbrev S256x128 : Shape := ⟨2, ![256, 128]⟩
abbrev S1x256x128 : Shape := ⟨3, ![1, 256, 128]⟩
abbrev S1x128 : Shape := ⟨2, ![1, 128]⟩
abbrev S64x64 : Shape := ⟨2, ![64, 64]⟩
abbrev S128 : Shape := ⟨1, ![128]⟩

abbrev nBuf : Space → Nat
  | .hbm => 120
  | .vmem => 27
  | .smem => 0
  | _ => 0

abbrev bufTy : (tb : Table) → Fin (tcTables nBuf tb) → BufTy
  | .hbm, ⟨0, _⟩ => ⟨S2x2304x512, .f32⟩
  | .hbm, ⟨1, _⟩ => ⟨S2x2304x512, .bf16⟩
  | .hbm, ⟨2, _⟩ => ⟨S2x2304x1024, .bf16⟩
  | .hbm, ⟨3, _⟩ => ⟨S2x2304x512, .f32⟩
  | .hbm, ⟨4, _⟩ => ⟨S2x2048x1024, .f32⟩
  | .hbm, ⟨5, _⟩ => ⟨S2x2304x4x128, .bf16⟩
  | .hbm, ⟨6, _⟩ => ⟨S2x4x2304x128, .bf16⟩
  | .hbm, ⟨7, _⟩ => ⟨S2x4x2304x128, .f32⟩
  | .hbm, ⟨8, _⟩ => ⟨S2x2304x4x256, .bf16⟩
  | .hbm, ⟨9, _⟩ => ⟨S2x4x2304x256, .bf16⟩
  | .hbm, ⟨10, _⟩ => ⟨S2x4x2304x256, .f32⟩
  | .hbm, ⟨11, _⟩ => ⟨S2x2304x4x128, .f32⟩
  | .hbm, ⟨12, _⟩ => ⟨S2x4x2304x128, .f32⟩
  | .hbm, ⟨13, _⟩ => ⟨S2x4x36x64x128, .f32⟩
  | .hbm, ⟨14, _⟩ => ⟨S2x4x36x1x128, .f32⟩
  | .hbm, ⟨15, _⟩ => ⟨S2x4x36x128, .f32⟩
  | .hbm, ⟨16, _⟩ => ⟨S37, .i32⟩
  | .hbm, ⟨17, _⟩ => ⟨S36, .i32⟩
  | .hbm, ⟨18, _⟩ => ⟨S_, .i32⟩
  | .hbm, ⟨19, _⟩ => ⟨S36, .i32⟩
  | .hbm, ⟨20, _⟩ => ⟨S36, .i1⟩
  | .hbm, ⟨21, _⟩ => ⟨S_, .i32⟩
  | .hbm, ⟨22, _⟩ => ⟨S36, .i32⟩
  | .hbm, ⟨23, _⟩ => ⟨S36, .i32⟩
  | .hbm, ⟨24, _⟩ => ⟨S_, .i32⟩
  | .hbm, ⟨25, _⟩ => ⟨S36, .i32⟩
  | .hbm, ⟨26, _⟩ => ⟨S36, .i32⟩
  | .hbm, ⟨27, _⟩ => ⟨S36, .i32⟩
  | .hbm, ⟨28, _⟩ => ⟨S1x36, .i32⟩
  | .hbm, ⟨29, _⟩ => ⟨S37x1, .i32⟩
  | .hbm, ⟨30, _⟩ => ⟨S37x36, .i32⟩
  | .hbm, ⟨31, _⟩ => ⟨S37x36, .i32⟩
  | .hbm, ⟨32, _⟩ => ⟨S37x36, .i1⟩
  | .hbm, ⟨33, _⟩ => ⟨S37x36x1, .i1⟩
  | .hbm, ⟨34, _⟩ => ⟨S2x4x1x36x128, .f32⟩
  | .hbm, ⟨35, _⟩ => ⟨S_, .f32⟩
  | .hbm, ⟨36, _⟩ => ⟨S_, .f32⟩
  | .hbm, ⟨37, _⟩ => ⟨S2x4x37x36x128, .i1⟩
  | .hbm, ⟨38, _⟩ => ⟨S2x4x37x36x128, .f32⟩
  | .hbm, ⟨39, _⟩ => ⟨S2x4x37x36x128, .f32⟩
  | .hbm, ⟨40, _⟩ => ⟨S2x4x37x36x128, .f32⟩
  | .hbm, ⟨41, _⟩ => ⟨S_, .f32⟩
  | .hbm, ⟨42, _⟩ => ⟨S2x4x37x128, .f32⟩
  | .hbm, ⟨43, _⟩ => ⟨S2304, .i32⟩
  | .hbm, ⟨44, _⟩ => ⟨S_, .i32⟩
  | .hbm, ⟨45, _⟩ => ⟨S2304, .i32⟩
  | .hbm, ⟨46, _⟩ => ⟨S2304, .i1⟩
  | .hbm, ⟨47, _⟩ => ⟨S_, .i32⟩
  | .hbm, ⟨48, _⟩ => ⟨S2304, .i32⟩
  | .hbm, ⟨49, _⟩ => ⟨S2304, .i32⟩
  | .hbm, ⟨50, _⟩ => ⟨S_, .i32⟩
  | .hbm, ⟨51, _⟩ => ⟨S2304, .i32⟩
  | .hbm, ⟨52, _⟩ => ⟨S2304, .i32⟩
  | .hbm, ⟨53, _⟩ => ⟨S2304, .i32⟩
  | .hbm, ⟨54, _⟩ => ⟨S1x2304, .i32⟩
  | .hbm, ⟨55, _⟩ => ⟨S37x1, .i32⟩
  | .hbm, ⟨56, _⟩ => ⟨S_, .i32⟩
  | .hbm, ⟨57, _⟩ => ⟨S37x1, .i32⟩
  | .hbm, ⟨58, _⟩ => ⟨S37x1, .i32⟩
  | .hbm, ⟨59, _⟩ => ⟨S37x2304, .i32⟩
  | .hbm, ⟨60, _⟩ => ⟨S37x2304, .i32⟩
  | .hbm, ⟨61, _⟩ => ⟨S37x2304, .i1⟩
  | .hbm, ⟨62, _⟩ => ⟨S37x2304x1, .i1⟩
  | .hbm, ⟨63, _⟩ => ⟨S2x4x37x1x128, .f32⟩
  | .hbm, ⟨64, _⟩ => ⟨S2x4x36x64x128, .f32⟩
  | .hbm, ⟨65, _⟩ => ⟨S36, .i32⟩
  | .hbm, ⟨66, _⟩ => ⟨S_, .i32⟩
  | .hbm, ⟨67, _⟩ => ⟨S36, .i32⟩
  | .hbm, ⟨68, _⟩ => ⟨S36, .i1⟩
  | .hbm, ⟨69, _⟩ => ⟨S_, .i32⟩
  | .hbm, ⟨70, _⟩ => ⟨S36, .i32⟩
  | .hbm, ⟨71, _⟩ => ⟨S36, .i32⟩
  | .hbm, ⟨72, _⟩ => ⟨S_, .i32⟩
  | .hbm, ⟨73, _⟩ => ⟨S36, .i32⟩
  | .hbm, ⟨74, _⟩ => ⟨S36, .i32⟩
  | .hbm, ⟨75, _⟩ => ⟨S36, .i32⟩
  | .hbm, ⟨76, _⟩ => ⟨S1x36, .i32⟩
  | .hbm, ⟨77, _⟩ => ⟨S36x1, .i32⟩
  | .hbm, ⟨78, _⟩ => ⟨S36x36, .i32⟩
  | .hbm, ⟨79, _⟩ => ⟨S36x36, .i32⟩
  | .hbm, ⟨80, _⟩ => ⟨S36x36, .i1⟩
  | .hbm, ⟨81, _⟩ => ⟨S36x36x1, .i1⟩
  | .hbm, ⟨82, _⟩ => ⟨S2x4x36x1x128, .f32⟩
  | .hbm, ⟨83, _⟩ => ⟨S2x4x36x128, .f32⟩
  | .hbm, ⟨84, _⟩ => ⟨S2x4x1x36x128, .f32⟩
  | .hbm, ⟨85, _⟩ => ⟨S_, .f32⟩
  | .hbm, ⟨86, _⟩ => ⟨S_, .f32⟩
  | .hbm, ⟨87, _⟩ => ⟨S2x4x36x36x128, .i1⟩
  | .hbm, ⟨88, _⟩ => ⟨S2x4x36x36x128, .f32⟩
  | .hbm, ⟨89, _⟩ => ⟨S2x4x36x36x128, .f32⟩
  | .hbm, ⟨90, _⟩ => ⟨S2x4x36x36x128, .f32⟩
  | .hbm, ⟨91, _⟩ => ⟨S_, .f32⟩
  | .hbm, ⟨92, _⟩ => ⟨S2x4x36x128, .f32⟩
  | .hbm, ⟨93, _⟩ => ⟨S2x4x36x1x128, .f32⟩
  | .hbm, ⟨94, _⟩ => ⟨S2x4x36x64x128, .f32⟩
  | .hbm, ⟨95, _⟩ => ⟨S2x4x36x64x128, .f32⟩
  | .hbm, ⟨96, _⟩ => ⟨S2x4x2304x128, .f32⟩
  | .hbm, ⟨97, _⟩ => ⟨S2x4x1x2304x128, .f32⟩
  | .hbm, ⟨98, _⟩ => ⟨S2x4x37x2304x128, .f32⟩
  | .hbm, ⟨99, _⟩ => ⟨S2x4x37x2304x128, .f32⟩
  | .hbm, ⟨100, _⟩ => ⟨S2x4x37x2304x128, .f32⟩
  | .hbm, ⟨101, _⟩ => ⟨S_, .f32⟩
  | .hbm, ⟨102, _⟩ => ⟨S_, .f32⟩
  | .hbm, ⟨103, _⟩ => ⟨S2x4x37x2304x128, .i1⟩
  | .hbm, ⟨104, _⟩ => ⟨S2x4x37x2304x128, .f32⟩
  | .hbm, ⟨105, _⟩ => ⟨S2x4x37x2304x128, .f32⟩
  | .hbm, ⟨106, _⟩ => ⟨S2x4x1x2304x128, .f32⟩
  | .hbm, ⟨107, _⟩ => ⟨S2x4x37x2304x128, .f32⟩
  | .hbm, ⟨108, _⟩ => ⟨S2x4x37x2304x128, .f32⟩
  | .hbm, ⟨109, _⟩ => ⟨S2x4x37x2304x128, .f32⟩
  | .hbm, ⟨110, _⟩ => ⟨S2x4x256x37x128, .f32⟩
  | .hbm, ⟨111, _⟩ => ⟨S2x4x37x256x128, .f32⟩
  | .hbm, ⟨112, _⟩ => ⟨S2x4x36x256x128, .f32⟩
  | .hbm, ⟨113, _⟩ => ⟨S2x4x36x256x128, .bf16⟩
  | .hbm, ⟨114, _⟩ => ⟨S2x4x1x256x128, .f32⟩
  | .hbm, ⟨115, _⟩ => ⟨S2x4x256x128, .f32⟩
  | .hbm, ⟨116, _⟩ => ⟨S2x2304x512, .f32⟩
  | .hbm, ⟨117, _⟩ => ⟨S2x2304x512, .f32⟩
  | .hbm, ⟨118, _⟩ => ⟨S2x2304x1024, .f32⟩
  | .hbm, ⟨119, _⟩ => ⟨S2x2304x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .bf16⟩
  | .local _ .vmem, ⟨3, _⟩ => ⟨S1x256x512, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x512, .f32⟩
  | .local _ .vmem, ⟨7, _⟩ => ⟨S1x256x512, .f32⟩
  | .local _ .vmem, ⟨8, _⟩ => ⟨S1x4x4x256x128, .bf16⟩
  | .local _ .vmem, ⟨9, _⟩ => ⟨S1x4x4x256x128, .bf16⟩
  | .local _ .vmem, ⟨10, _⟩ => ⟨S1x4x256x128, .f32⟩
  | .local _ .vmem, ⟨11, _⟩ => ⟨S1x4x256x128, .f32⟩
  | .local _ .vmem, ⟨12, _⟩ => ⟨S1x256x1024, .f32⟩
  | .local _ .vmem, ⟨13, _⟩ => ⟨S1x256x1024, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S1x256x1024, .f32⟩
  | .local _ .vmem, ⟨19, _⟩ => ⟨S1x256x1024, .f32⟩
  | .local _ .vmem, ⟨20, _⟩ => ⟨S1x256x512, .f32⟩
  | .local _ .vmem, ⟨21, _⟩ => ⟨S1x256x512, .f32⟩
  | .local _ .vmem, ⟨22, _⟩ => ⟨S4x256x128, .f32⟩
  | .local _ .vmem, ⟨23, _⟩ => ⟨S4x256x128, .f32⟩
  | .local _ .vmem, ⟨24, _⟩ => ⟨S4x64x128, .f32⟩
  | .local _ .vmem, ⟨25, _⟩ => ⟨S4x64x128, .f32⟩
  | .local _ .vmem, ⟨26, _⟩ => ⟨S4x64x256, .f32⟩
  | _, _ => ⟨S2x2304x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_c_3 : Ref sig .tc := ⟨.hbm, 44, rfl⟩
abbrev main_v30 : Ref sig .tc := ⟨.hbm, 45, rfl⟩
abbrev main_v31 : Ref sig .tc := ⟨.hbm, 46, rfl⟩
abbrev main_c_4 : Ref sig .tc := ⟨.hbm, 47, rfl⟩
abbrev main_v32 : Ref sig .tc := ⟨.hbm, 48, rfl⟩
abbrev main_v33 : Ref sig .tc := ⟨.hbm, 49, rfl⟩
abbrev main_c_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_6 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_7 : Ref sig .tc := ⟨.hbm, 66, rfl⟩
abbrev main_v48 : Ref sig .tc := ⟨.hbm, 67, rfl⟩
abbrev main_v49 : Ref sig .tc := ⟨.hbm, 68, rfl⟩
abbrev main_c_8 : Ref sig .tc := ⟨.hbm, 69, rfl⟩
abbrev main_v50 : Ref sig .tc := ⟨.hbm, 70, rfl⟩
abbrev main_v51 : Ref sig .tc := ⟨.hbm, 71, rfl⟩
abbrev main_c_9 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_10 : Ref sig .tc := ⟨.hbm, 85, rfl⟩
abbrev main_call4_v0 : Ref sig .tc := ⟨.hbm, 86, rfl⟩
abbrev main_call4_v1 : Ref sig .tc := ⟨.hbm, 87, rfl⟩
abbrev main_call4_v2 : Ref sig .tc := ⟨.hbm, 88, rfl⟩
abbrev main_call4_v3 : Ref sig .tc := ⟨.hbm, 89, rfl⟩
abbrev main_v64 : Ref sig .tc := ⟨.hbm, 90, rfl⟩
abbrev main_cst_11 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_12 : Ref sig .tc := ⟨.hbm, 101, rfl⟩
abbrev main_call5_v0 : Ref sig .tc := ⟨.hbm, 102, rfl⟩
abbrev main_call5_v1 : Ref sig .tc := ⟨.hbm, 103, rfl⟩
abbrev main_call5_v2 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85_0 : Ref sig .tc := ⟨.hbm, 116, rfl⟩
abbrev main_v85_1 : Ref sig .tc := ⟨.hbm, 117, rfl⟩
abbrev main_v85_2 : Ref sig .tc := ⟨.hbm, 118, rfl⟩
abbrev main_v85_3 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 9], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi c8_i32 arg1
  let c0_i32 : BitVec 32 := 0#32
  let v1 : BitVec 1 := Scalar.cmpi .eq v0 c0_i32
  let c1_i32 : BitVec 32 := 1#32
  let v2 : BitVec 32 := Scalar.subi v0 c1_i32
  let c8_i32_0 : BitVec 32 := 8#32
  let v3 : BitVec 32 := Scalar.select v1 c8_i32_0 v2
  let c0_i32_1 : BitVec 32 := 0#32
  let c0_i32_2 : BitVec 32 := 0#32
  ![arg0.toNat, v3.toNat, c0_i32_1.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi c8_i32 arg1
  let c0_i32 : BitVec 32 := 0#32
  let v1 : BitVec 1 := Scalar.cmpi .eq v0 c0_i32
  let c1_i32 : BitVec 32 := 1#32
  let v2 : BitVec 32 := Scalar.subi v0 c1_i32
  let c8_i32_0 : BitVec 32 := 8#32
  let v3 : BitVec 32 := Scalar.select v1 c8_i32_0 v2
  let c0_i32_1 : BitVec 32 := 0#32
  let c0_i32_2 : BitVec 32 := 0#32
  ![arg0.toNat, v3.toNat, c0_i32_1.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi c8_i32 arg1
  let c0_i32 : BitVec 32 := 0#32
  let v1 : BitVec 1 := Scalar.cmpi .eq v0 c0_i32
  let c1_i32 : BitVec 32 := 1#32
  let v2 : BitVec 32 := Scalar.subi v0 c1_i32
  let c8_i32_0 : BitVec 32 := 8#32
  let v3 : BitVec 32 := Scalar.select v1 c8_i32_0 v2
  let c0_i32_1 : BitVec 32 := 0#32
  let c0_i32_2 : BitVec 32 := 0#32
  ![arg0.toNat, v3.toNat, c0_i32_1.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi c8_i32 arg1
  let c0_i32 : BitVec 32 := 0#32
  let v1 : BitVec 1 := Scalar.cmpi .eq v0 c0_i32
  let c1_i32 : BitVec 32 := 1#32
  let v2 : BitVec 32 := Scalar.subi v0 c1_i32
  let c8_i32_0 : BitVec 32 := 8#32
  let v3 : BitVec 32 := Scalar.select v1 c8_i32_0 v2
  let c0_i32_1 : BitVec 32 := 0#32
  let c0_i32_2 : BitVec 32 := 0#32
  ![arg0.toNat, v3.toNat, c0_i32_1.toNat]

def cc0_transform_4 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.subi c8_i32 arg1
  let c0_i32 : BitVec 32 := 0#32
  let c0_i32_0 : BitVec 32 := 0#32
  let c0_i32_1 : BitVec 32 := 0#32
  let c0_i32_2 : BitVec 32 := 0#32
  ![arg0.toNat, c0_i32.toNat, v0.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi c8_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi c8_i32 arg1
  let c0_i32 : BitVec 32 := 0#32
  let v1 : BitVec 1 := Scalar.cmpi .eq v0 c0_i32
  let c1_i32 : BitVec 32 := 1#32
  let v2 : BitVec 32 := Scalar.subi v0 c1_i32
  let c8_i32_0 : BitVec 32 := 8#32
  let v3 : BitVec 32 := Scalar.select v1 c8_i32_0 v2
  let c0_i32_1 : BitVec 32 := 0#32
  let c0_i32_2 : BitVec 32 := 0#32
  ![arg0.toNat, v3.toNat, c0_i32_1.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi c8_i32 arg1
  let c0_i32 : BitVec 32 := 0#32
  let v1 : BitVec 1 := Scalar.cmpi .eq v0 c0_i32
  let c1_i32 : BitVec 32 := 1#32
  let v2 : BitVec 32 := Scalar.subi v0 c1_i32
  let c8_i32_0 : BitVec 32 := 8#32
  let v3 : BitVec 32 := Scalar.select v1 c8_i32_0 v2
  let c0_i32_1 : BitVec 32 := 0#32
  let c0_i32_2 : BitVec 32 := 0#32
  ![arg0.toNat, v3.toNat, c0_i32_1.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi c8_i32 arg1
  let c0_i32 : BitVec 32 := 0#32
  let v1 : BitVec 1 := Scalar.cmpi .eq v0 c0_i32
  let c1_i32 : BitVec 32 := 1#32
  let v2 : BitVec 32 := Scalar.subi v0 c1_i32
  let c8_i32_0 : BitVec 32 := 8#32
  let v3 : BitVec 32 := Scalar.select v1 c8_i32_0 v2
  let c0_i32_1 : BitVec 32 := 0#32
  let c0_i32_2 : BitVec 32 := 0#32
  ![arg0.toNat, v3.toNat, c0_i32_1.toNat]

def cc0_transform_10 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi c8_i32 arg1
  let c0_i32 : BitVec 32 := 0#32
  let v1 : BitVec 1 := Scalar.cmpi .eq v0 c0_i32
  let c1_i32 : BitVec 32 := 1#32
  let v2 : BitVec 32 := Scalar.subi v0 c1_i32
  let c8_i32_0 : BitVec 32 := 8#32
  let v3 : BitVec 32 := Scalar.select v1 c8_i32_0 v2
  let c0_i32_1 : BitVec 32 := 0#32
  let c0_i32_2 : BitVec 32 := 0#32
  ![arg0.toNat, v3.toNat, c0_i32_1.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x4x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S2x2304x512 : Shape := ⟨3, ![2, 2304, 512]⟩
abbrev S2x2304x1024 : Shape := ⟨3, ![2, 2304, 1024]⟩
abbrev S2x2048x1024 : Shape := ⟨3, ![2, 2048, 1024]⟩
abbrev S2x2304x4x128 : Shape := ⟨4, ![2, 2304, 4, 128]⟩
abbrev S2x4x2304x128 : Shape := ⟨4, ![2, 4, 2304, 128]⟩
abbrev S2x2304x4x256 : Shape := ⟨4, ![2, 2304, 4, 256]⟩
abbrev S2x4x2304x256 : Shape := ⟨4, ![2, 4, 2304, 256]⟩
abbrev S2x4x36x64x128 : Shape := ⟨5, ![2, 4, 36, 64, 128]⟩
abbrev S36 : Shape := ⟨1, ![36]⟩
abbrev S_ : Shape := ⟨0, ![]⟩
abbrev S1x36 : Shape := ⟨2, ![1, 36]⟩
abbrev S36x1 : Shape := ⟨2, ![36, 1]⟩
abbrev S36x36 : Shape := ⟨2, ![36, 36]⟩
abbrev S36x36x1 : Shape := ⟨3, ![36, 36, 1]⟩
abbrev S2x4x36x1x128 : Shape := ⟨5, ![2, 4, 36, 1, 128]⟩
abbrev S2x4x36x128 : Shape := ⟨4, ![2, 4, 36, 128]⟩
abbrev S2x4x1x36x128 : Shape := ⟨5, ![2, 4, 1, 36, 128]⟩
abbrev S2x4x36x36x128 : Shape := ⟨5, ![2, 4, 36, 36, 128]⟩
abbrev S2304 : Shape := ⟨1, ![2304]⟩
abbrev S1x2304 : Shape := ⟨2, ![1, 2304]⟩
abbrev S2048 : Shape := ⟨1, ![2048]⟩
abbrev S2048x1 : Shape := ⟨2, ![2048, 1]⟩
abbrev S2048x2304 : Shape := ⟨2, ![2048, 2304]⟩
abbrev S2048x2304x1 : Shape := ⟨3, ![2048, 2304, 1]⟩
abbrev S2x4x2048x128 : Shape := ⟨4, ![2, 4, 2048, 128]⟩
abbrev S2x4x2048x1x128 : Shape := ⟨5, ![2, 4, 2048, 1, 128]⟩
abbrev S2x4x1x2304x128 : Shape := ⟨5, ![2, 4, 1, 2304, 128]⟩
abbrev S2x4x2048x2304x128 : Shape := ⟨5, ![2, 4, 2048, 2304, 128]⟩
abbrev S2x4x2048x2304 : Shape := ⟨4, ![2, 4, 2048, 2304]⟩
abbrev S2x4x2048x256 : Shape := ⟨4, ![2, 4, 2048, 256]⟩
abbrev S2x2048x4x256 : Shape := ⟨4, ![2, 2048, 4, 256]⟩
abbrev S2x4x256x2304 : Shape := ⟨4, ![2, 4, 256, 2304]⟩

abbrev nBuf : Space → Nat
  | .hbm => 164
  | .vmem => 0
  | .smem => 0
  | _ => 0

abbrev hbmTy0_0 (i : Nat) : BufTy := match i % 128 with
  | 0 => ⟨S2x2304x512, .f32⟩
  | 1 => ⟨S2x2304x512, .bf16⟩
  | 2 => ⟨S2x2304x1024, .bf16⟩
  | 3 => ⟨S2x2304x512, .f32⟩
  | 4 => ⟨S2x2048x1024, .f32⟩
  | 5 => ⟨S2x2304x512, .f32⟩
  | 6 => ⟨S2x2304x1024, .f32⟩
  | 7 => ⟨S2x2304x4x128, .f32⟩
  | 8 => ⟨S2x4x2304x128, .f32⟩
  | 9 => ⟨S2x2304x4x128, .f32⟩
  | 10 => ⟨S2x4x2304x128, .f32⟩
  | 11 => ⟨S2x2304x4x256, .f32⟩
  | 12 => ⟨S2x4x2304x256, .f32⟩
  | 13 => ⟨S2x2304x4x128, .f32⟩
  | 14 => ⟨S2x4x2304x128, .f32⟩
  | 15 => ⟨S2x4x36x64x128, .f32⟩
  | 16 => ⟨S36, .i32⟩
  | 17 => ⟨S_, .i32⟩
  | 18 => ⟨S36, .i32⟩
  | 19 => ⟨S36, .i1⟩
  | 20 => ⟨S_, .i32⟩
  | 21 => ⟨S36, .i32⟩
  | 22 => ⟨S36, .i32⟩
  | 23 => ⟨S_, .i32⟩
  | 24 => ⟨S36, .i32⟩
  | 25 => ⟨S36, .i32⟩
  | 26 => ⟨S36, .i32⟩
  | 27 => ⟨S1x36, .i32⟩
  | 28 => ⟨S36x1, .i32⟩
  | 29 => ⟨S36x36, .i32⟩
  | 30 => ⟨S36x36, .i32⟩
  | 31 => ⟨S36x36, .i1⟩
  | 32 => ⟨S36x36x1, .i1⟩
  | 33 => ⟨S2x4x36x1x128, .f32⟩
  | 34 => ⟨S2x4x36x128, .f32⟩
  | 35 => ⟨S2x4x1x36x128, .f32⟩
  | 36 => ⟨S_, .f32⟩
  | 37 => ⟨S_, .f32⟩
  | 38 => ⟨S2x4x36x36x128, .i1⟩
  | 39 => ⟨S2x4x36x36x128, .f32⟩
  | 40 => ⟨S2x4x36x36x128, .f32⟩
  | 41 => ⟨S2x4x36x36x128, .f32⟩
  | 42 => ⟨S_, .f32⟩
  | 43 => ⟨S2x4x36x36x128, .f32⟩
  | 44 => ⟨S_, .f32⟩
  | 45 => ⟨S2x4x36x128, .f32⟩
  | 46 => ⟨S2x4x36x1x128, .f32⟩
  | 47 => ⟨S2x4x36x64x128, .f32⟩
  | 48 => ⟨S2x4x36x64x128, .f32⟩
  | 49 => ⟨S2x4x2304x128, .f32⟩
  | 50 => ⟨S2304, .i32⟩
  | 51 => ⟨S_, .i32⟩
  | 52 => ⟨S2304, .i32⟩
  | 53 => ⟨S2304, .i1⟩
  | 54 => ⟨S_, .i32⟩
  | 55 => ⟨S2304, .i32⟩
  | 56 => ⟨S2304, .i32⟩
  | 57 => ⟨S_, .i32⟩
  | 58 => ⟨S2304, .i32⟩
  | 59 => ⟨S2304, .i32⟩
  | 60 => ⟨S2304, .i32⟩
  | 61 => ⟨S1x2304, .i32⟩
  | 62 => ⟨S2048, .i32⟩
  | 63 => ⟨S2048x1, .i32⟩
  | 64 => ⟨S2048x2304, .i32⟩
  | 65 => ⟨S2048x2304, .i32⟩
  | 66 => ⟨S2048x2304, .i1⟩
  | 67 => ⟨S2048x2304x1, .i1⟩
  | 68 => ⟨S2x4x2048x128, .f32⟩
  | 69 => ⟨S2x4x2048x1x128, .f32⟩
  | 70 => ⟨S2x4x1x2304x128, .f32⟩
  | 71 => ⟨S2x4x2048x2304x128, .f32⟩
  | 72 => ⟨S2x4x2048x2304x128, .f32⟩
  | 73 => ⟨S2x4x2048x2304x128, .f32⟩
  | 74 => ⟨S_, .f32⟩
  | 75 => ⟨S_, .f32⟩
  | 76 => ⟨S2x4x2048x2304x128, .i1⟩
  | 77 => ⟨S2x4x2048x2304x128, .f32⟩
  | 78 => ⟨S2x4x2048x2304x128, .f32⟩
  | 79 => ⟨S_, .f32⟩
  | 80 => ⟨S2x4x2048x2304x128, .f32⟩
  | 81 => ⟨S2x4x2048x128, .f32⟩
  | 82 => ⟨S2x4x2048x1x128, .f32⟩
  | 83 => ⟨S2x4x1x2304x128, .f32⟩
  | 84 => ⟨S2x4x2048x2304x128, .f32⟩
  | 85 => ⟨S2x4x2048x2304x128, .f32⟩
  | 86 => ⟨S2x4x2048x2304x128, .f32⟩
  | 87 => ⟨S2x4x2048x2304x128, .f32⟩
  | 88 => ⟨S2x4x2048x2304x128, .f32⟩
  | 89 => ⟨S_, .f32⟩
  | 90 => ⟨S2x4x2048x2304, .f32⟩
  | 91 => ⟨S2x4x2048x256, .f32⟩
  | 92 => ⟨S2x2048x4x256, .f32⟩
  | 93 => ⟨S2x2048x1024, .f32⟩
  | 94 => ⟨S2x2048x4x256, .f32⟩
  | 95 => ⟨S2x4x2048x256, .f32⟩
  | 96 => ⟨S2x4x256x2304, .f32⟩
  | 97 => ⟨S2x4x2304x256, .f32⟩
  | 98 => ⟨S2x4x2048x2304, .f32⟩
  | 99 => ⟨S2x4x2048x2304x128, .f32⟩
  | 100 => ⟨S2x4x2048x2304x128, .f32⟩
  | 101 => ⟨S2x4x2048x2304x128, .f32⟩
  | 102 => ⟨S2x4x2048x2304x128, .f32⟩
  | 103 => ⟨S2x4x2048x2304x128, .f32⟩
  | 104 => ⟨S2x4x2048x2304x128, .f32⟩
  | 105 => ⟨S_, .f32⟩
  | 106 => ⟨S2x4x2304x128, .f32⟩
  | 107 => ⟨S2x4x1x2304x128, .f32⟩
  | 108 => ⟨S2x4x2048x2304x128, .f32⟩
  | 109 => ⟨S2x4x2048x2304x128, .f32⟩
  | 110 => ⟨S_, .f32⟩
  | 111 => ⟨S2x4x2048x128, .f32⟩
  | 112 => ⟨S2x4x2048x1x128, .f32⟩
  | 113 => ⟨S_, .f32⟩
  | 114 => ⟨S2x4x2304x128, .f32⟩
  | 115 => ⟨S_, .f32⟩
  | 116 => ⟨S2x4x2048x128, .f32⟩
  | 117 => ⟨S_, .f32⟩
  | 118 => ⟨S2x4x2304x128, .f32⟩
  | 119 => ⟨S_, .f32⟩
  | 120 => ⟨S2x4x2048x2304x128, .f32⟩
  | 121 => ⟨S2x4x2048x2304x128, .f32⟩
  | 122 => ⟨S_, .f32⟩
  | 123 => ⟨S2x4x2048x128, .f32⟩
  | 124 => ⟨S2x4x2048x1x128, .f32⟩
  | 125 => ⟨S2x4x2048x2304x128, .f32⟩
  | 126 => ⟨S_, .f32⟩
  | 127 => ⟨S2x4x2304x128, .f32⟩
  | _ => ⟨S2x2304x512, .f32⟩

abbrev hbmTy0_1 (i : Nat) : BufTy := match i % 128 with
  | 0 => ⟨S2x4x1x2304x128, .f32⟩
  | 1 => ⟨S_, .f32⟩
  | 2 => ⟨S2x4x2304x128, .f32⟩
  | 3 => ⟨S_, .f32⟩
  | 4 => ⟨S2x4x2048x128, .f32⟩
  | 5 => ⟨S_, .f32⟩
  | 6 => ⟨S2x4x2304x128, .f32⟩
  | 7 => ⟨S2x4x2304x128, .f32⟩
  | 8 => ⟨S2x4x36x64x128, .f32⟩
  | 9 => ⟨S_, .f32⟩
  | 10 => ⟨S2x4x36x128, .f32⟩
  | 11 => ⟨S2x4x36x1x128, .f32⟩
  | 12 => ⟨S_, .f32⟩
  | 13 => ⟨S2x4x36x128, .f32⟩
  | 14 => ⟨S2x4x36x36x128, .f32⟩
  | 15 => ⟨S_, .f32⟩
  | 16 => ⟨S2x4x36x36x128, .f32⟩
  | 17 => ⟨S2x4x36x36x128, .f32⟩
  | 18 => ⟨S_, .f32⟩
  | 19 => ⟨S2x4x36x128, .f32⟩
  | 20 => ⟨S2x4x1x36x128, .f32⟩
  | 21 => ⟨S_, .f32⟩
  | 22 => ⟨S2x4x36x128, .f32⟩
  | 23 => ⟨S2x4x36x1x128, .f32⟩
  | 24 => ⟨S_, .f32⟩
  | 25 => ⟨S2x4x36x64x128, .f32⟩
  | 26 => ⟨S2x4x36x64x128, .f32⟩
  | 27 => ⟨S2x4x2304x128, .f32⟩
  | 28 => ⟨S2x2304x4x128, .f32⟩
  | 29 => ⟨S2x2304x512, .f32⟩
  | 30 => ⟨S2x2304x4x256, .f32⟩
  | 31 => ⟨S2x2304x1024, .f32⟩
  | 32 => ⟨S2x2304x4x128, .f32⟩
  | 33 => ⟨S2x2304x512, .f32⟩
  | 34 => ⟨S2x2304x4x128, .f32⟩
  | 35 => ⟨S2x2304x512, .f32⟩
  | _ => ⟨S2x2304x512, .f32⟩

abbrev hbmTy (i : Nat) : BufTy := match i / 128 with
  | 0 => hbmTy0_0 i
  | 1 => hbmTy0_1 i
  | _ => ⟨S2x2304x512, .f32⟩

abbrev bufTy : (tb : Table) → Fin (tcTables nBuf tb) → BufTy
  | .hbm, ⟨i, _⟩ => hbmTy i
  | _, _ => ⟨S2x2304x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst : Ref sig .tc := ⟨.hbm, 36, rfl⟩
abbrev main_call1_v0 : Ref sig .tc := ⟨.hbm, 37, rfl⟩
abbrev main_v28_1 : Ref sig .tc := ⟨.hbm, 38, rfl⟩
abbrev main_call1_v2 : Ref sig .tc := ⟨.hbm, 39, rfl⟩
abbrev main_call1_v3 : Ref sig .tc := ⟨.hbm, 40, rfl⟩
abbrev main_v28_0 : Ref sig .tc := ⟨.hbm, 41, rfl⟩
abbrev main_call1_cst : Ref sig .tc := ⟨.hbm, 42, rfl⟩
abbrev main_v28_2 : Ref sig .tc := ⟨.hbm, 43, rfl⟩
abbrev main_cst_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_3 : Ref sig .tc := ⟨.hbm, 51, rfl⟩
abbrev main_v35 : Ref sig .tc := ⟨.hbm, 52, rfl⟩
abbrev main_v36 : Ref sig .tc := ⟨.hbm, 53, rfl⟩
abbrev main_c_4 : Ref sig .tc := ⟨.hbm, 54, rfl⟩
abbrev main_v37 : Ref sig .tc := ⟨.hbm, 55, rfl⟩
abbrev main_v38 : Ref sig .tc := ⟨.hbm, 56, rfl⟩
abbrev main_c_5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_6 : Ref sig .tc := ⟨.hbm, 74, rfl⟩
abbrev main_call3_v0 : Ref sig .tc := ⟨.hbm, 75, rfl⟩
abbrev main_v55_1 : Ref sig .tc := ⟨.hbm, 76, rfl⟩
abbrev main_call3_v2 : Ref sig .tc := ⟨.hbm, 77, rfl⟩
abbrev main_v55_0 : Ref sig .tc := ⟨.hbm, 78, rfl⟩
abbrev main_call3_cst : Ref sig .tc := ⟨.hbm, 79, rfl⟩
abbrev main_v55_2 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_7 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_8 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_9 : Ref sig .tc := ⟨.hbm, 110, rfl⟩
abbrev main_v83 : Ref sig .tc := ⟨.hbm, 111, rfl⟩
abbrev main_v84 : Ref sig .tc := ⟨.hbm, 112, rfl⟩
abbrev main_cst_10 : Ref sig .tc := ⟨.hbm, 113, rfl⟩
abbrev main_v85 : Ref sig .tc := ⟨.hbm, 114, rfl⟩
abbrev main_cst_11 : Ref sig .tc := ⟨.hbm, 115, rfl⟩
abbrev main_v86 : Ref sig .tc := ⟨.hbm, 116, rfl⟩
abbrev main_cst_12 : Ref sig .tc := ⟨.hbm, 117, rfl⟩
abbrev main_v87 : Ref sig .tc := ⟨.hbm, 118, rfl⟩
abbrev main_call4_cst : Ref sig .tc := ⟨.hbm, 119, rfl⟩
abbrev main_call4_v0 : Ref sig .tc := ⟨.hbm, 120, rfl⟩
abbrev main_v88 : Ref sig .tc := ⟨.hbm, 121, rfl⟩
abbrev main_cst_13 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_14 : Ref sig .tc := ⟨.hbm, 126, rfl⟩
abbrev main_v92 : Ref sig .tc := ⟨.hbm, 127, rfl⟩
abbrev main_v93 : Ref sig .tc := ⟨.hbm, 128, rfl⟩
abbrev main_cst_15 : Ref sig .tc := ⟨.hbm, 129, rfl⟩
abbrev main_v94 : Ref sig .tc := ⟨.hbm, 130, rfl⟩
abbrev main_cst_16 : Ref sig .tc := ⟨.hbm, 131, rfl⟩
abbrev main_v95 : Ref sig .tc := ⟨.hbm, 132, rfl⟩
abbrev main_cst_17 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_18 : Ref sig .tc := ⟨.hbm, 137, rfl⟩
abbrev main_v99 : Ref sig .tc := ⟨.hbm, 138, rfl⟩
abbrev main_v100 : Ref sig .tc := ⟨.hbm, 139, rfl⟩
abbrev main_cst_19 : Ref sig .tc := ⟨.hbm, 140, rfl⟩
abbrev main_v101 : Ref sig .tc := ⟨.hbm, 141, rfl⟩
abbrev main_v102 : Ref sig .tc := ⟨.hbm, 142, rfl⟩
abbrev main_call5_cst : Ref sig .tc := ⟨.hbm, 143, rfl⟩
abbrev main_call5_v0 : Ref sig .tc := ⟨.hbm, 144, rfl⟩
abbrev main_call5_v1 : Ref sig .tc := ⟨.hbm, 145, rfl⟩
abbrev main_call5_cst_0 : Ref sig .tc := ⟨.hbm, 146, rfl⟩
abbrev main_call5_v2 : Ref sig .tc := ⟨.hbm, 147, rfl⟩
abbrev main_v103 : Ref sig .tc := ⟨.hbm, 148, rfl⟩
abbrev main_cst_20 : Ref sig .tc := ⟨.hbm, 149, rfl⟩
abbrev main_v104 : Ref sig .tc := ⟨.hbm, 150, rfl⟩
abbrev main_v105 : Ref sig .tc := ⟨.hbm, 151, rfl⟩
abbrev main_cst_21 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩

abbrev nD : Nat := 1
abbrev τ : Topo := Topo.v7x

variable {F : FTy → Type} [FloatOps F]
-- ==== Kernel2.lean ====
abbrev S4096x2048 : Shape := ⟨2, ![4096, 2048]⟩
abbrev S4096x1024 : Shape := ⟨2, ![4096, 1024]⟩
abbrev S1024x1024 : Shape := ⟨2, ![1024, 1024]⟩
abbrev S512x1024 : Shape := ⟨2, ![512, 1024]⟩
abbrev S512x2048 : Shape := ⟨2, ![512, 2048]⟩

abbrev nBuf : Space → Nat
  | .hbm => 8
  | .vmem => 17
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S1024x1024, .bf16⟩
  | .hbm, ⟨5, _⟩ => ⟨S4096x1024, .bf16⟩
  | .hbm, ⟨6, _⟩ => ⟨S4096x1024, .bf16⟩
  | .hbm, ⟨7, _⟩ => ⟨S4096x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x2048, .bf16⟩
  | .local _ .vmem, ⟨16, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S4096x2048 : Shape := ⟨2, ![4096, 2048]⟩
abbrev S4096x1024 : Shape := ⟨2, ![4096, 1024]⟩
abbrev S1024x1024 : Shape := ⟨2, ![1024, 1024]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S1024x1024, .bf16⟩
  | .hbm, ⟨5, _⟩ => ⟨S4096x2048, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S1024x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .bf16⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .bf16⟩
  | .hbm, ⟨48, _⟩ => ⟨S4096x1024, .f32⟩
  | .hbm, ⟨49, _⟩ => ⟨S4096x2048, .f32⟩
  | .hbm, ⟨50, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Kernel3.lean ====
abbrev S4608x1024 : Shape := ⟨2, ![4608, 1024]⟩
abbrev S4096x2048 : Shape := ⟨2, ![4096, 2048]⟩
abbrev S1024x2048 : Shape := ⟨2, ![1024, 2048]⟩
abbrev S1x2048 : Shape := ⟨2, ![1, 2048]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 4
  | .vmem => 8
  | .smem => 0
  | _ => 0

abbrev bufTy : (tb : Table) → Fin (tcTables nBuf tb) → BufTy
  | .hbm, ⟨0, _⟩ => ⟨S4608x1024, .bf16⟩
  | .hbm, ⟨1, _⟩ => ⟨S4096x2048, .bf16⟩
  | .hbm, ⟨2, _⟩ => ⟨S1024x2048, .f32⟩
  | .hbm, ⟨3, _⟩ => ⟨S1x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference3Ideal.lean ====
abbrev S4608x1024 : Shape := ⟨2, ![4608, 1024]⟩
abbrev S4096x2048 : Shape := ⟨2, ![4096, 2048]⟩
abbrev S_ : Shape := ⟨0, ![]⟩
abbrev S1024x2048 : Shape := ⟨2, ![1024, 2048]⟩
abbrev S1x2048 : Shape := ⟨2, ![1, 2048]⟩
abbrev S4096x1024 : Shape := ⟨2, ![4096, 1024]⟩
abbrev S2048 : Shape := ⟨1, ![2048]⟩
abbrev S2048x1024 : Shape := ⟨2, ![2048, 1024]⟩

abbrev nBuf : Space → Nat
  | .hbm => 17
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S_, .f32⟩
  | .hbm, ⟨5, _⟩ => ⟨S1x2048, .f32⟩
  | .hbm, ⟨6, _⟩ => ⟨S4096x1024, .bf16⟩
  | .hbm, ⟨7, _⟩ => ⟨S4096x1024, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S2048, .f32⟩
  | .hbm, ⟨14, _⟩ => ⟨S1x2048, .f32⟩
  | .hbm, ⟨15, _⟩ => ⟨S2048x1024, .f32⟩
  | .hbm, ⟨16, _⟩ => ⟨S1024x2048, .f32⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel4.lean ====
abbrev S4608x1024 : Shape := ⟨2, ![4608, 1024]⟩
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 4
  | .vmem => 6
  | .smem => 0
  | _ => 0

abbrev bufTy : (tb : Table) → Fin (tcTables nBuf tb) → BufTy
  | .hbm, ⟨0, _⟩ => ⟨S4608x1024, .bf16⟩
  | .hbm, ⟨1, _⟩ => ⟨S4096x1024, .bf16⟩
  | .hbm, ⟨2, _⟩ => ⟨S1024x1024, .f32⟩
  | .hbm, ⟨3, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1x1024, .f32⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== Reference4Ideal.lean ====
abbrev S4608x1024 : Shape := ⟨2, ![4608, 1024]⟩
abbrev S4096x1024 : Shape := ⟨2, ![4096, 1024]⟩
abbrev S_ : Shape := ⟨0, ![]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 17
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S_, .f32⟩
  | .hbm, ⟨5, _⟩ => ⟨S1x1024, .f32⟩
  | .hbm, ⟨6, _⟩ => ⟨S4096x1024, .bf16⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S1024, .f32⟩
  | .hbm, ⟨14, _⟩ => ⟨S1x1024, .f32⟩
  | .hbm, ⟨15, _⟩ => ⟨S1024x1024, .f32⟩
  | .hbm, ⟨16, _⟩ => ⟨S1024x1024, .f32⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel5.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference5Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4608x1024 : Shape := ⟨2, ![4608, 1024]⟩
abbrev S1024x2048 : Shape := ⟨2, ![1024, 2048]⟩
abbrev S1x2048 : Shape := ⟨2, ![1, 2048]⟩
abbrev S4096x2048 : Shape := ⟨2, ![4096, 2048]⟩
abbrev S1024x1024 : Shape := ⟨2, ![1024, 1024]⟩
abbrev S1x1024 : Shape := ⟨2, ![1, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4608x1024, .bf16⟩
  | .hbm, ⟨1, _⟩ => ⟨S1024x2048, .bf16⟩
  | .hbm, ⟨2, _⟩ => ⟨S1x2048, .f32⟩
  | .hbm, ⟨3, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S4608x1024 : Shape := ⟨2, ![4608, 1024]⟩
abbrev S1024x2048 : Shape := ⟨2, ![1024, 2048]⟩
abbrev S1x2048 : Shape := ⟨2, ![1, 2048]⟩
abbrev S4096x1024 : Shape := ⟨2, ![4096, 1024]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S1024x2048, .bf16⟩
  | .hbm, ⟨2, _⟩ => ⟨S1x2048, .f32⟩
  | .hbm, ⟨3, _⟩ => ⟨S4096x1024, .bf16⟩
  | .hbm, ⟨4, _⟩ => ⟨S4096x1024, .f32⟩
  | .hbm, ⟨5, _⟩ => ⟨S1024x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .bf16⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4608x1024 : Shape := ⟨2, ![4608, 1024]⟩
abbrev S1024x1024 : Shape := ⟨2, ![1024, 1024]⟩
abbrev S1x1024 : Shape := ⟨2, ![1, 1024]⟩
abbrev S4096x1024 : Shape := ⟨2, ![4096, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4608x1024, .bf16⟩
  | .hbm, ⟨1, _⟩ => ⟨S1024x1024, .bf16⟩
  | .hbm, ⟨2, _⟩ => ⟨S1x1024, .f32⟩
  | .hbm, ⟨3, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S4608x1024 : Shape := ⟨2, ![4608, 1024]⟩
abbrev S1024x1024 : Shape := ⟨2, ![1024, 1024]⟩
abbrev S1x1024 : Shape := ⟨2, ![1, 1024]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S1024x1024, .bf16⟩
  | .hbm, ⟨2, _⟩ => ⟨S1x1024, .f32⟩
  | .hbm, ⟨3, _⟩ => ⟨S4096x1024, .bf16⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .bf16⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 10
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .bf16⟩
  | .hbm, ⟨3, _⟩ => ⟨S1024x1024, .bf16⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S1x1024, .f32⟩
  | .hbm, ⟨9, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S1x1024, .f32⟩
  | .local _ .vmem, ⟨14, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference9Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 123
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .bf16⟩
  | .hbm, ⟨3, _⟩ => ⟨S1024x1024, .bf16⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S1024x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .bf16⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S4096x1024, .f32⟩
  | .hbm, ⟨87, _⟩ => ⟨S_, .f32⟩
  | .hbm, ⟨88, _⟩ => ⟨S1024, .f32⟩
  | .hbm, ⟨89, _⟩ => ⟨S1x1024, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S_, .f32⟩
  | .hbm, ⟨94, _⟩ => ⟨S4096, .f32⟩
  | .hbm, ⟨95, _⟩ => ⟨S4096x1, .f32⟩
  | .hbm, ⟨96, _⟩ => ⟨S4096x1024, .f32⟩
  | .hbm, ⟨97, _⟩ => ⟨S4096x1024, .f32⟩
  | .hbm, ⟨98, _⟩ => ⟨S4096x1, .f32⟩
  | .hbm, ⟨99, _⟩ => ⟨S4096x1024, .f32⟩
  | .hbm, ⟨100, _⟩ => ⟨S_, .f32⟩
  | .hbm, ⟨101, _⟩ => ⟨S4096, .f32⟩
  | .hbm, ⟨102, _⟩ => ⟨S4096x1, .f32⟩
  | .hbm, ⟨103, _⟩ => ⟨S_, .f32⟩
  | .hbm, ⟨104, _⟩ => ⟨S4096x1, .f32⟩
  | .hbm, ⟨105, _⟩ => ⟨S4096x1, .f32⟩
  | .hbm, ⟨106, _⟩ => ⟨S_, .f32⟩
  | .hbm, ⟨107, _⟩ => ⟨S4096, .f32⟩
  | .hbm, ⟨108, _⟩ => ⟨S4096x1024, .f32⟩
  | .hbm, ⟨109, _⟩ => ⟨S4096x1024, .f32⟩
  | .hbm, ⟨110, _⟩ => ⟨S4096x1024, .f32⟩
  | .hbm, ⟨111, _⟩ => ⟨S_, .f32⟩
  | .hbm, ⟨112, _⟩ => ⟨S4096, .f32⟩
  | .hbm, ⟨113, _⟩ => ⟨S4096x1, .f32⟩
  | .hbm, ⟨114, _⟩ => ⟨S4096x1024, .f32⟩
  | .hbm, ⟨115, _⟩ => ⟨S4096x1, .f32⟩
  | .hbm, ⟨116, _⟩ => ⟨S_, .f32⟩
  | .hbm, ⟨117, _⟩ => ⟨S4096x1, .f32⟩
  | .hbm, ⟨118, _⟩ => ⟨S4096x1, .f32⟩
  | .hbm, ⟨119, _⟩ => ⟨S_, .f32⟩
  | .hbm, ⟨120, _⟩ => ⟨S4096, .f32⟩
  | .hbm, ⟨121, _⟩ => ⟨S4096x1024, .f32⟩
  | .hbm, ⟨122, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_v27_2 : Ref sig .tc := ⟨.hbm, 47, rfl⟩
abbrev main_call0_cst_1 : Ref sig .tc := ⟨.hbm, 48, rfl⟩
abbrev main_call0_v6 : Ref sig .tc := ⟨.hbm, 49, rfl⟩
abbrev main_call0_v7 : Ref sig .tc := ⟨.hbm, 50, rfl⟩
abbrev main_v27_1 : Ref sig .tc := ⟨.hbm, 51, rfl⟩
abbrev main_v27_0 : Ref sig .tc := ⟨.hbm, 52, rfl⟩
abbrev main_v28 : Ref sig .tc := ⟨.hbm, 53, rfl⟩
abbrev main_call1_v0 : Ref sig .tc := ⟨.hbm, 54, rfl⟩
abbrev main_call1_v1 : Ref sig .tc := ⟨.hbm, 55, rfl⟩
abbrev main_call1_cst : Ref sig .tc := ⟨.hbm, 56, rfl⟩
abbrev main_call1_v2 : Ref sig .tc := ⟨.hbm, 57, rfl⟩
abbrev main_call1_v3 : Ref sig .tc := ⟨.hbm, 58, rfl⟩
abbrev main_call1_cst_0 : Ref sig .tc := ⟨.hbm, 59, rfl⟩
abbrev main_call1_v4 : Ref sig .tc := ⟨.hbm, 60, rfl⟩
abbrev main_v29_2 : Ref sig .tc := ⟨.hbm, 61, rfl⟩
abbrev main_call1_cst_1 : Ref sig .tc := ⟨.hbm, 62, rfl⟩
abbrev main_call1_v6 : Ref sig .tc := ⟨.hbm, 63, rfl⟩
abbrev main_call1_v7 : Ref sig .tc := ⟨.hbm, 64, rfl⟩
abbrev main_v29_1 : Ref sig .tc := ⟨.hbm, 65, rfl⟩
abbrev main_v29_0 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_v37 : Ref sig .tc := ⟨.hbm, 77, rfl⟩
abbrev main_v38 : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_v39 : Ref sig .tc := ⟨.hbm, 82, rfl⟩
abbrev main_cst_6 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_7 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_cst_8 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_cst_9 : Ref sig .tc := ⟨.hbm, 100, rfl⟩
abbrev main_v54 : Ref sig .tc := ⟨.hbm, 101, rfl⟩
abbrev main_v55 : Ref sig .tc := ⟨.hbm, 102, rfl⟩
abbrev main_cst_10 : Ref sig .tc := ⟨.hbm, 103, rfl⟩
abbrev main_v56 : Ref sig .tc := ⟨.hbm, 104, rfl⟩
abbrev main_v57 : Ref sig .tc := ⟨.hbm, 105, rfl⟩
abbrev main_cst_11 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_cst_12 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_cst_13 : Ref sig .tc := ⟨.hbm, 116, rfl⟩
abbrev main_v66 : Ref sig .tc := ⟨.hbm, 117, rfl⟩
abbrev main_v67 : Ref sig .tc := ⟨.hbm, 118, rfl⟩
abbrev main_cst_14 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩

abbrev nD : Nat := 1
abbrev τ : Topo := Topo.v7x

variable {F : FTy → Type} [FloatOps F]
-- ==== Kernel10.lean ====
abbrev S2x2048x1024 : Shape := ⟨3, ![2, 2048, 1024]⟩
abbrev S4096x1024 : Shape := ⟨2, ![4096, 1024]⟩
abbrev S1024x1024 : Shape := ⟨2, ![1024, 1024]⟩
abbrev S1x256 : Shape := ⟨2, ![1, 256]⟩
abbrev S1x256x1024 : Shape := ⟨3, ![1, 256, 1024]⟩
abbrev S256x1024 : Shape := ⟨2, ![256, 1024]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩

abbrev nBuf : Space → Nat
  | .hbm => 9
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S4096x1024, .bf16⟩
  | .hbm, ⟨3, _⟩ => ⟨S4096x1024, .bf16⟩
  | .hbm, ⟨4, _⟩ => ⟨S1024x1024, .bf16⟩
  | .hbm, ⟨5, _⟩ => ⟨S1x256, .f32⟩
  | .hbm, ⟨6, _⟩ => ⟨S2x2048x1024, .f32⟩
  | .hbm, ⟨7, _⟩ => ⟨S4096x1024, .bf16⟩
  | .hbm, ⟨8, _⟩ => ⟨S1x256, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S1024x1024, .bf16⟩
  | .local _ .vmem, ⟨9, _⟩ => ⟨S1x256, .f32⟩
  | .local _ .vmem, ⟨10, _⟩ => ⟨S1x256x1024, .f32⟩
  | .local _ .vmem, ⟨11, _⟩ => ⟨S1x256x1024, .f32⟩
  | .local _ .vmem, ⟨12, _⟩ => ⟨S256x1024, .bf16⟩
  | .local _ .vmem, ⟨13, _⟩ => ⟨S256x1024, .bf16⟩
  | .local _ .vmem, ⟨14, _⟩ => ⟨S1x256, .f32⟩
  | .local _ .vmem, ⟨15, _⟩ => ⟨S256x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference10Ideal.lean ====
abbrev S2x2048x1024 : Shape := ⟨3, ![2, 2048, 1024]⟩
abbrev S4096x1024 : Shape := ⟨2, ![4096, 1024]⟩
abbrev S1024x1024 : Shape := ⟨2, ![1024, 1024]⟩
abbrev S1x256 : Shape := ⟨2, ![1, 256]⟩
abbrev S4096x4x256 : Shape := ⟨3, ![4096, 4, 256]⟩
abbrev S_ : Shape := ⟨0, ![]⟩
abbrev S4096x4 : Shape := ⟨2, ![4096, 4]⟩
abbrev S4096x4x1 : Shape := ⟨3, ![4096, 4, 1]⟩
abbrev S1x1x256 : Shape := ⟨3, ![1, 1, 256]⟩
abbrev S256 : Shape := ⟨1, ![256]⟩

abbrev nBuf : Space → Nat
  | .hbm => 83
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S4096x1024, .bf16⟩
  | .hbm, ⟨3, _⟩ => ⟨S4096x1024, .bf16⟩
  | .hbm, ⟨4, _⟩ => ⟨S1024x1024, .bf16⟩
  | .hbm, ⟨5, _⟩ => ⟨S1x256, .f32⟩
  | .hbm, ⟨6, _⟩ => ⟨S2x2048x1024, .f32⟩
  | .hbm, ⟨7, _⟩ => ⟨S4096x4x256, .f32⟩
  | .hbm, ⟨8, _⟩ => ⟨S4096x4x256, .f32⟩
  | .hbm, ⟨9, _⟩ => ⟨S_, .f32⟩
  | .hbm, ⟨10, _⟩ => ⟨S4096x4, .f32⟩
  | .hbm, ⟨11, _⟩ => ⟨S4096x4x1, .f32⟩
  | .hbm, ⟨12, _⟩ => ⟨S_, .f32⟩
  | .hbm, ⟨13, _⟩ => ⟨S4096x4x1, .f32⟩
  | .hbm, ⟨14, _⟩ => ⟨S4096x4x1, .f32⟩
  | .hbm, ⟨15, _⟩ => ⟨S_, .f32⟩
  | .hbm, ⟨16, _⟩ => ⟨S4096x4x1, .f32⟩
  | .hbm, ⟨17, _⟩ => ⟨S4096x4x1, .f32⟩
  | .hbm, ⟨18, _⟩ => ⟨S4096x4x1, .f32⟩
  | .hbm, ⟨19, _⟩ => ⟨S4096x4x1, .f32⟩
  | .hbm, ⟨20, _⟩ => ⟨S_, .f32⟩
  | .hbm, ⟨21, _⟩ => ⟨S4096x4x1, .f32⟩
  | .hbm, ⟨22, _⟩ => ⟨S4096x4x1, .f32⟩
  | .hbm, ⟨23, _⟩ => ⟨S4096x4x256, .f32⟩
  | .hbm, ⟨24, _⟩ => ⟨S4096x4x256, .f32⟩
  | .hbm, ⟨25, _⟩ => ⟨S1x1x256, .f32⟩
  | .hbm, ⟨26, _⟩ => ⟨S4096x4x256, .f32⟩
  | .hbm, ⟨27, _⟩ => ⟨S4096x4x256, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S1024x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .bf16⟩
  | .hbm, ⟨55, _⟩ => ⟨S4096x4x256, .f32⟩
  | .hbm, ⟨56, _⟩ => ⟨S4096x4x256, .f32⟩
  | .hbm, ⟨57, _⟩ => ⟨S_, .f32⟩
  | .hbm, ⟨58, _⟩ => ⟨S256, .f32⟩
  | .hbm, ⟨59, _⟩ => ⟨S1x1x256, .f32⟩
  | .hbm, ⟨60, _⟩ => ⟨S4096x4x256, .f32⟩
  | .hbm, ⟨61, _⟩ => ⟨S4096x4x256, .f32⟩
  | .hbm, ⟨62, _⟩ => ⟨S_, .f32⟩
  | .hbm, ⟨63, _⟩ => ⟨S256, .f32⟩
  | .hbm, ⟨64, _⟩ => ⟨S1x256, .f32⟩
  | .hbm, ⟨65, _⟩ => ⟨S4096x4x256, .f32⟩
  | .hbm, ⟨66, _⟩ => ⟨S_, .f32⟩
  | .hbm, ⟨67, _⟩ => ⟨S4096x4, .f32⟩
  | .hbm, ⟨68, _⟩ => ⟨S4096x4x1, .f32⟩
  | .hbm, ⟨69, _⟩ => ⟨S4096x4x256, .f32⟩
  | .hbm, ⟨70, _⟩ => ⟨S4096x4x256, .f32⟩
  | .hbm, ⟨71, _⟩ => ⟨S4096x4x1, .f32⟩
  | .hbm, ⟨72, _⟩ => ⟨S_, .f32⟩
  | .hbm, ⟨73, _⟩ => ⟨S4096x4x1, .f32⟩
  | .hbm, ⟨74, _⟩ => ⟨S4096x4x1, .f32⟩
  | .hbm, ⟨75, _⟩ => ⟨S_, .f32⟩
  | .hbm, ⟨76, _⟩ => ⟨S4096x4, .f32⟩
  | .hbm, ⟨77, _⟩ => ⟨S4096x4x256, .f32⟩
  | .hbm, ⟨78, _⟩ => ⟨S4096x4x256, .f32⟩
  | .hbm, ⟨79, _⟩ => ⟨S4096x4x256, .f32⟩
  | .hbm, ⟨80, _⟩ => ⟨S4096x4x256, .f32⟩
  | .hbm, ⟨81, _⟩ => ⟨S4096x4x256, .f32⟩
  | .hbm, ⟨82, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v20_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v20_1 : Ref sig .tc := ⟨.hbm, 41, rfl⟩
abbrev main_v20_0 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_3 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_4 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_5 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_6 : Ref sig .tc := ⟨.hbm, 72, rfl⟩
abbrev main_v44 : Ref sig .tc := ⟨.hbm, 73, rfl⟩
abbrev main_v45 : Ref sig .tc := ⟨.hbm, 74, rfl⟩
abbrev main_cst_7 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩

abbrev nD : Nat := 1
abbrev τ : Topo := Topo.v7x

variable {F : FTy → Type} [FloatOps F]
-- ==== Kernel11.lean ====
abbrev S4096x2048 : Shape := ⟨2, ![4096, 2048]⟩
abbrev S4096x1024 : Shape := ⟨2, ![4096, 1024]⟩
abbrev S1024x1024 : Shape := ⟨2, ![1024, 1024]⟩
abbrev S2x1x1024 : Shape := ⟨3, ![2, 1, 1024]⟩
abbrev S1x1024 : Shape := ⟨2, ![1, 1024]⟩
abbrev S8x128 : Shape := ⟨2, ![8, 128]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 14
  | .vmem => 26
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x1024, .bf16⟩
  | .hbm, ⟨3, _⟩ => ⟨S1024x1024, .bf16⟩
  | .hbm, ⟨4, _⟩ => ⟨S4096x1024, .f32⟩
  | .hbm, ⟨5, _⟩ => ⟨S2x1x1024, .f32⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S4096x1024, .f32⟩
  | .hbm, ⟨10, _⟩ => ⟨S4096x1024, .bf16⟩
  | .hbm, ⟨11, _⟩ => ⟨S2x1x1024, .f32⟩
  | .hbm, ⟨12, _⟩ => ⟨S1x1024, .f32⟩
  | .hbm, ⟨13, _⟩ => ⟨S8x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S1x1x1024, .f32⟩
  | .local _ .vmem, ⟨23, _⟩ => ⟨S1x1x1024, .f32⟩
  | .local _ .vmem, ⟨24, _⟩ => ⟨S1x1024, .f32⟩
  | .local _ .vmem, ⟨25, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== Reference11Ideal.lean ====
abbrev S4096x2048 : Shape := ⟨2, ![4096, 2048]⟩
abbrev S4096x1024 : Shape := ⟨2, ![4096, 1024]⟩
abbrev S1024x1024 : Shape := ⟨2, ![1024, 1024]⟩
abbrev S2x1x1024 : Shape := ⟨3, ![2, 1, 1024]⟩
abbrev S1x1024 : Shape := ⟨2, ![1, 1024]⟩
abbrev S_ : Shape := ⟨0, ![]⟩
abbrev S2x2048x1024 : Shape := ⟨3, ![2, 2048, 1024]⟩
abbrev S2x2048 : Shape := ⟨2, ![2, 2048]⟩
abbrev S2x2048x1 : Shape := ⟨3, ![2, 2048, 1]⟩
abbrev S1x1x1024 : Shape := ⟨3, ![1, 1, 1024]⟩
abbrev S1024 : Shape := ⟨1, ![1024]⟩
abbrev S2x1024 : Shape := ⟨2, ![2, 1024]⟩
abbrev S8x128 : Shape := ⟨2, ![8, 128]⟩

abbrev nBuf : Space → Nat
  | .hbm => 121
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x1024, .bf16⟩
  | .hbm, ⟨3, _⟩ => ⟨S1024x1024, .bf16⟩
  | .hbm, ⟨4, _⟩ => ⟨S4096x1024, .f32⟩
  | .hbm, ⟨5, _⟩ => ⟨S2x1x1024, .f32⟩
  | .hbm, ⟨6, _⟩ => ⟨S1x1024, .f32⟩
  | .hbm, ⟨7, _⟩ => ⟨S4096x1024, .f32⟩
  | .hbm, ⟨8, _⟩ => ⟨S4096x2048, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .bf16⟩
  | .hbm, ⟨33, _⟩ => ⟨S4096x1024, .f32⟩
  | .hbm, ⟨34, _⟩ => ⟨S1024x1024, .f32⟩
  | .hbm, ⟨35, _⟩ => ⟨S4096x1024, .f32⟩
  | .hbm, ⟨36, _⟩ => ⟨S2x2048x1024, .f32⟩
  | .hbm, ⟨37, _⟩ => ⟨S2x2048x1024, .f32⟩
  | .hbm, ⟨38, _⟩ => ⟨S2x2048x1024, .f32⟩
  | .hbm, ⟨39, _⟩ => ⟨S2x2048x1024, .f32⟩
  | .hbm, ⟨40, _⟩ => ⟨S2x2048x1024, .f32⟩
  | .hbm, ⟨41, _⟩ => ⟨S2x2048x1024, .f32⟩
  | .hbm, ⟨42, _⟩ => ⟨S_, .f32⟩
  | .hbm, ⟨43, _⟩ => ⟨S2x2048, .f32⟩
  | .hbm, ⟨44, _⟩ => ⟨S2x2048x1, .f32⟩
  | .hbm, ⟨45, _⟩ => ⟨S_, .f32⟩
  | .hbm, ⟨46, _⟩ => ⟨S2x2048x1, .f32⟩
  | .hbm, ⟨47, _⟩ => ⟨S2x2048x1, .f32⟩
  | .hbm, ⟨48, _⟩ => ⟨S_, .f32⟩
  | .hbm, ⟨49, _⟩ => ⟨S2x2048x1, .f32⟩
  | .hbm, ⟨50, _⟩ => ⟨S2x2048x1, .f32⟩
  | .hbm, ⟨51, _⟩ => ⟨S2x2048x1, .f32⟩
  | .hbm, ⟨52, _⟩ => ⟨S2x2048x1, .f32⟩
  | .hbm, ⟨53, _⟩ => ⟨S_, .f32⟩
  | .hbm, ⟨54, _⟩ => ⟨S2x2048x1, .f32⟩
  | .hbm, ⟨55, _⟩ => ⟨S2x2048x1, .f32⟩
  | .hbm, ⟨56, _⟩ => ⟨S2x2048x1024, .f32⟩
  | .hbm, ⟨57, _⟩ => ⟨S2x2048x1024, .f32⟩
  | .hbm, ⟨58, _⟩ => ⟨S1x1x1024, .f32⟩
  | .hbm, ⟨59, _⟩ => ⟨S2x2048x1024, .f32⟩
  | .hbm, ⟨60, _⟩ => ⟨S2x2048x1024, .f32⟩
  | .hbm, ⟨61, _⟩ => ⟨S2x2048x1024, .f32⟩
  | .hbm, ⟨62, _⟩ => ⟨S2x2048x1024, .f32⟩
  | .hbm, ⟨63, _⟩ => ⟨S2x2048x1024, .f32⟩
  | .hbm, ⟨64, _⟩ => ⟨S_, .f32⟩
  | .hbm, ⟨65, _⟩ => ⟨S2x2048x1024, .f32⟩
  | .hbm, ⟨66, _⟩ => ⟨S2x2048x1024, .f32⟩
  | .hbm, ⟨67, _⟩ => ⟨S_, .f32⟩
  | .hbm, ⟨68, _⟩ => ⟨S2x2048, .f32⟩
  | .hbm, ⟨69, _⟩ => ⟨S_, .f32⟩
  | .hbm, ⟨70, _⟩ => ⟨S2x2048, .f32⟩
  | .hbm, ⟨71, _⟩ => ⟨S2x2048, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S2x2048, .f32⟩
  | .hbm, ⟨80, _⟩ => ⟨S_, .f32⟩
  | .hbm, ⟨81, _⟩ => ⟨S2x2048, .f32⟩
  | .hbm, ⟨82, _⟩ => ⟨S2x2048, .f32⟩
  | .hbm, ⟨83, _⟩ => ⟨S2x2048x1024, .f32⟩
  | .hbm, ⟨84, _⟩ => ⟨S2x2048x1024, .f32⟩
  | .hbm, ⟨85, _⟩ => ⟨S2x2048x1024, .f32⟩
  | .hbm, ⟨86, _⟩ => ⟨S_, .f32⟩
  | .hbm, ⟨87, _⟩ => ⟨S1024, .f32⟩
  | .hbm, ⟨88, _⟩ => ⟨S1x1x1024, .f32⟩
  | .hbm, ⟨89, _⟩ => ⟨S2x2048x1024, .f32⟩
  | .hbm, ⟨90, _⟩ => ⟨S2x2048x1024, .f32⟩
  | .hbm, ⟨91, _⟩ => ⟨S_, .f32⟩
  | .hbm, ⟨92, _⟩ => ⟨S1024, .f32⟩
  | .hbm, ⟨93, _⟩ => ⟨S1x1024, .f32⟩
  | .hbm, ⟨94, _⟩ => ⟨S2x2048x1024, .f32⟩
  | .hbm, ⟨95, _⟩ => ⟨S_, .f32⟩
  | .hbm, ⟨96, _⟩ => ⟨S2x2048, .f32⟩
  | .hbm, ⟨97, _⟩ => ⟨S2x2048x1, .f32⟩
  | .hbm, ⟨98, _⟩ => ⟨S2x2048x1024, .f32⟩
  | .hbm, ⟨99, _⟩ => ⟨S2x2048x1024, .f32⟩
  | .hbm, ⟨100, _⟩ => ⟨S2x2048x1, .f32⟩
  | .hbm, ⟨101, _⟩ => ⟨S_, .f32⟩
  | .hbm, ⟨102, _⟩ => ⟨S2x2048x1, .f32⟩
  | .hbm, ⟨103, _⟩ => ⟨S2x2048x1, .f32⟩
  | .hbm, ⟨104, _⟩ => ⟨S_, .f32⟩
  | .hbm, ⟨105, _⟩ => ⟨S2x2048, .f32⟩
  | .hbm, ⟨106, _⟩ => ⟨S2x2048x1024, .f32⟩
  | .hbm, ⟨107, _⟩ => ⟨S2x2048x1024, .f32⟩
  | .hbm, ⟨108, _⟩ => ⟨S2x2048x1024, .f32⟩
  | .hbm, ⟨109, _⟩ => ⟨S2x2048x1024, .f32⟩
  | .hbm, ⟨110, _⟩ => ⟨S2x2048x1024, .f32⟩
  | .hbm, ⟨111, _⟩ => ⟨S2x2048x1024, .f32⟩
  | .hbm, ⟨112, _⟩ => ⟨S2x2048x1024, .f32⟩
  | .hbm, ⟨113, _⟩ => ⟨S2x2048x1024, .f32⟩
  | .hbm, ⟨114, _⟩ => ⟨S_, .f32⟩
  | .hbm, ⟨115, _⟩ => ⟨S2x1024, .f32⟩
  | .hbm, ⟨116, _⟩ => ⟨S2x1x1024, .f32⟩
  | .hbm, ⟨117, _⟩ => ⟨S4096x1024, .f32⟩
  | .hbm, ⟨118, _⟩ => ⟨S4096x1024, .f32⟩
  | .hbm, ⟨119, _⟩ => ⟨S4096x1024, .bf16⟩
  | .hbm, ⟨120, _⟩ => ⟨S8x128, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_cst_11 : Ref sig .tc := ⟨.hbm, 74, rfl⟩
abbrev main_v54 : Ref sig .tc := ⟨.hbm, 75, rfl⟩
abbrev main_cst_12 : Ref sig .tc := ⟨.hbm, 76, rfl⟩
abbrev main_cst_13 : Ref sig .tc := ⟨.hbm, 77, rfl⟩
abbrev main_v55 : Ref sig .tc := ⟨.hbm, 78, rfl⟩
abbrev main_v56 : Ref sig .tc := ⟨.hbm, 79, rfl⟩
abbrev main_cst_14 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_15 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_16 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_17 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_18 : Ref sig .tc := ⟨.hbm, 101, rfl⟩
abbrev main_v74 : Ref sig .tc := ⟨.hbm, 102, rfl⟩
abbrev main_v75 : Ref sig .tc := ⟨.hbm, 103, rfl⟩
abbrev main_cst_19 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_20 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩

abbrev nD : Nat := 1
abbrev τ : Topo := Topo.v7x

variable {F : FTy → Type} [FloatOps F]
-- ==== Kernel12.lean ====
abbrev S1x2056x1024 : Shape := ⟨3, ![1, 2056, 1024]⟩
abbrev S1x2056x128 : Shape := ⟨3, ![1, 2056, 128]⟩

abbrev nBuf : Space → Nat
  | .hbm => 7
  | .vmem => 14
  | .smem => 0
  | _ => 0

abbrev bufTy : (tb : Table) → Fin (tcTables nBuf tb) → BufTy
  | .hbm, ⟨0, _⟩ => ⟨S1x2056x1024, .f32⟩
  | .hbm, ⟨1, _⟩ => ⟨S1x2056x1024, .f32⟩
  | .hbm, ⟨2, _⟩ => ⟨S1x2056x1024, .f32⟩
  | .hbm, ⟨3, _⟩ => ⟨S1x2056x1024, .f32⟩
  | .hbm, ⟨4, _⟩ => ⟨S1x2056x1024, .f32⟩
  | .hbm, ⟨5, _⟩ => ⟨S1x2056x1024, .f32⟩
  | .hbm, ⟨6, _⟩ => ⟨S1x2056x1024, .f32⟩
  | .local _ .vmem, ⟨0, _⟩ => ⟨S1x2056x128, .f32⟩
  | .local _ .vmem, ⟨1, _⟩ => ⟨S1x2056x128, .f32⟩
  | .local _ .vmem, ⟨2, _⟩ => ⟨S1x2056x128, .f32⟩
  | .local _ .vmem, ⟨3, _⟩ => ⟨S1x2056x128, .f32⟩
  | .local _ .vmem, ⟨4, _⟩ => ⟨S1x2056x128, .f32⟩
  | .local _ .vmem, ⟨5, _⟩ => ⟨S1x2056x128, .f32⟩
  | .local _ .vmem, ⟨6, _⟩ => ⟨S1x2056x128, .f32⟩
  | .local _ .vmem, ⟨7, _⟩ => ⟨S1x2056x128, .f32⟩
  | .local _ .vmem, ⟨8, _⟩ => ⟨S1x2056x128, .f32⟩
  | .local _ .vmem, ⟨9, _⟩ => ⟨S1x2056x128, .f32⟩
  | .local _ .vmem, ⟨10, _⟩ => ⟨S1x2056x128, .f32⟩
  | .local _ .vmem, ⟨11, _⟩ => ⟨S1x2056x128, .f32⟩
  | .local _ .vmem, ⟨12, _⟩ => ⟨S1x2056x128, .f32⟩
  | .local _ .vmem, ⟨13, _⟩ => ⟨S1x2056x128, .f32⟩
  | _, _ => ⟨S1x2056x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1x2056x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2056x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2056x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2056x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2056x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2056x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2056x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference12Ideal.lean ====
abbrev S1x2056x1024 : Shape := ⟨3, ![1, 2056, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2056x1024, .f32⟩
  | .hbm, ⟨1, _⟩ => ⟨S1x2056x1024, .f32⟩
  | .hbm, ⟨2, _⟩ => ⟨S1x2056x1024, .f32⟩
  | .hbm, ⟨3, _⟩ => ⟨S1x2056x1024, .f32⟩
  | .hbm, ⟨4, _⟩ => ⟨S_, .f32⟩
  | .hbm, ⟨5, _⟩ => ⟨S1x2056x1024, .f32⟩
  | .hbm, ⟨6, _⟩ => ⟨S1x2056x1024, .f32⟩
  | .hbm, ⟨7, _⟩ => ⟨S_, .f32⟩
  | .hbm, ⟨8, _⟩ => ⟨S1x2056x1024, .f32⟩
  | .hbm, ⟨9, _⟩ => ⟨S1x2056x1024, .f32⟩
  | .hbm, ⟨10, _⟩ => ⟨S1x2056x1024, .f32⟩
  | .hbm, ⟨11, _⟩ => ⟨S_, .f32⟩
  | .hbm, ⟨12, _⟩ => ⟨S1x2056x1024, .f32⟩
  | .hbm, ⟨13, _⟩ => ⟨S1x2056x1024, .f32⟩
  | .hbm, ⟨14, _⟩ => ⟨S1x2056x1024, .f32⟩
  | .hbm, ⟨15, _⟩ => ⟨S_, .f32⟩
  | .hbm, ⟨16, _⟩ => ⟨S1x2056x1024, .f32⟩
  | .hbm, ⟨17, _⟩ => ⟨S1x2056x1024, .f32⟩
  | .hbm, ⟨18, _⟩ => ⟨S1x2056x1024, .f32⟩
  | .hbm, ⟨19, _⟩ => ⟨S_, .f32⟩
  | .hbm, ⟨20, _⟩ => ⟨S1x2056x1024, .f32⟩
  | .hbm, ⟨21, _⟩ => ⟨S1x2056x1024, .f32⟩
  | .hbm, ⟨22, _⟩ => ⟨S_, .f32⟩
  | .hbm, ⟨23, _⟩ => ⟨S1x2056x1024, .f32⟩
  | .hbm, ⟨24, _⟩ => ⟨S1x2056x1024, .f32⟩
  | .hbm, ⟨25, _⟩ => ⟨S1x2056x1024, .f32⟩
  | .hbm, ⟨26, _⟩ => ⟨S_, .f32⟩
  | .hbm, ⟨27, _⟩ => ⟨S1x2056x1024, .f32⟩
  | .hbm, ⟨28, _⟩ => ⟨S1x2056x1024, .f32⟩
  | .hbm, ⟨29, _⟩ => ⟨S1x2056x1024, .f32⟩
  | .hbm, ⟨30, _⟩ => ⟨S_, .f32⟩
  | .hbm, ⟨31, _⟩ => ⟨S1x2056x1024, .f32⟩
  | .hbm, ⟨32, _⟩ => ⟨S1x2056x1024, .f32⟩
  | .hbm, ⟨33, _⟩ => ⟨S1x2056x1024, .f32⟩
  | .hbm, ⟨34, _⟩ => ⟨S_, .f32⟩
  | .hbm, ⟨35, _⟩ => ⟨S1x2056x1024, .f32⟩
  | .hbm, ⟨36, _⟩ => ⟨S1x2056x1024, .f32⟩
  | _, _ => ⟨S1x2056x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S1x1024x768 : Shape := ⟨3, ![1, 1024, 768]⟩
abbrev S1x128x768 : Shape := ⟨3, ![1, 128, 768]⟩

abbrev nBuf : Space → Nat
  | .hbm => 7
  | .vmem => 14
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S1x1024x768, .f32⟩
  | .hbm, ⟨5, _⟩ => ⟨S1x1024x768, .f32⟩
  | .hbm, ⟨6, _⟩ => ⟨S1x1024x768, .f32⟩
  | .local _ .vmem, ⟨0, _⟩ => ⟨S1x128x768, .f32⟩
  | .local _ .vmem, ⟨1, _⟩ => ⟨S1x128x768, .f32⟩
  | .local _ .vmem, ⟨2, _⟩ => ⟨S1x128x768, .f32⟩
  | .local _ .vmem, ⟨3, _⟩ => ⟨S1x128x768, .f32⟩
  | .local _ .vmem, ⟨4, _⟩ => ⟨S1x128x768, .f32⟩
  | .local _ .vmem, ⟨5, _⟩ => ⟨S1x128x768, .f32⟩
  | .local _ .vmem, ⟨6, _⟩ => ⟨S1x128x768, .f32⟩
  | .local _ .vmem, ⟨7, _⟩ => ⟨S1x128x768, .f32⟩
  | .local _ .vmem, ⟨8, _⟩ => ⟨S1x128x768, .f32⟩
  | .local _ .vmem, ⟨9, _⟩ => ⟨S1x128x768, .f32⟩
  | .local _ .vmem, ⟨10, _⟩ => ⟨S1x128x768, .f32⟩
  | .local _ .vmem, ⟨11, _⟩ => ⟨S1x128x768, .f32⟩
  | .local _ .vmem, ⟨12, _⟩ => ⟨S1x128x768, .f32⟩
  | .local _ .vmem, ⟨13, _⟩ => ⟨S1x128x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1x128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference13Ideal.lean ====
abbrev S1x1024x768 : Shape := ⟨3, ![1, 1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S_, .f32⟩
  | .hbm, ⟨5, _⟩ => ⟨S1x1024x768, .f32⟩
  | .hbm, ⟨6, _⟩ => ⟨S1x1024x768, .f32⟩
  | .hbm, ⟨7, _⟩ => ⟨S_, .f32⟩
  | .hbm, ⟨8, _⟩ => ⟨S1x1024x768, .f32⟩
  | .hbm, ⟨9, _⟩ => ⟨S1x1024x768, .f32⟩
  | .hbm, ⟨10, _⟩ => ⟨S1x1024x768, .f32⟩
  | .hbm, ⟨11, _⟩ => ⟨S_, .f32⟩
  | .hbm, ⟨12, _⟩ => ⟨S1x1024x768, .f32⟩
  | .hbm, ⟨13, _⟩ => ⟨S1x1024x768, .f32⟩
  | .hbm, ⟨14, _⟩ => ⟨S1x1024x768, .f32⟩
  | .hbm, ⟨15, _⟩ => ⟨S_, .f32⟩
  | .hbm, ⟨16, _⟩ => ⟨S1x1024x768, .f32⟩
  | .hbm, ⟨17, _⟩ => ⟨S1x1024x768, .f32⟩
  | .hbm, ⟨18, _⟩ => ⟨S1x1024x768, .f32⟩
  | .hbm, ⟨19, _⟩ => ⟨S_, .f32⟩
  | .hbm, ⟨20, _⟩ => ⟨S1x1024x768, .f32⟩
  | .hbm, ⟨21, _⟩ => ⟨S1x1024x768, .f32⟩
  | .hbm, ⟨22, _⟩ => ⟨S_, .f32⟩
  | .hbm, ⟨23, _⟩ => ⟨S1x1024x768, .f32⟩
  | .hbm, ⟨24, _⟩ => ⟨S1x1024x768, .f32⟩
  | .hbm, ⟨25, _⟩ => ⟨S1x1024x768, .f32⟩
  | .hbm, ⟨26, _⟩ => ⟨S_, .f32⟩
  | .hbm, ⟨27, _⟩ => ⟨S1x1024x768, .f32⟩
  | .hbm, ⟨28, _⟩ => ⟨S1x1024x768, .f32⟩
  | .hbm, ⟨29, _⟩ => ⟨S1x1024x768, .f32⟩
  | .hbm, ⟨30, _⟩ => ⟨S_, .f32⟩
  | .hbm, ⟨31, _⟩ => ⟨S1x1024x768, .f32⟩
  | .hbm, ⟨32, _⟩ => ⟨S1x1024x768, .f32⟩
  | .hbm, ⟨33, _⟩ => ⟨S1x1024x768, .f32⟩
  | .hbm, ⟨34, _⟩ => ⟨S_, .f32⟩
  | .hbm, ⟨35, _⟩ => ⟨S1x1024x768, .f32⟩
  | .hbm, ⟨36, _⟩ => ⟨S1x1024x768, .f32⟩
  | _, _ => ⟨S1x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S1x256x1024 : Shape := ⟨3, ![1, 256, 1024]⟩
abbrev S1x128x1024 : Shape := ⟨3, ![1, 128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference14Ideal.lean ====
abbrev S1x256x1024 : Shape := ⟨3, ![1, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S_, .f32⟩
  | .hbm, ⟨5, _⟩ => ⟨S1x256x1024, .f32⟩
  | .hbm, ⟨6, _⟩ => ⟨S1x256x1024, .f32⟩
  | .hbm, ⟨7, _⟩ => ⟨S_, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S_, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S_, .f32⟩
  | .hbm, ⟨16, _⟩ => ⟨S1x256x1024, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S_, .f32⟩
  | .hbm, ⟨23, _⟩ => ⟨S1x256x1024, .f32⟩
  | .hbm, ⟨24, _⟩ => ⟨S1x256x1024, .f32⟩
  | .hbm, ⟨25, _⟩ => ⟨S1x256x1024, .f32⟩
  | .hbm, ⟨26, _⟩ => ⟨S_, .f32⟩
  | .hbm, ⟨27, _⟩ => ⟨S1x256x1024, .f32⟩
  | .hbm, ⟨28, _⟩ => ⟨S1x256x1024, .f32⟩
  | .hbm, ⟨29, _⟩ => ⟨S1x256x1024, .f32⟩
  | .hbm, ⟨30, _⟩ => ⟨S_, .f32⟩
  | .hbm, ⟨31, _⟩ => ⟨S1x256x1024, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S64x1024 : Shape := ⟨2, ![64, 1024]⟩
abbrev S8x1024 : Shape := ⟨2, ![8, 1024]⟩
abbrev S72x768 : Shape := ⟨2, ![72, 768]⟩
abbrev S72x3072 : Shape := ⟨2, ![72, 3072]⟩
abbrev S1024x768 : Shape := ⟨2, ![1024, 768]⟩
abbrev S1x3072 : Shape := ⟨2, ![1, 3072]⟩
abbrev S64x768 : Shape := ⟨2, ![64, 768]⟩
abbrev S8x768 : Shape := ⟨2, ![8, 768]⟩
abbrev S3072 : Shape := ⟨1, ![3072]⟩
abbrev S1024 : Shape := ⟨1, ![1024]⟩
abbrev S1x1024 : Shape := ⟨2, ![1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S64x1024, .f32⟩
  | .hbm, ⟨1, _⟩ => ⟨S8x1024, .f32⟩
  | .hbm, ⟨2, _⟩ => ⟨S72x768, .f32⟩
  | .hbm, ⟨3, _⟩ => ⟨S72x3072, .f32⟩
  | .hbm, ⟨4, _⟩ => ⟨S1024x768, .f32⟩
  | .hbm, ⟨5, _⟩ => ⟨S1024x768, .f32⟩
  | .hbm, ⟨6, _⟩ => ⟨S1x3072, .f32⟩
  | .hbm, ⟨7, _⟩ => ⟨S8x1024, .f32⟩
  | .local _ .vmem, ⟨0, _⟩ => ⟨S64x1024, .f32⟩
  | .local _ .vmem, ⟨1, _⟩ => ⟨S8x1024, .f32⟩
  | .local _ .vmem, ⟨2, _⟩ => ⟨S72x768, .f32⟩
  | .local _ .vmem, ⟨3, _⟩ => ⟨S72x3072, .f32⟩
  | .local _ .vmem, ⟨4, _⟩ => ⟨S1024x768, .f32⟩
  | .local _ .vmem, ⟨5, _⟩ => ⟨S1024x768, .f32⟩
  | .local _ .vmem, ⟨6, _⟩ => ⟨S1x3072, .f32⟩
  | .local _ .vmem, ⟨7, _⟩ => ⟨S8x1024, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S72x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S72x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference16Ideal.lean ====
abbrev S64x1024 : Shape := ⟨2, ![64, 1024]⟩
abbrev S8x1024 : Shape := ⟨2, ![8, 1024]⟩
abbrev S72x768 : Shape := ⟨2, ![72, 768]⟩
abbrev S72x3072 : Shape := ⟨2, ![72, 3072]⟩
abbrev S1024x768 : Shape := ⟨2, ![1024, 768]⟩
abbrev S72x1024 : Shape := ⟨2, ![72, 1024]⟩
abbrev S_ : Shape := ⟨0, ![]⟩
abbrev S768x1024 : Shape := ⟨2, ![768, 1024]⟩
abbrev S1x3072 : Shape := ⟨2, ![1, 3072]⟩
abbrev S1024x3072 : Shape := ⟨2, ![1024, 3072]⟩
abbrev S3072 : Shape := ⟨1, ![3072]⟩
abbrev S1x1024 : Shape := ⟨2, ![1, 1024]⟩
abbrev S8x768 : Shape := ⟨2, ![8, 768]⟩
abbrev S1024 : Shape := ⟨1, ![1024]⟩

abbrev nBuf : Space → Nat
  | .hbm => 41
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S8x1024, .f32⟩
  | .hbm, ⟨2, _⟩ => ⟨S72x768, .f32⟩
  | .hbm, ⟨3, _⟩ => ⟨S72x3072, .f32⟩
  | .hbm, ⟨4, _⟩ => ⟨S1024x768, .f32⟩
  | .hbm, ⟨5, _⟩ => ⟨S72x1024, .f32⟩
  | .hbm, ⟨6, _⟩ => ⟨S72x1024, .f32⟩
  | .hbm, ⟨7, _⟩ => ⟨S72x1024, .f32⟩
  | .hbm, ⟨8, _⟩ => ⟨S_, .f32⟩
  | .hbm, ⟨9, _⟩ => ⟨S72x1024, .f32⟩
  | .hbm, ⟨10, _⟩ => ⟨S72x1024, .f32⟩
  | .hbm, ⟨11, _⟩ => ⟨S_, .f32⟩
  | .hbm, ⟨12, _⟩ => ⟨S72x1024, .f32⟩
  | .hbm, ⟨13, _⟩ => ⟨S72x1024, .f32⟩
  | .hbm, ⟨14, _⟩ => ⟨S72x1024, .f32⟩
  | .hbm, ⟨15, _⟩ => ⟨S72x768, .f32⟩
  | .hbm, ⟨16, _⟩ => ⟨S_, .f32⟩
  | .hbm, ⟨17, _⟩ => ⟨S72x768, .f32⟩
  | .hbm, ⟨18, _⟩ => ⟨S72x768, .f32⟩
  | .hbm, ⟨19, _⟩ => ⟨S768x1024, .f32⟩
  | .hbm, ⟨20, _⟩ => ⟨S1024x768, .f32⟩
  | .hbm, ⟨21, _⟩ => ⟨S_, .f32⟩
  | .hbm, ⟨22, _⟩ => ⟨S1x3072, .f32⟩
  | .hbm, ⟨23, _⟩ => ⟨S_, .f32⟩
  | .hbm, ⟨24, _⟩ => ⟨S1024x3072, .f32⟩
  | .hbm, ⟨25, _⟩ => ⟨S72x3072, .f32⟩
  | .hbm, ⟨26, _⟩ => ⟨S72x3072, .f32⟩
  | .hbm, ⟨27, _⟩ => ⟨S72x3072, .f32⟩
  | .hbm, ⟨28, _⟩ => ⟨S_, .f32⟩
  | .hbm, ⟨29, _⟩ => ⟨S3072, .f32⟩
  | .hbm, ⟨30, _⟩ => ⟨S1x3072, .f32⟩
  | .hbm, ⟨31, _⟩ => ⟨S_, .f32⟩
  | .hbm, ⟨32, _⟩ => ⟨S1x1024, .f32⟩
  | .hbm, ⟨33, _⟩ => ⟨S8x1024, .f32⟩
  | .hbm, ⟨34, _⟩ => ⟨S8x768, .f32⟩
  | .hbm, ⟨35, _⟩ => ⟨S8x768, .f32⟩
  | .hbm, ⟨36, _⟩ => ⟨S8x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S8x1024, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩

abbrev nD : Nat := 1
abbrev τ : Topo := Topo.v7x

variable {F : FTy → Type} [FloatOps F]
-- ==== Kernel17.lean ====
abbrev S4x8x1024 : Shape := ⟨3, ![4, 8, 1024]⟩
abbrev S8x1024 : Shape := ⟨2, ![8, 1024]⟩
abbrev S1x8x1024 : Shape := ⟨3, ![1, 8, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4x8x1024, .f32⟩
  | .hbm, ⟨1, _⟩ => ⟨S8x1024, .f32⟩
  | .hbm, ⟨2, _⟩ => ⟨S8x1024, .f32⟩
  | .local _ .vmem, ⟨0, _⟩ => ⟨S4x8x1024, .f32⟩
  | .local _ .vmem, ⟨1, _⟩ => ⟨S8x1024, .f32⟩
  | .local _ .vmem, ⟨2, _⟩ => ⟨S8x1024, .f32⟩
  | _, _ => ⟨S4x8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference17Ideal.lean ====
abbrev S4x8x1024 : Shape := ⟨3, ![4, 8, 1024]⟩
abbrev S8x1024 : Shape := ⟨2, ![8, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4x8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S_, .f32⟩
  | .hbm, ⟨16, _⟩ => ⟨S8x1024, .f32⟩
  | .hbm, ⟨17, _⟩ => ⟨S8x1024, .f32⟩
  | .hbm, ⟨18, _⟩ => ⟨S8x1024, .f32⟩
  | .hbm, ⟨19, _⟩ => ⟨S8x1024, .f32⟩
  | .hbm, ⟨20, _⟩ => ⟨S8x1024, .f32⟩
  | _, _ => ⟨S4x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_v0_2 : Ref sig .tc := ⟨.hbm, 9, rfl⟩
abbrev main_call0_cst_1 : Ref sig .tc := ⟨.hbm, 10, rfl⟩
abbrev main_call0_v6 : Ref sig .tc := ⟨.hbm, 11, rfl⟩
abbrev main_call0_v7 : Ref sig .tc := ⟨.hbm, 12, rfl⟩
abbrev main_v0_1 : Ref sig .tc := ⟨.hbm, 13, rfl⟩
abbrev main_v0_0 : Ref sig .tc := ⟨.hbm, 14, rfl⟩
abbrev main_cst : Ref sig .tc := ⟨.hbm, 15, rfl⟩
abbrev main_v1 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_v2 : Ref sig .tc := ⟨.hbm, 20, rfl⟩

abbrev nD : Nat := 1
abbrev τ : Topo := Topo.v7x

variable {F : FTy → Type} [FloatOps F]
-- ==== Kernel18.lean ====
abbrev S8x64x1024 : Shape := ⟨3, ![8, 64, 1024]⟩
abbrev S64x1024 : Shape := ⟨2, ![64, 1024]⟩
abbrev S1x64x1024 : Shape := ⟨3, ![1, 64, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x64x1024, .f32⟩
  | .hbm, ⟨1, _⟩ => ⟨S64x1024, .f32⟩
  | .local _ .vmem, ⟨0, _⟩ => ⟨S8x64x1024, .f32⟩
  | .local _ .vmem, ⟨1, _⟩ => ⟨S64x1024, .f32⟩
  | _, _ => ⟨S8x64x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference18Ideal.lean ====
abbrev S8x64x1024 : Shape := ⟨3, ![8, 64, 1024]⟩
abbrev S_ : Shape := ⟨0, ![]⟩
abbrev S64x1024 : Shape := ⟨2, ![64, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x64x1024, .f32⟩
  | .hbm, ⟨1, _⟩ => ⟨S_, .f32⟩
  | .hbm, ⟨2, _⟩ => ⟨S64x1024, .f32⟩
  | _, _ => ⟨S8x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel19.lean ====
abbrev S8x16x1024 : Shape := ⟨3, ![8, 16, 1024]⟩
abbrev S16x1024 : Shape := ⟨2, ![16, 1024]⟩
abbrev S1x16x1024 : Shape := ⟨3, ![1, 16, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x16x1024, .f32⟩
  | .hbm, ⟨1, _⟩ => ⟨S16x1024, .f32⟩
  | .local _ .vmem, ⟨0, _⟩ => ⟨S8x16x1024, .f32⟩
  | .local _ .vmem, ⟨1, _⟩ => ⟨S16x1024, .f32⟩
  | _, _ => ⟨S8x16x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference19Ideal.lean ====
abbrev S8x16x1024 : Shape := ⟨3, ![8, 16, 1024]⟩
abbrev S_ : Shape := ⟨0, ![]⟩
abbrev S16x1024 : Shape := ⟨2, ![16, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S_, .f32⟩
  | .hbm, ⟨2, _⟩ => ⟨S16x1024, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Step.lean ====
/-
  What the kernel computes for one chunk of 64 rows in one head, as functions of the chunk's arrays, and the same for the
  sixteen (chunk, head) pairs of one grid point.
-/
module

public import proofs.«01_k».proof.Proof.Gen.KernelIdeal.Value
public import Idealize.ShloMosaic.Lib.ValueIdx

@[expose] public section

noncomputable section

namespace Cert.KernelIdeal.Scan

open Cert.KernelIdeal Cert.KernelIdeal.Gen Idealize.ShloMosaic

variable {F : FTy → Type} [FloatOps F]

/-- The arrays of one chunk of one head. -/
structure Blk (F : FTy → Type) [FloatOps F] where
  q : Vec F S1x64x128 .f32
  k : Vec F S1x64x128 .bf16
  v : Vec F S1x64x256 .bf16
  c : Vec F S1x64x128 .f32
  /-- the state before the chunk, as the forward pass saved it -/
  s : Vec F S1x1x1x256x128 .bf16
  /-- the gradient of the chunk's output, zero at a context chunk -/
  g : FVec F S64x256 .f32

namespace Blk
variable (B : Blk F)

def q' : FVec F S64x128 .f32 := shapeCast S64x128 B.q shapeCasts_S1x64x128_S64x128
def k' : FVec F S64x128 .f32 := extf .f32 (shapeCast S64x128 B.k shapeCasts_S1x64x128_S64x128) bitsLt_bf16_f32
def v' : FVec F S64x256 .bf16 := shapeCast S64x256 B.v shapeCasts_S1x64x256_S64x256
def c' : FVec F S64x128 .f32 := shapeCast S64x128 B.c shapeCasts_S1x64x128_S64x128
def s' : FVec F S256x128 .bf16 := shapeCast S256x128 B.s shapeCasts_S1x1x1x256x128_S256x128
def g' : FVec F S64x256 .bf16 := truncf .bf16 B.g bitsLt_bf16_f32
/-- The chunk's whole log-decay: `c` at its last row. -/
def edge : FVec F S1x128 .f32 := extractStridedSlice S1x128 ![63, 0] B.c' slices_S64x128_o63_0_S1x128
/-- `c` at the row in the middle, from which the chunk's own products are scaled. -/
def mid : FVec F S64x128 .f32 := broadcastTo S64x128 (extractStridedSlice S1x128 ![32, 0] B.c' slices_S64x128_o32_0_S1x128) broadcasts_S1x128_S64x128
def eq : FVec F S64x128 .f32 := exp (subf B.c' B.mid)
def ek : FVec F S64x128 .f32 := exp (subf B.mid B.c')
def qs : FVec F S64x128 .bf16 := truncf .bf16 (mulf B.q' B.eq) bitsLt_bf16_f32
def ks : FVec F S64x128 .bf16 := truncf .bf16 (mulf B.k' B.ek) bitsLt_bf16_f32
/-- `exp` of the log-decay from a row to the chunk's end. -/
def out : FVec F S64x128 .f32 := exp (subf (broadcastTo S64x128 B.edge broadcasts_S1x128_S64x128) B.c')
/-- The pairs of rows (t, s) with s at or before t. -/
def mask : IVec S64x64 1 := cmpi .sle (addi (broadcast S64x64 0#32) (iota .tc S64x64 32 [1] iota_S64x64_d1_w32))
  (addi (broadcast S64x64 0#32) (iota .tc S64x64 32 [0] iota_S64x64_d0_w32))
/-- The scores within the chunk, -/
def a : FVec F S64x64 .f32 := select mask (matmul dot_S64x128_S64x128_S64x64_1_1_0_0_n_n none B.qs B.ks (constant S64x64 .f32 0x00000000#32))
  (broadcast S64x64 (Scalar.ofBits .f32 0x00000000#32))
/-- and their gradient. -/
def da : FVec F S64x64 .bf16 := truncf .bf16 (select mask (matmul dot_S64x256_S64x256_S64x64_1_1_0_0_n_n none B.g' B.v' (constant S64x64 .f32 0x00000000#32))
  (broadcast S64x64 (Scalar.ofBits .f32 0x00000000#32))) bitsLt_bf16_f32

def dq : FVec F S64x128 .f32 :=
  addf (mulf (exp B.c') (matmul dot_S64x256_S256x128_S64x128_1_0_0_1_n_n none B.g' B.s' (constant S64x128 .f32 0x00000000#32)))
    (mulf (matmul dot_S64x64_S64x128_S64x128_1_0_0_1_n_n none B.da B.ks (constant S64x128 .f32 0x00000000#32)) B.eq)

/-- The gradient of the state after the chunk, as the products take it. -/
def ds' (ds : FVec F S256x128 .f32) : FVec F S256x128 .bf16 := truncf .bf16 ds bitsLt_bf16_f32

def dk (ds : FVec F S256x128 .f32) : FVec F S64x128 .f32 :=
  addf (mulf B.out (matmul dot_S64x256_S256x128_S64x128_1_0_0_1_n_n none B.v' (ds' ds) (constant S64x128 .f32 0x00000000#32)))
    (mulf (matmul dot_S64x64_S64x128_S64x128_0_0_1_1_n_n none B.da B.qs (constant S64x128 .f32 0x00000000#32)) B.ek)

def dv (ds : FVec F S256x128 .f32) : FVec F S64x256 .f32 :=
  addf (matmul dot_S64x128_S256x128_S64x256_1_1_0_0_n_n none (truncf .bf16 (mulf B.k' B.out) bitsLt_bf16_f32) (ds' ds) (constant S64x256 .f32 0x00000000#32))
    (matmul dot_S64x64_S64x256_S64x256_0_0_1_1_n_n none (truncf .bf16 B.a bitsLt_bf16_f32) B.g' (constant S64x256 .f32 0x00000000#32))

def lastRow : IVec S64x128 1 := cmpi .eq (iota .tc S64x128 32 [0] iota_S64x128_d0_w32) (broadcast S64x128 63#32)

def dc (ds sn : FVec F S256x128 .f32) : FVec F S64x128 .f32 :=
  addf (subf (mulf B.q' B.dq) (mulf B.k' (B.dk ds)))
    (select lastRow (broadcastTo S64x128 (shapeCast S1x128 (shapeCast S1x128 (multiReduction .add [0] S128 (mulf ds sn) 0x00000000#32
      reduces_S256x128_S128 (.inl rfl) rfl) shapeCasts_S128_S1x128) shapeCasts_S1x128_S1x128) broadcasts_S1x128_S64x128)
      (broadcast S64x128 (Scalar.ofBits .f32 0x00000000#32)))

/-- The gradient of the state before the chunk, from that of the state after it. -/
def dsPrev (ds : FVec F S256x128 .f32) : FVec F S256x128 .f32 :=
  addf (mulf ds (broadcastTo S256x128 (exp B.edge) broadcasts_S1x128_S256x128))
    (matmul dot_S64x256_S64x128_S256x128_0_0_1_1_n_n none B.g' (truncf .bf16 (mulf B.q' (exp B.c')) bitsLt_bf16_f32) (constant S256x128 .f32 0x00000000#32))

def sPrev : FVec F S256x128 .f32 := extf .f32 B.s' bitsLt_bf16_f32

end Blk

abbrev up128 (x : FVec F S64x128 .f32) : Vec F S1x64x128 .f32 := shapeCast S1x64x128 x shapeCasts_S64x128_S1x64x128
abbrev up256 (x : FVec F S64x256 .f32) : Vec F S1x64x256 .f32 := shapeCast S1x64x256 x shapeCasts_S64x256_S1x64x256
abbrev upS (x : FVec F S256x128 .f32) : Vec F S1x256x128 .f32 := shapeCast S1x256x128 x shapeCasts_S256x128_S1x256x128
abbrev downS (x : Vec F S1x256x128 .f32) : FVec F S256x128 .f32 := shapeCast S256x128 x shapeCasts_S1x256x128_S256x128

/-! ## The sixteen pairs of one grid point -/

section Point

variable (i : grid0.Coords) (x0 : Vec F S1x256x512 .f32) (x1 : Vec F S1x256x512 .bf16) (x2 : Vec F S1x256x1024 .bf16)
  (x3 : Vec F S1x256x512 .f32) (x4 : Vec F S1x4x4x256x128 .bf16) (x6 : Vec F S1x256x1024 .f32)
  (xs0 xs1 : Vec F S4x256x128 .f32)

/-- The 64 rows by 128 columns of chunk `j` and head `h` in a block of 256 rows by 512 columns, -/
abbrev box128 (j h : Fin 4) : Rect S1x256x512 := Rect.unit (s := S1x256x512) ![0, 64 * j.val, 128 * h.val] S1x64x128.size
  (by have := j.isLt; have := h.isLt; intro a; fin_cases a <;> simp [S1x256x512, S1x64x128] <;> omega)
/-- the 64 rows by 256 columns in a block of 256 rows by 1024 columns, -/
abbrev box256 (j h : Fin 4) : Rect S1x256x1024 := Rect.unit (s := S1x256x1024) ![0, 64 * j.val, 256 * h.val] S1x64x256.size
  (by have := j.isLt; have := h.isLt; intro a; fin_cases a <;> simp [S1x256x1024, S1x64x256] <;> omega)
/-- the state of chunk `j` and head `h` among the saved ones, -/
abbrev boxS (j h : Fin 4) : Rect S1x4x4x256x128 := Rect.unit (s := S1x4x4x256x128) ![0, h.val, j.val, 0, 0] S1x1x1x256x128.size
  (by have := j.isLt; have := h.isLt; intro a; fin_cases a <;> simp [S1x4x4x256x128, S1x1x1x256x128] <;> omega)
/-- and head `h`'s state among the four carried. -/
abbrev boxC (h : Fin 4) : Rect S4x256x128 := Rect.unit (s := S4x256x128) ![h.val, 0, 0] S1x256x128.size
  (by have := h.isLt; intro a; fin_cases a <;> simp [S4x256x128, S1x256x128] <;> omega)

/-- The output gradient's rows, or zero at the context step. -/
def gOf (y : Vec F S1x64x256 .f32) : FVec F S64x256 .f32 :=
  Scalar.select (Scalar.cmpi .sgt (Scalar.subi 8#32 (BitVec.ofNat 32 (i 1).val)) 0#32)
    (shapeCast S64x256 y shapeCasts_S1x64x256_S64x256) (broadcast S64x256 (Scalar.ofBits .f32 0x00000000#32))

def blk (j h : Fin 4) : Blk F where
  q := View.ld x0 (box128 j h)
  k := View.ld x1 (box128 j h)
  v := View.ld x2 (box256 j h)
  c := View.ld x3 (box128 j h)
  s := View.ld x4 (boxS j h)
  g := gOf i (View.ld x6 (box256 j h))

/-- The gradient of the state after chunk `j`, in head `h`, -/
def dsOf (h : Fin 4) : Fin 4 → FVec F S256x128 .f32
  | 3 => downS (View.ld xs0 (boxC h))
  | 2 => (blk i x0 x1 x2 x3 x4 x6 3 h).dsPrev (downS (View.ld xs0 (boxC h)))
  | 1 => (blk i x0 x1 x2 x3 x4 x6 2 h).dsPrev ((blk i x0 x1 x2 x3 x4 x6 3 h).dsPrev (downS (View.ld xs0 (boxC h))))
  | 0 => (blk i x0 x1 x2 x3 x4 x6 1 h).dsPrev ((blk i x0 x1 x2 x3 x4 x6 2 h).dsPrev ((blk i x0 x1 x2 x3 x4 x6 3 h).dsPrev (downS (View.ld xs0 (boxC h)))))

/-- and the state itself there. -/
def snOf (h : Fin 4) : Fin 4 → FVec F S256x128 .f32
  | 3 => downS (View.ld xs1 (boxC h))
  | 2 => (blk i x0 x1 x2 x3 x4 x6 3 h).sPrev
  | 1 => (blk i x0 x1 x2 x3 x4 x6 2 h).sPrev
  | 0 => (blk i x0 x1 x2 x3 x4 x6 1 h).sPrev

/-- What the point writes for one pair, to each of the four results, -/
def dqAt (j h : Fin 4) : Vec F S1x64x128 .f32 := up128 (blk i x0 x1 x2 x3 x4 x6 j h).dq
def dkAt (j h : Fin 4) : Vec F S1x64x128 .f32 := up128 ((blk i x0 x1 x2 x3 x4 x6 j h).dk (dsOf i x0 x1 x2 x3 x4 x6 xs0 h j))
def dvAt (j h : Fin 4) : Vec F S1x64x256 .f32 := up256 ((blk i x0 x1 x2 x3 x4 x6 j h).dv (dsOf i x0 x1 x2 x3 x4 x6 xs0 h j))
def dcAt (j h : Fin 4) : Vec F S1x64x128 .f32 :=
  up128 ((blk i x0 x1 x2 x3 x4 x6 j h).dc (dsOf i x0 x1 x2 x3 x4 x6 xs0 h j) (snOf i x0 x1 x2 x3 x4 x6 xs1 h j))
/-- and what it hands on for one head. -/
def dsEnd (h : Fin 4) : Vec F S1x256x128 .f32 := upS ((blk i x0 x1 x2 x3 x4 x6 0 h).dsPrev (dsOf i x0 x1 x2 x3 x4 x6 xs0 h 0))
def snEnd (h : Fin 4) : Vec F S1x256x128 .f32 := upS (blk i x0 x1 x2 x3 x4 x6 0 h).sPrev

end Point

/-- What a sample's first point starts from: no state gradient, and the final state. -/
def ds0 : Vec F S4x256x128 .f32 := broadcast S4x256x128 (Scalar.ofBits .f32 0x00000000#32)
def sn0 (x5 : Vec F S1x4x256x128 .f32) : Vec F S4x256x128 .f32 :=
  shapeCast S4x256x128 (View.ld x5 (Rect.unit (s := S1x4x256x128) ![0, 0, 0, 0] S1x4x256x128.size inb_S1x4x256x128_S1x4x256x128_0_0_0_0)) shapeCasts_S1x4x256x128_S4x256x128

end Cert.KernelIdeal.Scan
-- ==== Proof.Pieces.lean ====
/-
  How the pieces a grid point stores are read back: a load of the piece just stored, one that passes over another head's
  piece, and one out of an array stored whole. Then the sixteen pieces of a block as one array.
-/
module

public import proofs.«01_k».proof.Proof.Step
public import Idealize.ShloMosaic.Lib.Pointwise.TacticCore
public import Idealize.ShloMosaic.Lib.Pipeline.ValueKit

@[expose] public section

noncomputable section

namespace Cert.KernelIdeal.Scan

open Cert.KernelIdeal Cert.KernelIdeal.Gen Idealize.ShloMosaic

variable {F : FTy → Type} [FloatOps F] [∀ e, Nonempty (Elt F e)] {sig : RefSig} {κ : Kind} {sp : Space} {e : EltTy}

theorem readCov_same {s : Shape} (v : View sig κ sp s e) (r : Rect s) (w : r.shape.Idx → Elt F e)
    (L : List (View.Piece (Elt F) s e)) : v.readCov (⟨r, w⟩ :: L) r.toLoadRect = w := by
  rw [View.readCov_eq_canon']; funext j; exact View.canon_cons_emb r w L j

theorem readCov_skip (v : View sig κ sp S4x256x128 e) (a b : Nat)
    (ha : ∀ x, ![a, 0, 0] x + ![1, 256, 128] x ≤ S4x256x128.size x) (hb : ∀ x, ![b, 0, 0] x + ![1, 256, 128] x ≤ S4x256x128.size x) (hab : a ≠ b)
    (w : S1x256x128.Idx → Elt F e) (L : List (View.Piece (Elt F) S4x256x128 e)) :
    v.readCov (⟨Rect.unit (s := S4x256x128) ![a, 0, 0] ![1, 256, 128] ha, w⟩ :: L) (Rect.unit (s := S4x256x128) ![b, 0, 0] ![1, 256, 128] hb).toLoadRect
      = v.readCov L (Rect.unit (s := S4x256x128) ![b, 0, 0] ![1, 256, 128] hb).toLoadRect := by
  rw [View.readCov_eq_canon', View.readCov_eq_canon']; funext j
  refine View.canon_cons_of_not_mem _ _ ?_
  intro h
  have h0 := (Rect.mem_set_unit (inb := ha)).1 h 0
  have h1 : ((Rect.unit (s := S4x256x128) ![b, 0, 0] ![1, 256, 128] hb).idx j 0).val = b + (j 0).val := by simp [Rect.idx_unit_val]
  have h2 : (j 0).val < 1 := (j 0).isLt
  simp only [Matrix.cons_val_zero] at h0
  omega

theorem readCov_whole (v : View sig κ sp S4x256x128 e) (b : Nat) (hz : ∀ x, ![0, 0, 0] x + ![4, 256, 128] x ≤ S4x256x128.size x)
    (hb : ∀ x, ![b, 0, 0] x + ![1, 256, 128] x ≤ S4x256x128.size x) (w : S4x256x128.Idx → Elt F e) (L : List (View.Piece (Elt F) S4x256x128 e)) :
    v.readCov (⟨Rect.unit (s := S4x256x128) ![0, 0, 0] ![4, 256, 128] hz, w⟩ :: L) (Rect.unit (s := S4x256x128) ![b, 0, 0] ![1, 256, 128] hb).toLoadRect
      = View.ld w (Rect.unit (s := S4x256x128) ![b, 0, 0] ![1, 256, 128] hb) := by
  rw [View.readCov_eq_canon']; funext j
  have := View.canon_cons_emb (Rect.unit (s := S4x256x128) ![0, 0, 0] ![4, 256, 128] hz) w L ((Rect.unit (s := S4x256x128) ![b, 0, 0] ![1, 256, 128] hb).toLoadRect.idx j)
  refine Eq.trans ?_ this
  congr 1
  funext a; apply Fin.ext
  rw [ValueKit.rect_emb_unit_val]
  fin_cases a <;> simp

/-- The pairs, the last written first. -/
def pairs : List (Fin 4 × Fin 4) := [(0,3),(0,2),(0,1),(0,0),(1,3),(1,2),(1,1),(1,0),(2,3),(2,2),(2,1),(2,0),(3,3),(3,2),(3,1),(3,0)]

end Cert.KernelIdeal.Scan
-- ==== Proof.PiecesA.lean ====
/-
  The pieces a sample's first grid point stores, in the words of Step.lean: it starts from the zero state gradient and the
  final state given.
-/
module

public import proofs.«01_k».proof.Proof.Pieces

@[expose] public section

noncomputable section

namespace Cert.KernelIdeal.Scan

open Cert.KernelIdeal Cert.KernelIdeal.Gen Idealize.ShloMosaic

variable {F : FTy → Type} [FloatOps F]

set_option maxRecDepth 100000 in
set_option maxHeartbeats 4000000 in
theorem piecesA (c : Dev nD) (i : grid0.Coords) (arg2 : Memref sig .tc .vmem S1x256x512 .f32) (harg2 : arg2.IsWhole) (arg3 : Memref sig .tc .vmem S1x256x512 .bf16) (harg3 : arg3.IsWhole) (arg4 : Memref sig .tc .vmem S1x256x1024 .bf16) (harg4 : arg4.IsWhole) (arg5 : Memref sig .tc .vmem S1x256x512 .f32) (harg5 : arg5.IsWhole) (arg6 : Memref sig .tc .vmem S1x4x4x256x128 .bf16) (harg6 : arg6.IsWhole) (arg7 : Memref sig .tc .vmem S1x4x256x128 .f32) (harg7 : arg7.IsWhole) (arg8 : Memref sig .tc .vmem S1x256x1024 .f32) (harg8 : arg8.IsWhole) (arg9 : Memref sig .tc .vmem S1x256x512 .f32) (harg9 : arg9.IsWhole) (arg10 : Memref sig .tc .vmem S1x256x512 .f32) (harg10 : arg10.IsWhole) (arg11 : Memref sig .tc .vmem S1x256x1024 .f32) (harg11 : arg11.IsWhole) (arg12 : Memref sig .tc .vmem S1x256x512 .f32) (harg12 : arg12.IsWhole) (arg13 : Memref sig .tc .vmem S4x256x128 .f32) (harg13 : arg13.IsWhole) (arg14 : Memref sig .tc .vmem S4x256x128 .f32) (harg14 : arg14.IsWhole) (arg15 : Memref sig .tc .vmem S4x64x128 .f32) (harg15 : arg15.IsWhole) (arg16 : Memref sig .tc .vmem S4x64x128 .f32) (harg16 : arg16.IsWhole) (arg17 : Memref sig .tc .vmem S4x64x256 .f32) (harg17 : arg17.IsWhole) (hc0 : cond0_0 i)
    (x0 : Vec F S1x256x512 .f32) (x1 : Vec F S1x256x512 .bf16) (x2 : Vec F S1x256x1024 .bf16) (x3 : Vec F S1x256x512 .f32) (x4 : Vec F S1x4x4x256x128 .bf16) (x5 : Vec F S1x4x256x128 .f32) (x6 : Vec F S1x256x1024 .f32) :
    let R := (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6)
    R.1 = pairs.map (fun p => (⟨box128 p.1 p.2, dqAt i x0 x1 x2 x3 x4 x6 p.1 p.2⟩ : View.Piece (Elt F) S1x256x512 .f32))
    ∧ R.2.1 = pairs.map (fun p => (⟨box128 p.1 p.2, dkAt i x0 x1 x2 x3 x4 x6 (ds0) p.1 p.2⟩ : View.Piece (Elt F) S1x256x512 .f32))
    ∧ R.2.2.1 = pairs.map (fun p => (⟨box256 p.1 p.2, dvAt i x0 x1 x2 x3 x4 x6 (ds0) p.1 p.2⟩ : View.Piece (Elt F) S1x256x1024 .f32))
    ∧ R.2.2.2.1 = pairs.map (fun p => (⟨box128 p.1 p.2, dcAt i x0 x1 x2 x3 x4 x6 (ds0) (sn0 x5) p.1 p.2⟩ : View.Piece (Elt F) S1x256x512 .f32))
    ∧ (∃ L, R.2.2.2.2.1 = ⟨boxC 3, dsEnd i x0 x1 x2 x3 x4 x6 (ds0) 3⟩ :: ⟨boxC 2, dsEnd i x0 x1 x2 x3 x4 x6 (ds0) 2⟩ :: ⟨boxC 1, dsEnd i x0 x1 x2 x3 x4 x6 (ds0) 1⟩ :: ⟨boxC 0, dsEnd i x0 x1 x2 x3 x4 x6 (ds0) 0⟩ :: L)
    ∧ (∃ L, R.2.2.2.2.2.1 = ⟨boxC 3, snEnd i x0 x1 x2 x3 x4 x6 3⟩ :: ⟨boxC 2, snEnd i x0 x1 x2 x3 x4 x6 2⟩ :: ⟨boxC 1, snEnd i x0 x1 x2 x3 x4 x6 1⟩ :: ⟨boxC 0, snEnd i x0 x1 x2 x3 x4 x6 0⟩ :: L) := by
  intro R; subst R
  unfold kernelRun0_A
  dsimp only
  sl_unfold_run_names
  simp (decide := true) only [↓readCov_same, ↓readCov_skip, ↓readCov_whole, View.readAt_eq_ld, harg2.read_unread, harg3.read_unread, harg4.read_unread, harg5.read_unread, harg6.read_unread, harg7.read_unread, harg8.read_unread, harg13.read_unread, harg14.read_unread, ne_eq, not_false_eq_true]
  dsimp only [pairs, List.map]
  unfold_payloads
  dsimp only [dqAt, dkAt, dvAt, dcAt, dsEnd, snEnd, dsOf, snOf, ds0, sn0, blk, up128, up256, downS, upS, Blk.dq, Blk.dk, Blk.dv, Blk.dc, Blk.dsPrev, Blk.sPrev, Blk.ds', Blk.q', Blk.k', Blk.v', Blk.c', Blk.s', Blk.g', Blk.da, Blk.a, Blk.qs, Blk.ks, Blk.ek, Blk.eq, Blk.mid, Blk.edge, Blk.out, Blk.mask, Blk.lastRow, gOf]
  simp only [shapeCast_shapeCast, shapeCast_self]
  exact ⟨rfl, rfl, rfl, rfl, ⟨_, rfl⟩, ⟨_, rfl⟩⟩

end Cert.KernelIdeal.Scan
-- ==== Proof.PiecesB.lean ====
/-
  The pieces a grid point after a sample's first stores, in the words of Step.lean.
-/
module

public import proofs.«01_k».proof.Proof.Pieces

@[expose] public section

noncomputable section

namespace Cert.KernelIdeal.Scan

open Cert.KernelIdeal Cert.KernelIdeal.Gen Idealize.ShloMosaic

variable {F : FTy → Type} [FloatOps F]

set_option maxRecDepth 100000 in
set_option maxHeartbeats 4000000 in
theorem piecesB (c : Dev nD) (i : grid0.Coords) (arg2 : Memref sig .tc .vmem S1x256x512 .f32) (harg2 : arg2.IsWhole) (arg3 : Memref sig .tc .vmem S1x256x512 .bf16) (harg3 : arg3.IsWhole) (arg4 : Memref sig .tc .vmem S1x256x1024 .bf16) (harg4 : arg4.IsWhole) (arg5 : Memref sig .tc .vmem S1x256x512 .f32) (harg5 : arg5.IsWhole) (arg6 : Memref sig .tc .vmem S1x4x4x256x128 .bf16) (harg6 : arg6.IsWhole) (arg7 : Memref sig .tc .vmem S1x4x256x128 .f32) (harg7 : arg7.IsWhole) (arg8 : Memref sig .tc .vmem S1x256x1024 .f32) (harg8 : arg8.IsWhole) (arg9 : Memref sig .tc .vmem S1x256x512 .f32) (harg9 : arg9.IsWhole) (arg10 : Memref sig .tc .vmem S1x256x512 .f32) (harg10 : arg10.IsWhole) (arg11 : Memref sig .tc .vmem S1x256x1024 .f32) (harg11 : arg11.IsWhole) (arg12 : Memref sig .tc .vmem S1x256x512 .f32) (harg12 : arg12.IsWhole) (arg13 : Memref sig .tc .vmem S4x256x128 .f32) (harg13 : arg13.IsWhole) (arg14 : Memref sig .tc .vmem S4x256x128 .f32) (harg14 : arg14.IsWhole) (arg15 : Memref sig .tc .vmem S4x64x128 .f32) (harg15 : arg15.IsWhole) (arg16 : Memref sig .tc .vmem S4x64x128 .f32) (harg16 : arg16.IsWhole) (arg17 : Memref sig .tc .vmem S4x64x256 .f32) (harg17 : arg17.IsWhole) (hc0 : ¬cond0_0 i)
    (x0 : Vec F S1x256x512 .f32) (x1 : Vec F S1x256x512 .bf16) (x2 : Vec F S1x256x1024 .bf16) (x3 : Vec F S1x256x512 .f32) (x4 : Vec F S1x4x4x256x128 .bf16) (x5 : Vec F S1x4x256x128 .f32) (x6 : Vec F S1x256x1024 .f32) (xs0 xs1 : Vec F S4x256x128 .f32) :
    let R := (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 xs0 xs1)
    R.1 = pairs.map (fun p => (⟨box128 p.1 p.2, dqAt i x0 x1 x2 x3 x4 x6 p.1 p.2⟩ : View.Piece (Elt F) S1x256x512 .f32))
    ∧ R.2.1 = pairs.map (fun p => (⟨box128 p.1 p.2, dkAt i x0 x1 x2 x3 x4 x6 xs0 p.1 p.2⟩ : View.Piece (Elt F) S1x256x512 .f32))
    ∧ R.2.2.1 = pairs.map (fun p => (⟨box256 p.1 p.2, dvAt i x0 x1 x2 x3 x4 x6 xs0 p.1 p.2⟩ : View.Piece (Elt F) S1x256x1024 .f32))
    ∧ R.2.2.2.1 = pairs.map (fun p => (⟨box128 p.1 p.2, dcAt i x0 x1 x2 x3 x4 x6 xs0 xs1 p.1 p.2⟩ : View.Piece (Elt F) S1x256x512 .f32))
    ∧ (∃ L, R.2.2.2.2.1 = ⟨boxC 3, dsEnd i x0 x1 x2 x3 x4 x6 xs0 3⟩ :: ⟨boxC 2, dsEnd i x0 x1 x2 x3 x4 x6 xs0 2⟩ :: ⟨boxC 1, dsEnd i x0 x1 x2 x3 x4 x6 xs0 1⟩ :: ⟨boxC 0, dsEnd i x0 x1 x2 x3 x4 x6 xs0 0⟩ :: L)
    ∧ (∃ L, R.2.2.2.2.2.1 = ⟨boxC 3, snEnd i x0 x1 x2 x3 x4 x6 3⟩ :: ⟨boxC 2, snEnd i x0 x1 x2 x3 x4 x6 2⟩ :: ⟨boxC 1, snEnd i x0 x1 x2 x3 x4 x6 1⟩ :: ⟨boxC 0, snEnd i x0 x1 x2 x3 x4 x6 0⟩ :: L) := by
  intro R; subst R
  unfold kernelRun0_B
  dsimp only
  sl_unfold_run_names
  simp (decide := true) only [↓readCov_same, ↓readCov_skip, ↓readCov_whole, View.readAt_eq_ld, harg2.read_unread, harg3.read_unread, harg4.read_unread, harg5.read_unread, harg6.read_unread, harg7.read_unread, harg8.read_unread, harg13.read_unread, harg14.read_unread, ne_eq, not_false_eq_true]
  dsimp only [pairs, List.map]
  unfold_payloads
  dsimp only [dqAt, dkAt, dvAt, dcAt, dsEnd, snEnd, dsOf, snOf, blk, up128, up256, downS, upS, Blk.dq, Blk.dk, Blk.dv, Blk.dc, Blk.dsPrev, Blk.sPrev, Blk.ds', Blk.q', Blk.k', Blk.v', Blk.c', Blk.s', Blk.g', Blk.da, Blk.a, Blk.qs, Blk.ks, Blk.ek, Blk.eq, Blk.mid, Blk.edge, Blk.out, Blk.mask, Blk.lastRow, gOf]
  simp only [shapeCast_shapeCast]
  exact ⟨rfl, rfl, rfl, rfl, ⟨_, rfl⟩, ⟨_, rfl⟩⟩

end Cert.KernelIdeal.Scan
-- ==== Proof.Math.lean ====
/-
  The scan over the real numbers, one head of one sample, its chunks numbered in time: what the recurrences over chunks
  sum to, and how a chunk's own products and the state's add up to the sums over all tokens.
-/
module

public import Mathlib.Analysis.SpecialFunctions.Exp

@[expose] public section

noncomputable section

namespace Cert.Scan

open Finset

/-- One head's arrays: chunk in time, row in the chunk, channel. -/
structure Arr where
  q : ℕ → Fin 64 → Fin 128 → ℝ
  k : ℕ → Fin 64 → Fin 128 → ℝ
  v : ℕ → Fin 64 → Fin 256 → ℝ
  c : ℕ → Fin 64 → Fin 128 → ℝ
  /-- the output's gradient -/
  g : ℕ → Fin 64 → Fin 256 → ℝ

namespace Arr
variable (X : Arr)

/-- The log-decay from the start of time to the start of chunk `m`, -/
def A (m : ℕ) (d : Fin 128) : ℝ := ∑ j ∈ range m, X.c j 63 d
/-- and to row `r` of it. -/
def B (m : ℕ) (r : Fin 64) (d : Fin 128) : ℝ := X.A m d + X.c m r d

/-- Row `s` of chunk `n` is at or before row `r` of chunk `m`. -/
def Le (n : ℕ) (s : Fin 64) (m : ℕ) (r : Fin 64) : Prop := n < m ∨ n = m ∧ s ≤ r

instance (n : ℕ) (s : Fin 64) (m : ℕ) (r : Fin 64) : Decidable (Le n s m r) := by unfold Le; infer_instance

/-- The decay from row `s` of chunk `n` to row `r` of chunk `m`, zero where that is backwards. -/
def p (m : ℕ) (r : Fin 64) (n : ℕ) (s : Fin 64) (d : Fin 128) : ℝ := if Le n s m r then Real.exp (X.B m r d - X.B n s d) else 0
/-- The score's gradient. -/
def ga (m : ℕ) (r : Fin 64) (n : ℕ) (s : Fin 64) : ℝ := ∑ e, X.g m r e * X.v n s e

/-- The state before chunk `m`. -/
def S (m : ℕ) (e : Fin 256) (d : Fin 128) : ℝ := ∑ j ∈ range m, ∑ r, X.k j r d * Real.exp (X.A m d - X.B j r d) * X.v j r e
/-- Its gradient, of the outputs of the chunks from `m` up to `N`. -/
def D (N m : ℕ) (e : Fin 256) (d : Fin 128) : ℝ := ∑ j ∈ Ico m N, ∑ r, X.g j r e * (X.q j r d * Real.exp (X.B j r d - X.A m d))

def dq (N m : ℕ) (r : Fin 64) (d : Fin 128) : ℝ := ∑ n ∈ range N, ∑ s, X.ga m r n s * (X.k n s d * X.p m r n s d)
def dk (N n : ℕ) (s : Fin 64) (d : Fin 128) : ℝ := ∑ m ∈ range N, ∑ r, X.ga m r n s * (X.q m r d * X.p m r n s d)
def dv (N n : ℕ) (s : Fin 64) (e : Fin 256) : ℝ := ∑ m ∈ range N, ∑ r, (∑ d, X.q m r d * X.k n s d * X.p m r n s d) * X.g m r e
/-- What a pair of tokens gives to the gradient of the log-decay between them. -/
def w (m : ℕ) (r : Fin 64) (n : ℕ) (s : Fin 64) (d : Fin 128) : ℝ := X.ga m r n s * (X.q m r d * X.k n s d * X.p m r n s d)
def db (N m : ℕ) (r : Fin 64) (d : Fin 128) : ℝ :=
  (∑ n ∈ range N, ∑ s, X.w m r n s d) - ∑ n ∈ range N, ∑ s, X.w n s m r d
def dc (N m : ℕ) (r : Fin 64) (d : Fin 128) : ℝ := X.db N m r d + if r = 63 then ∑ n ∈ Ico (m + 1) N, ∑ s, X.db N n s d else 0

theorem A_succ (m : ℕ) (d : Fin 128) : X.A (m + 1) d = X.A m d + X.c m 63 d := sum_range_succ _ _

theorem D_end (N : ℕ) (e : Fin 256) (d : Fin 128) : X.D N N e d = 0 := by simp [D]

theorem D_step (N m : ℕ) (h : m < N) (e : Fin 256) (d : Fin 128) :
    X.D N (m + 1) e d * Real.exp (X.c m 63 d) + ∑ r, X.g m r e * (X.q m r d * Real.exp (X.c m r d)) = X.D N m e d := by
  unfold D
  rw [sum_eq_sum_Ico_succ_bot h, add_comm, sum_mul]
  congr 1
  · refine sum_congr rfl fun r _ => ?_
    rw [B, add_sub_cancel_left]
  · refine sum_congr rfl fun j _ => ?_
    rw [sum_mul]
    refine sum_congr rfl fun r _ => ?_
    rw [mul_assoc, mul_assoc, ← Real.exp_add, A_succ]
    congr 3; ring

/-- A sum over the chunks before `m`, chunk `m`, and those after it. -/
theorem sum_parts {N m : ℕ} (h : m < N) (f : ℕ → ℝ) : ∑ n ∈ range N, f n = (∑ n ∈ range m, f n) + f m + ∑ n ∈ Ico (m + 1) N, f n := by
  rw [← sum_range_succ, sum_range_add_sum_Ico _ h]

theorem p_before {m n : ℕ} (h : n < m) (r s : Fin 64) (d : Fin 128) : X.p m r n s d = Real.exp (X.B m r d - X.B n s d) := if_pos (.inl h)
theorem p_after {m n : ℕ} (h : m < n) (r s : Fin 64) (d : Fin 128) : X.p m r n s d = 0 :=
  if_neg (by rintro (h' | h') <;> omega)
theorem p_in (m : ℕ) (r s : Fin 64) (d : Fin 128) : X.p m r m s d = if s ≤ r then Real.exp (X.c m r d - X.c m s d) else 0 := by
  unfold p Le B; simp

theorem dq_split {N m : ℕ} (h : m < N) (r : Fin 64) (d : Fin 128) : X.dq N m r d
    = Real.exp (X.c m r d) * (∑ e, X.g m r e * X.S m e d)
      + (∑ x, if x ≤ r then (∑ e, X.g m r e * X.v m x e) * (X.k m x d * Real.exp (X.c m 32 d - X.c m x d)) else 0) * Real.exp (X.c m r d - X.c m 32 d) := by
  unfold dq
  have h0 : ∑ n ∈ Ico (m + 1) N, ∑ s, X.ga m r n s * (X.k n s d * X.p m r n s d) = 0 :=
    sum_eq_zero fun n hn => sum_eq_zero fun s _ => by rw [p_after X (by have := (mem_Ico.mp hn).1; omega)]; ring
  rw [sum_parts h, h0, add_zero]
  congr 1
  · simp only [S, mul_sum]
    rw [sum_comm (s := univ (α := Fin 256))]
    refine sum_congr rfl fun n hn => ?_
    rw [sum_comm (s := univ (α := Fin 256))]
    refine sum_congr rfl fun s _ => ?_
    rw [p_before X (mem_range.mp hn), ga, sum_mul]
    refine sum_congr rfl fun e _ => ?_
    rw [show X.B m r d - X.B n s d = X.c m r d + (X.A m d - X.B n s d) by rw [B]; ring, Real.exp_add]; ring
  · rw [sum_mul]
    refine sum_congr rfl fun s _ => ?_
    rw [p_in]
    split_ifs
    · rw [ga, show X.c m r d - X.c m s d = (X.c m 32 d - X.c m s d) + (X.c m r d - X.c m 32 d) by ring, Real.exp_add]; ring
    · ring

theorem dk_split {N m : ℕ} (h : m < N) (r : Fin 64) (d : Fin 128) : X.dk N m r d
    = Real.exp (X.c m 63 d - X.c m r d) * (∑ e, X.v m r e * X.D N (m + 1) e d)
      + (∑ x, if r ≤ x then (∑ e, X.g m x e * X.v m r e) * (X.q m x d * Real.exp (X.c m x d - X.c m 32 d)) else 0) * Real.exp (X.c m 32 d - X.c m r d) := by
  unfold dk
  have h0 : ∑ n ∈ range m, ∑ s, X.ga n s m r * (X.q n s d * X.p n s m r d) = 0 :=
    sum_eq_zero fun n hn => sum_eq_zero fun s _ => by rw [p_after X (by have := mem_range.mp hn; omega)]; ring
  rw [sum_parts h, h0, zero_add, add_comm]
  congr 1
  · simp only [D, mul_sum]
    rw [sum_comm (s := univ (α := Fin 256))]
    refine sum_congr rfl fun n hn => ?_
    rw [sum_comm (s := univ (α := Fin 256))]
    refine sum_congr rfl fun s _ => ?_
    rw [p_before X (by have := (mem_Ico.mp hn).1; omega), ga, sum_mul]
    refine sum_congr rfl fun e _ => ?_
    rw [show X.B n s d - X.B m r d = (X.c m 63 d - X.c m r d) + (X.B n s d - X.A (m + 1) d) by
      rw [A_succ, show X.B m r d = X.A m d + X.c m r d from rfl]; ring, Real.exp_add]; ring
  · rw [sum_mul]
    refine sum_congr rfl fun s _ => ?_
    rw [p_in]
    split_ifs
    · rw [ga, show X.c m s d - X.c m r d = (X.c m s d - X.c m 32 d) + (X.c m 32 d - X.c m r d) by ring, Real.exp_add]; ring
    · ring

theorem dv_split {N m : ℕ} (h : m < N) (r : Fin 64) (e : Fin 256) : X.dv N m r e
    = (∑ d, X.k m r d * Real.exp (X.c m 63 d - X.c m r d) * X.D N (m + 1) e d)
      + ∑ x, if r ≤ x then (∑ d, X.q m x d * Real.exp (X.c m x d - X.c m 32 d) * (X.k m r d * Real.exp (X.c m 32 d - X.c m r d))) * X.g m x e else 0 := by
  unfold dv
  have h0 : ∑ n ∈ range m, ∑ s, (∑ d, X.q n s d * X.k m r d * X.p n s m r d) * X.g n s e = 0 :=
    sum_eq_zero fun n hn => sum_eq_zero fun s _ => by
      simp only [p_after X (mem_range.mp hn), mul_zero, sum_const_zero, zero_mul]
  rw [sum_parts h, h0, zero_add, add_comm]
  congr 1
  · simp only [D, mul_sum]
    rw [sum_comm (s := univ (α := Fin 128))]
    refine sum_congr rfl fun n hn => ?_
    rw [sum_comm (s := univ (α := Fin 128))]
    refine sum_congr rfl fun s _ => ?_
    rw [sum_mul]
    refine sum_congr rfl fun d _ => ?_
    rw [p_before X (by have := (mem_Ico.mp hn).1; omega)]
    rw [show X.B n s d - X.B m r d = (X.c m 63 d - X.c m r d) + (X.B n s d - X.A (m + 1) d) by
      rw [A_succ, show X.B m r d = X.A m d + X.c m r d from rfl]; ring, Real.exp_add]; ring
  · refine sum_congr rfl fun s _ => ?_
    simp only [p_in]
    split_ifs
    · rw [sum_mul, sum_mul]
      refine sum_congr rfl fun d _ => ?_
      rw [show X.c m s d - X.c m r d = (X.c m s d - X.c m 32 d) + (X.c m 32 d - X.c m r d) by ring, Real.exp_add]; ring
    · simp

theorem db_eq {N m : ℕ} (r : Fin 64) (d : Fin 128) : X.db N m r d = X.q m r d * X.dq N m r d - X.k m r d * X.dk N m r d := by
  unfold db dq dk w
  simp only [mul_sum]
  congr 1 <;> refine sum_congr rfl fun n _ => sum_congr rfl fun s _ => by ring

/-- Over the rows of the chunks after `m`: what they pass each other cancels, and what they take from the earlier chunks
goes through the state. -/
theorem db_after {N m : ℕ} (h : m < N) (d : Fin 128) :
    ∑ n ∈ Ico (m + 1) N, ∑ s, X.db N n s d = ∑ e, X.D N (m + 1) e d * X.S (m + 1) e d := by
  have key : ∑ n ∈ Ico (m + 1) N, ∑ s, X.db N n s d = ∑ n ∈ Ico (m + 1) N, ∑ s, ∑ j ∈ range (m + 1), ∑ r, X.w n s j r d := by
    have hs : ∀ f : ℕ → ℝ, ∑ n ∈ range N, f n = (∑ n ∈ range (m + 1), f n) + ∑ n ∈ Ico (m + 1) N, f n :=
      fun f => (sum_range_add_sum_Ico f h).symm
    simp only [db, hs, sum_sub_distrib, sum_add_distrib]
    have h1 : ∑ n ∈ Ico (m + 1) N, ∑ s, ∑ j ∈ range (m + 1), ∑ r, X.w j r n s d = 0 :=
      sum_eq_zero fun n hn => sum_eq_zero fun s _ => sum_eq_zero fun j hj => sum_eq_zero fun r _ => by
        rw [w, p_after X (by have := (mem_Ico.mp hn).1; have := mem_range.mp hj; omega)]; ring
    have h2 : ∑ n ∈ Ico (m + 1) N, ∑ s, ∑ j ∈ Ico (m + 1) N, ∑ r, X.w n s j r d
        = ∑ n ∈ Ico (m + 1) N, ∑ s, ∑ j ∈ Ico (m + 1) N, ∑ r, X.w j r n s d := by
      have sw : ∀ f : ℕ → Fin 64 → ℕ → Fin 64 → ℝ, ∑ n ∈ Ico (m + 1) N, ∑ s, ∑ j ∈ Ico (m + 1) N, ∑ r, f n s j r
          = ∑ j ∈ Ico (m + 1) N, ∑ r, ∑ n ∈ Ico (m + 1) N, ∑ s, f n s j r := fun f => by
        rw [sum_congr rfl fun n _ => sum_comm, sum_comm]
        refine sum_congr rfl fun j _ => ?_
        rw [sum_congr rfl fun n _ => sum_comm, sum_comm]
      exact sw fun n s j r => X.w n s j r d
    rw [h1, h2]; ring
  rw [key]
  simp only [D, S, sum_mul_sum]
  rw [sum_comm (s := univ) (t := Ico (m + 1) N)]
  refine sum_congr rfl fun n hn => ?_
  rw [sum_comm (s := univ) (t := range (m + 1)), sum_comm (s := univ) (t := range (m + 1))]
  refine sum_congr rfl fun j hj => ?_
  rw [sum_comm (s := univ (α := Fin 256)) (t := univ (α := Fin 64))]
  refine sum_congr rfl fun s _ => ?_
  rw [sum_comm (s := univ (α := Fin 256)) (t := univ (α := Fin 64))]
  refine sum_congr rfl fun r _ => ?_
  rw [w, p_before X (by have := (mem_Ico.mp hn).1; have := mem_range.mp hj; omega), ga, sum_mul]
  refine sum_congr rfl fun e _ => ?_
  rw [show X.B n s d - X.B j r d = (X.B n s d - X.A (m + 1) d) + (X.A (m + 1) d - X.B j r d) by ring, Real.exp_add]; ring

end Arr

end Cert.Scan
-- ==== Proof.Tokens.lean ====
/-
  The order of the tokens in time. The arrays hold the 2048 latent tokens first and the 256 context tokens after them; in
  time the context comes first. Both are cut into chunks of 64 rows: 36 chunks, four of them context.
-/
module

public import proofs.«01_k».proof.Proof.Math
public import Idealize.ShloMosaic.Lib.Pointwise

@[expose] public section

noncomputable section

namespace Cert.Scan

open Finset Idealize.ShloMosaic

/-- The position in time of the `i`-th chunk of the array. -/
def chunkTime (i : Fin 36) : ℕ := if i.val < 32 then i.val + 4 else i.val - 32
/-- The chunk in time of a token of the array, -/
def cm (t : Fin 2304) : ℕ := if t.val < 2048 then t.val / 64 + 4 else t.val / 64 - 32
/-- its row there, -/
def row (t : Fin 2304) : Fin 64 := ⟨t.val % 64, Nat.mod_lt _ (by decide)⟩
/-- and its position in time. -/
def time (t : Fin 2304) : ℕ := if t.val < 2048 then t.val + 256 else t.val - 2048
/-- The token of the array at a chunk in time and a row, -/
def tok (m : ℕ) (r : Fin 64) : Fin 2304 := ⟨if m < 4 then 2048 + (m * 64 + r.val) else ((m - 4) * 64 + r.val) % 2304, by
  have := r.isLt; have := Nat.mod_lt ((m - 4) * 64 + r.val) (show 2304 > 0 by decide); split_ifs <;> omega⟩
/-- and the latent token there. -/
def lat (m : ℕ) (r : Fin 64) : Fin 2048 := ⟨((m - 4) * 64 + r.val) % 2048, Nat.mod_lt _ (by decide)⟩
/-- A latent token as a token. -/
def ofLat (t : Fin 2048) : Fin 2304 := ⟨t.val, by omega⟩

theorem cm_lt (t : Fin 2304) : cm t < 36 := by have := t.isLt; unfold cm; split_ifs <;> omega
theorem cm_lat (t : Fin 2048) : cm (ofLat t) = t.val / 64 + 4 := if_pos t.isLt
theorem tok_cm (t : Fin 2304) : tok (cm t) (row t) = t := by
  have := t.isLt
  apply Fin.ext
  simp only [tok, cm, row]
  split_ifs <;> omega
theorem lat_cm (t : Fin 2048) : lat (cm (ofLat t)) (row (ofLat t)) = t := by
  have := t.isLt
  apply Fin.ext
  have h := cm_lat t
  simp only [lat, row, ofLat] at h ⊢
  omega
theorem cm_ctx {t : Fin 2304} (h : ¬ t.val < 2048) : cm t < 4 := by have := t.isLt; rw [cm, if_neg h]; omega
theorem cm_chunk (t : Fin 2304) : chunkTime ⟨t.val / 64, by have := t.isLt; omega⟩ = cm t := by
  have := t.isLt
  simp only [chunkTime, cm]
  split_ifs <;> omega
theorem time_eq (t : Fin 2304) : time t = cm t * 64 + (row t).val := by
  have := t.isLt
  simp only [time, cm, row]
  split_ifs <;> omega
theorem le_time (s t : Fin 2304) : time s ≤ time t ↔ Arr.Le (cm s) (row s) (cm t) (row t) := by
  rw [time_eq, time_eq, Arr.Le, Fin.le_def]
  have := (row s).isLt; have := (row t).isLt
  constructor
  · intro h
    by_cases h' : cm s < cm t
    · exact .inl h'
    · exact .inr (by constructor <;> omega)
  · rintro (h | ⟨h, h'⟩)
    · omega
    · rw [h]; omega

variable {M : Type*} [AddCommMonoid M]

/-- A sum over the array's chunks is one over the chunks in time; -/
theorem sum_chunks (f : ℕ → M) : ∑ i : Fin 36, f (chunkTime i) = ∑ m ∈ range 36, f m := by
  rw [Fin.sum_univ_two_halves 32 4 rfl, show range 36 = range (4 + 32) from rfl, sum_range_add, add_comm]
  refine congrArg₂ (· + ·) ?_ ?_
  · rw [← Fin.sum_univ_eq_sum_range]
    refine sum_congr rfl fun k _ => congrArg f ?_
    have := k.isLt
    simp only [chunkTime]; split_ifs <;> omega
  · rw [← Fin.sum_univ_eq_sum_range fun k => f (4 + k)]
    refine sum_congr rfl fun k _ => congrArg f ?_
    have := k.isLt
    simp only [chunkTime]; split_ifs <;> omega

/-- over all its tokens, one over chunks and rows; -/
theorem sum_toks (f : ℕ → Fin 64 → M) : ∑ t : Fin 2304, f (cm t) (row t) = ∑ m ∈ range 36, ∑ r, f m r := by
  rw [Fin.sum_univ_tiles 36 64 rfl, ← sum_chunks]
  refine sum_congr rfl fun j _ => sum_congr rfl fun r _ => ?_
  have := r.isLt; have := j.isLt
  congr 1
  · rw [← cm_chunk]; congr 1; apply Fin.ext; simp only; omega
  · apply Fin.ext; simp only [row]; omega

/-- over the latent ones, the same where the summand is zero at the context. -/
theorem sum_lats (f : ℕ → Fin 64 → M) (h : ∀ m < 4, ∀ r, f m r = 0) :
    ∑ t : Fin 2048, f (cm (ofLat t)) (row (ofLat t)) = ∑ m ∈ range 36, ∑ r, f m r := by
  rw [← sum_toks, Fin.sum_univ_two_halves (N := 2304) 2048 256 rfl]
  have h0 : ∑ k : Fin 256, f (cm ⟨2048 + k.val, by have := k.isLt; omega⟩) (row ⟨2048 + k.val, by have := k.isLt; omega⟩) = 0 :=
    sum_eq_zero fun k _ => h _ (cm_ctx (by simp only; omega)) _
  rw [h0, add_zero]
  rfl

/-- A sum over the array's chunks before chunk `m` in time; -/
theorem sum_before {m : ℕ} (hm : m ≤ 36) (f : ℕ → M) :
    ∑ i : Fin 36, (if chunkTime i < m then f (chunkTime i) else 0) = ∑ j ∈ range m, f j := by
  rw [sum_chunks fun j => if j < m then f j else 0, ← sum_filter]
  congr 1
  ext j; simp only [mem_filter, mem_range]; omega

/-- over those after it. -/
theorem sum_after (m : ℕ) (f : ℕ → M) :
    ∑ i : Fin 36, (if m < chunkTime i then f (chunkTime i) else 0) = ∑ j ∈ Ico (m + 1) 36, f j := by
  rw [sum_chunks fun j => if m < j then f j else 0, ← sum_filter]
  congr 1
  ext j; simp only [mem_filter, mem_range, mem_Ico]; omega

/-! ## The arguments as real numbers -/

/-- The five arguments, finite throughout. -/
structure Args where
  q : Fin 2 → Fin 2304 → Fin 512 → ℝ
  k : Fin 2 → Fin 2304 → Fin 512 → ℝ
  v : Fin 2 → Fin 2304 → Fin 1024 → ℝ
  c : Fin 2 → Fin 2304 → Fin 512 → ℝ
  g : Fin 2 → Fin 2048 → Fin 1024 → ℝ

/-- The columns of a head. -/
def col128 (h : Fin 4) (d : Fin 128) : Fin 512 := ⟨h.val * 128 + d.val, by omega⟩
def col256 (h : Fin 4) (e : Fin 256) : Fin 1024 := ⟨h.val * 256 + e.val, by omega⟩

theorem col128_div (h : Fin 4) (d : Fin 128) (hh : (col128 h d).val / 128 < 4) : (⟨(col128 h d).val / 128, hh⟩ : Fin 4) = h :=
  Fin.ext (by simp only [col128]; omega)
theorem col128_mod (h : Fin 4) (d : Fin 128) (hd : (col128 h d).val % 128 < 128) : (⟨(col128 h d).val % 128, hd⟩ : Fin 128) = d :=
  Fin.ext (by simp only [col128]; omega)
theorem col256_div (h : Fin 4) (e : Fin 256) (hh : (col256 h e).val / 256 < 4) : (⟨(col256 h e).val / 256, hh⟩ : Fin 4) = h :=
  Fin.ext (by simp only [col256]; omega)
theorem col256_mod (h : Fin 4) (e : Fin 256) (he : (col256 h e).val % 256 < 256) : (⟨(col256 h e).val % 256, he⟩ : Fin 256) = e :=
  Fin.ext (by simp only [col256]; omega)

/-- One head of one sample, in time. -/
def Args.arr (Y : Args) (b : Fin 2) (h : Fin 4) : Arr where
  q m r d := Y.q b (tok m r) (col128 h d)
  k m r d := Y.k b (tok m r) (col128 h d)
  v m r e := Y.v b (tok m r) (col256 h e)
  c m r d := Y.c b (tok m r) (col128 h d)
  g m r e := if 4 ≤ m then Y.g b (lat m r) (col256 h e) else 0

section
variable (Y : Args) (b : Fin 2) (h : Fin 4)
theorem Args.q_tok (t : Fin 2304) (d : Fin 128) : (Y.arr b h).q (cm t) (row t) d = Y.q b t (col128 h d) := by simp only [arr, tok_cm]
theorem Args.k_tok (t : Fin 2304) (d : Fin 128) : (Y.arr b h).k (cm t) (row t) d = Y.k b t (col128 h d) := by simp only [arr, tok_cm]
theorem Args.v_tok (t : Fin 2304) (e : Fin 256) : (Y.arr b h).v (cm t) (row t) e = Y.v b t (col256 h e) := by simp only [arr, tok_cm]
theorem Args.c_tok (t : Fin 2304) (d : Fin 128) : (Y.arr b h).c (cm t) (row t) d = Y.c b t (col128 h d) := by simp only [arr, tok_cm]
theorem Args.g_lat (t : Fin 2048) (e : Fin 256) : (Y.arr b h).g (cm (ofLat t)) (row (ofLat t)) e = Y.g b t (col256 h e) := by
  simp only [arr, lat_cm]; exact if_pos (by rw [cm_lat]; omega)
end

theorem Args.g_ctx (Y : Args) (b : Fin 2) (h : Fin 4) {m : ℕ} (hm : m < 4) (r : Fin 64) (e : Fin 256) : (Y.arr b h).g m r e = 0 :=
  if_neg (by omega)

theorem Args.ga_ctx (Y : Args) (b : Fin 2) (h : Fin 4) {m : ℕ} (hm : m < 4) (r : Fin 64) (n : ℕ) (s : Fin 64) :
    (Y.arr b h).ga m r n s = 0 :=
  sum_eq_zero fun e _ => by rw [Y.g_ctx b h hm, zero_mul]

/-! ## The programs' integers -/

theorem place_tok (t : Fin 2304) : Scalar.select (IntOp.cmpi .slt (BitVec.ofNat 32 t.val) 2048#32)
    (IntOp.addi (BitVec.ofNat 32 t.val) 256#32) (IntOp.subi (BitVec.ofNat 32 t.val) 2048#32) = BitVec.ofNat 32 (time t) := by
  revert t; decide +kernel

theorem place_chunk (i : Fin 36) : Scalar.select (IntOp.cmpi .slt (BitVec.ofNat 32 i.val) 32#32)
    (IntOp.addi (BitVec.ofNat 32 i.val) 4#32) (IntOp.subi (BitVec.ofNat 32 i.val) 32#32) = BitVec.ofNat 32 (chunkTime i) := by
  revert i; decide +kernel

theorem toInt_ofNat {a : ℕ} (ha : a < 2304) : (BitVec.ofNat 32 a).toInt = a := by
  rw [BitVec.toInt_eq_toNat_cond, BitVec.toNat_ofNat, Nat.mod_eq_of_lt (by omega), if_pos (by omega)]

theorem cmp_sle {a b : ℕ} (ha : a < 2304) (hb : b < 2304) :
    IntOp.cmpi .sle (BitVec.ofNat 32 a) (BitVec.ofNat 32 b) = BitVec.ofBool (decide (a ≤ b)) := by
  simp only [IntOp.cmpi, BitVec.sle, toInt_ofNat ha, toInt_ofNat hb, Nat.cast_le]

theorem cmp_slt {a b : ℕ} (ha : a < 2304) (hb : b < 2304) :
    IntOp.cmpi .slt (BitVec.ofNat 32 a) (BitVec.ofNat 32 b) = BitVec.ofBool (decide (a < b)) := by
  simp only [IntOp.cmpi, BitVec.slt, toInt_ofNat ha, toInt_ofNat hb, Nat.cast_lt]

end Cert.Scan
-- ==== Proof.Tiles.lean ====
/-
  A block of an output read at an index: the tile of its chunk and head.
-/
module

public import proofs.«01_k».proof.Proof.Pieces
public import proofs.«01_k».proof.Proof.Tokens

@[expose] public section

noncomputable section

namespace Cert.KernelIdeal.Scan

open Cert.KernelIdeal Cert.KernelIdeal.Gen Idealize.ShloMosaic Cert.Scan

variable {F : FTy → Type} [FloatOps F]

/-- Row `r` of chunk `j` among a block's 256 rows. -/
def row256 (j : Fin 4) (r : Fin 64) : Fin 256 := ⟨64 * j.val + r.val, by omega⟩

theorem mem_pairs (j h : Fin 4) : (j, h) ∈ pairs := by revert j h; decide

theorem canon_box128 (f : Fin 4 → Fin 4 → Vec F S1x64x128 .f32) (j h : Fin 4) (r : Fin 64) (d : Fin 128) :
    View.canon (pairs.map fun p => (⟨box128 p.1 p.2, f p.1 p.2⟩ : View.Piece (Elt F) S1x256x512 .f32)) (ix3 0 (row256 j r) (col128 h d))
      = f j h (ix3 0 r d) := by
  refine (View.canon_apply_of_pieces (fun y => f ⟨(y 1).val / 64, Nat.div_lt_of_lt_mul (y 1).isLt⟩ ⟨(y 2).val / 128, Nat.div_lt_of_lt_mul (y 2).isLt⟩
    (ix3 0 ⟨(y 1).val % 64, Nat.mod_lt _ (by decide)⟩ ⟨(y 2).val % 128, Nat.mod_lt _ (by decide)⟩)) _ ?_ _ ?_).trans ?_
  · intro p hp x
    obtain ⟨⟨j, h⟩, _, rfl⟩ := List.mem_map.mp hp
    have h0 := (x 0).isLt
    have h1 := (x 1).isLt
    have h2 := (x 2).isLt
    have e1 : ((box128 j h).emb x 1 : ℕ) = 64 * j.val + (x 1).val := ValueKit.rect_emb_unit_val _ _ _ x 1
    have e2 : ((box128 j h).emb x 2 : ℕ) = 128 * h.val + (x 2).val := ValueKit.rect_emb_unit_val _ _ _ x 2
    change (x 0).val < 1 at h0
    change (x 1).val < 64 at h1
    change (x 2).val < 128 at h2
    refine (congrArg₂ (fun a b => f a b x) (Fin.ext ?_) (Fin.ext ?_)).trans (congrArg (f _ _) ?_)
    · show j.val = ((box128 j h).emb x 1 : ℕ) / 64; omega
    · show h.val = ((box128 j h).emb x 2 : ℕ) / 128; omega
    · funext a
      match a with
      | ⟨0, _⟩ => exact Fin.ext (Nat.lt_one_iff.mp h0)
      | ⟨1, _⟩ => exact Fin.ext (by show (x 1).val = ((box128 j h).emb x 1 : ℕ) % 64; omega)
      | ⟨2, _⟩ => exact Fin.ext (by show (x 2).val = ((box128 j h).emb x 2 : ℕ) % 128; omega)
  · refine ⟨_, List.mem_map.mpr ⟨(j, h), mem_pairs j h, rfl⟩, ?_⟩
    show _ ∈ (box128 j h).set
    rw [Rect.mem_set_unit]
    intro a
    have := r.isLt
    have := d.isLt
    match a with
    | ⟨0, _⟩ => exact ⟨le_refl _, Nat.one_pos⟩
    | ⟨1, _⟩ => show 64 * j.val ≤ 64 * j.val + r.val ∧ 64 * j.val + r.val < 64 * j.val + 64; omega
    | ⟨2, _⟩ => show 128 * h.val ≤ h.val * 128 + d.val ∧ h.val * 128 + d.val < 128 * h.val + 128; omega
  · have := r.isLt
    have := d.isLt
    refine (congrArg₂ (fun a b => f a b _) (Fin.ext ?_) (Fin.ext ?_)).trans (congrArg (f _ _) ?_)
    · show (64 * j.val + r.val) / 64 = _; omega
    · show (h.val * 128 + d.val) / 128 = _; omega
    · refine congrArg₂ (ix3 0) (Fin.ext ?_) (Fin.ext ?_)
      · show (64 * j.val + r.val) % 64 = _; omega
      · show (h.val * 128 + d.val) % 128 = _; omega

theorem canon_box256 (f : Fin 4 → Fin 4 → Vec F S1x64x256 .f32) (j h : Fin 4) (r : Fin 64) (e : Fin 256) :
    View.canon (pairs.map fun p => (⟨box256 p.1 p.2, f p.1 p.2⟩ : View.Piece (Elt F) S1x256x1024 .f32)) (ix3 0 (row256 j r) (col256 h e))
      = f j h (ix3 0 r e) := by
  refine (View.canon_apply_of_pieces (fun y => f ⟨(y 1).val / 64, Nat.div_lt_of_lt_mul (y 1).isLt⟩ ⟨(y 2).val / 256, Nat.div_lt_of_lt_mul (y 2).isLt⟩
    (ix3 0 ⟨(y 1).val % 64, Nat.mod_lt _ (by decide)⟩ ⟨(y 2).val % 256, Nat.mod_lt _ (by decide)⟩)) _ ?_ _ ?_).trans ?_
  · intro p hp x
    obtain ⟨⟨j, h⟩, _, rfl⟩ := List.mem_map.mp hp
    have h0 := (x 0).isLt
    have h1 := (x 1).isLt
    have h2 := (x 2).isLt
    have e1 : ((box256 j h).emb x 1 : ℕ) = 64 * j.val + (x 1).val := ValueKit.rect_emb_unit_val _ _ _ x 1
    have e2 : ((box256 j h).emb x 2 : ℕ) = 256 * h.val + (x 2).val := ValueKit.rect_emb_unit_val _ _ _ x 2
    change (x 0).val < 1 at h0
    change (x 1).val < 64 at h1
    change (x 2).val < 256 at h2
    refine (congrArg₂ (fun a b => f a b x) (Fin.ext ?_) (Fin.ext ?_)).trans (congrArg (f _ _) ?_)
    · show j.val = ((box256 j h).emb x 1 : ℕ) / 64; omega
    · show h.val = ((box256 j h).emb x 2 : ℕ) / 256; omega
    · funext a
      match a with
      | ⟨0, _⟩ => exact Fin.ext (Nat.lt_one_iff.mp h0)
      | ⟨1, _⟩ => exact Fin.ext (by show (x 1).val = ((box256 j h).emb x 1 : ℕ) % 64; omega)
      | ⟨2, _⟩ => exact Fin.ext (by show (x 2).val = ((box256 j h).emb x 2 : ℕ) % 256; omega)
  · refine ⟨_, List.mem_map.mpr ⟨(j, h), mem_pairs j h, rfl⟩, ?_⟩
    show _ ∈ (box256 j h).set
    rw [Rect.mem_set_unit]
    intro a
    have := r.isLt
    have := e.isLt
    match a with
    | ⟨0, _⟩ => exact ⟨le_refl _, Nat.one_pos⟩
    | ⟨1, _⟩ => show 64 * j.val ≤ 64 * j.val + r.val ∧ 64 * j.val + r.val < 64 * j.val + 64; omega
    | ⟨2, _⟩ => show 256 * h.val ≤ h.val * 256 + e.val ∧ h.val * 256 + e.val < 256 * h.val + 256; omega
  · have := r.isLt
    have := e.isLt
    refine (congrArg₂ (fun a b => f a b _) (Fin.ext ?_) (Fin.ext ?_)).trans (congrArg (f _ _) ?_)
    · show (64 * j.val + r.val) / 64 = _; omega
    · show (h.val * 256 + e.val) / 256 = _; omega
    · refine congrArg₂ (ix3 0) (Fin.ext ?_) (Fin.ext ?_)
      · show (64 * j.val + r.val) % 64 = _; omega
      · show (h.val * 256 + e.val) % 256 = _; omega

theorem canon_boxC (f : Fin 4 → Vec F S1x256x128 .f32) (L : List (View.Piece (Elt F) S4x256x128 .f32)) (h : Fin 4) (e : Fin 256) (d : Fin 128) :
    View.canon (⟨boxC 3, f 3⟩ :: ⟨boxC 2, f 2⟩ :: ⟨boxC 1, f 1⟩ :: ⟨boxC 0, f 0⟩ :: L : List (View.Piece (Elt F) S4x256x128 .f32)) (ix3 h e d)
      = f h (ix3 0 e d) := by
  have hit : ∀ (h : Fin 4) (L : List (View.Piece (Elt F) S4x256x128 .f32)), View.canon (⟨boxC h, f h⟩ :: L) (ix3 h e d) = f h (ix3 0 e d) := fun h L => by
    have := View.canon_cons_emb (boxC h) (f h) L (ix3 0 e d)
    rw [← this]
    congr 1
    funext a
    refine Fin.ext ?_
    have hv := ValueKit.rect_emb_unit_val ![h.val, 0, 0] S1x256x128.size (s := S4x256x128) (by have := h.isLt; intro a; fin_cases a <;> simp [S4x256x128, S1x256x128] <;> omega) (ix3 0 e d) a
    refine Eq.trans ?_ hv.symm
    match a with
    | ⟨0, _⟩ => rfl
    | ⟨1, _⟩ => exact (Nat.zero_add _).symm
    | ⟨2, _⟩ => exact (Nat.zero_add _).symm
  have miss : ∀ (h' : Fin 4) (w) (L : List (View.Piece (Elt F) S4x256x128 .f32)), h ≠ h' →
      View.canon (⟨boxC h', w⟩ :: L) (ix3 h e d) = View.canon L (ix3 h e d) := fun h' w L hne => by
    refine View.canon_cons_of_not_mem _ _ fun hm => hne ?_
    change _ ∈ (boxC h').set at hm
    rw [Rect.mem_set_unit] at hm
    have h0 : h'.val ≤ h.val ∧ h.val < h'.val + 1 := hm 0
    exact Fin.ext (by omega)
  match h with
  | 3 => exact hit 3 _
  | 2 => rw [miss 3 _ _ (by decide)]; exact hit 2 _
  | 1 => rw [miss 3 _ _ (by decide), miss 2 _ _ (by decide)]; exact hit 1 _
  | 0 => rw [miss 3 _ _ (by decide), miss 2 _ _ (by decide), miss 1 _ _ (by decide)]; exact hit 0 _

end Cert.KernelIdeal.Scan
-- ==== Proof.Point.lean ====
/-
  What each grid point leaves, tile by tile: the four results' blocks and the two carried states.
-/
module

public import proofs.«01_k».proof.Proof.PiecesA
public import proofs.«01_k».proof.Proof.PiecesB
public import proofs.«01_k».proof.Proof.Tiles

@[expose] public section

noncomputable section

namespace Cert.KernelIdeal.Scan

open Cert.KernelIdeal Cert.KernelIdeal.Gen Idealize.ShloMosaic Cert.Scan

variable {F : FTy → Type} [FloatOps F]

/-- What a point leaves: the blocks of the four results, the state gradient and the state it carries on. -/
abbrev Outs (F : FTy → Type) [FloatOps F] : Type :=
  Vec F S1x256x512 .f32 × Vec F S1x256x512 .f32 × Vec F S1x256x1024 .f32 × Vec F S1x256x512 .f32 × Vec F S4x256x128 .f32 × Vec F S4x256x128 .f32

/-- They are the tiles of Step.lean. -/
structure PointIs (o : Outs F) (i : grid0.Coords) (x0 : Vec F S1x256x512 .f32) (x1 : Vec F S1x256x512 .bf16) (x2 : Vec F S1x256x1024 .bf16)
    (x3 : Vec F S1x256x512 .f32) (x4 : Vec F S1x4x4x256x128 .bf16) (x6 : Vec F S1x256x1024 .f32) (xs0 xs1 : Vec F S4x256x128 .f32) : Prop where
  dq : ∀ j h r d, o.1 (ix3 0 (row256 j r) (col128 h d)) = dqAt i x0 x1 x2 x3 x4 x6 j h (ix3 0 r d)
  dk : ∀ j h r d, o.2.1 (ix3 0 (row256 j r) (col128 h d)) = dkAt i x0 x1 x2 x3 x4 x6 xs0 j h (ix3 0 r d)
  dv : ∀ j h r e, o.2.2.1 (ix3 0 (row256 j r) (col256 h e)) = dvAt i x0 x1 x2 x3 x4 x6 xs0 j h (ix3 0 r e)
  dc : ∀ j h r d, o.2.2.2.1 (ix3 0 (row256 j r) (col128 h d)) = dcAt i x0 x1 x2 x3 x4 x6 xs0 xs1 j h (ix3 0 r d)
  ds : ∀ h e d, o.2.2.2.2.1 (ix3 h e d) = dsEnd i x0 x1 x2 x3 x4 x6 xs0 h (ix3 0 e d)
  sn : ∀ h e d, o.2.2.2.2.2 (ix3 h e d) = snEnd i x0 x1 x2 x3 x4 x6 h (ix3 0 e d)

variable (m : (ℓ : Loc nD τ sig) → Buf (Elt F) ℓ) (c : Dev nD) (t : Fin cfg0.N)

theorem point_B (h0 : ¬t.val % 9 = 0) :
    PointIs (outsAt0 m c t.val t.isLt) (grid0.coords t) (iblk m c 0 t) (iblk m c 1 t) (iblk m c 2 t) (iblk m c 3 t) (iblk m c 4 t) (iblk m c 6 t)
      (outsAt0 m c (t.val - 1) (Nat.lt_of_le_of_lt (Nat.sub_le _ _) t.isLt)).2.2.2.2.1
      (outsAt0 m c (t.val - 1) (Nat.lt_of_le_of_lt (Nat.sub_le _ _) t.isLt)).2.2.2.2.2 := by
  obtain ⟨e7, e8, e9, e10, ⟨L0, e11⟩, ⟨L1, e12⟩⟩ := piecesB c (grid0.coords t) (ms0_0 t) (hs0_0 t) (ms0_1 t) (hs0_1 t) (ms0_2 t) (hs0_2 t)
    (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
    (ms0_10 t) (hs0_10 t) scM0_0 (Memref.isWhole_whole _) scM0_1 (Memref.isWhole_whole _) scM0_2 (Memref.isWhole_whole _)
    scM0_3 (Memref.isWhole_whole _) scM0_4 (Memref.isWhole_whole _) (fun h => h0 ((hcond0_0 t).mp h)) (iblk m c 0 t) (iblk m c 1 t) (iblk m c 2 t)
    (iblk m c 3 t) (iblk m c 4 t) (iblk m c 5 t) (iblk m c 6 t) (outsAt0 m c (t.val - 1) (Nat.lt_of_le_of_lt (Nat.sub_le _ _) t.isLt)).2.2.2.2.1
    (outsAt0 m c (t.val - 1) (Nat.lt_of_le_of_lt (Nat.sub_le _ _) t.isLt)).2.2.2.2.2
  rw [outsAt0_B m c t h0]
  constructor
  · intro j h r d
    dsimp only [out0_B_7]; rw [View.read_writes_junk_eq_canon, e7]; exact canon_box128 _ j h r d
  · intro j h r d
    dsimp only [out0_B_8]; rw [View.read_writes_junk_eq_canon, e8]; exact canon_box128 _ j h r d
  · intro j h r e
    dsimp only [out0_B_9]; rw [View.read_writes_junk_eq_canon, e9]; exact canon_box256 _ j h r e
  · intro j h r d
    dsimp only [out0_B_10]; rw [View.read_writes_junk_eq_canon, e10]; exact canon_box128 _ j h r d
  · intro h e d
    dsimp only [sout0_B_0]; rw [View.read_writes_junk_eq_canon, e11]; exact canon_boxC _ L0 h e d
  · intro h e d
    dsimp only [sout0_B_1]; rw [View.read_writes_junk_eq_canon, e12]; exact canon_boxC _ L1 h e d

theorem point_A (h0 : t.val % 9 = 0) :
    PointIs (outsAt0 m c t.val t.isLt) (grid0.coords t) (iblk m c 0 t) (iblk m c 1 t) (iblk m c 2 t) (iblk m c 3 t) (iblk m c 4 t) (iblk m c 6 t)
      ds0 (sn0 (iblk m c 5 t)) := by
  obtain ⟨e7, e8, e9, e10, ⟨L0, e11⟩, ⟨L1, e12⟩⟩ := piecesA c (grid0.coords t) (ms0_0 t) (hs0_0 t) (ms0_1 t) (hs0_1 t) (ms0_2 t) (hs0_2 t)
    (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
    (ms0_10 t) (hs0_10 t) scM0_0 (Memref.isWhole_whole _) scM0_1 (Memref.isWhole_whole _) scM0_2 (Memref.isWhole_whole _)
    scM0_3 (Memref.isWhole_whole _) scM0_4 (Memref.isWhole_whole _) ((hcond0_0 t).mpr h0) (iblk m c 0 t) (iblk m c 1 t) (iblk m c 2 t)
    (iblk m c 3 t) (iblk m c 4 t) (iblk m c 5 t) (iblk m c 6 t)
  rw [outsAt0_A m c t h0]
  constructor
  · intro j h r d
    dsimp only [out0_A_7]; rw [View.read_writes_junk_eq_canon, e7]; exact canon_box128 _ j h r d
  · intro j h r d
    dsimp only [out0_A_8]; rw [View.read_writes_junk_eq_canon, e8]; exact canon_box128 _ j h r d
  · intro j h r e
    dsimp only [out0_A_9]; rw [View.read_writes_junk_eq_canon, e9]; exact canon_box256 _ j h r e
  · intro j h r d
    dsimp only [out0_A_10]; rw [View.read_writes_junk_eq_canon, e10]; exact canon_box128 _ j h r d
  · intro h e d
    dsimp only [sout0_A_0]; rw [View.read_writes_junk_eq_canon, e11]; exact canon_boxC _ L0 h e d
  · intro h e d
    dsimp only [sout0_A_1]; rw [View.read_writes_junk_eq_canon, e12]; exact canon_boxC _ L1 h e d

end Cert.KernelIdeal.Scan
-- ==== Proof.States.lean ====
/-
  The states the host hands the kernel: the operations before the region, read as terms of the arguments.
-/
module

public import proofs.«01_k».proof.Proof.Gen.KernelIdeal.Value
public import proofs.«01_k».proof.Proof.Gen.ReferenceIdeal.Read

@[expose] public section

noncomputable section

namespace Cert.KernelIdeal.Scan

open Cert.KernelIdeal Cert.KernelIdeal.Gen Idealize.ShloMosaic Idealize.ShloMosaic.TcCoe
open Cert.ReferenceIdeal.Read (val_main_v5 val_main_v7 val_main_v18 val_main_v26 val_main_v33 val_main_v41)

variable {F : FTy → Type} [FloatOps F]

/-- Which chunks come before which of the 37 chunk boundaries, in time. -/
def chunkBefore : IVec S37x36 1 :=
  cmpi .slt (broadcastInDim S37x36 ![0, 1] bcast_S1x36_S37x36_0_1 (broadcastInDim S1x36 ![1] bcast_S36_S1x36_1 (val_main_v18 (F := F))))
    (broadcastInDim S37x36 ![0, 1] bcast_S37x1_S37x36_0_1 (broadcastInDim S37x1 ![0] bcast_S37_S37x1_0 (iotaInDim S37 32 0)))

/-- Which tokens come before which of the 37 chunk boundaries, in time. -/
def tokBefore : IVec S37x2304 1 :=
  cmpi .slt (broadcastInDim S37x2304 ![0, 1] bcast_S1x2304_S37x2304_0_1 (broadcastInDim S1x2304 ![1] bcast_S2304_S1x2304_1 (val_main_v41 (F := F))))
    (broadcastInDim S37x2304 ![0, 1] bcast_S37x1_S37x2304_0_1 (muli (broadcastInDim S37x1 ![0] bcast_S37_S37x1_0 (iotaInDim S37 32 0))
      (broadcastInDim S37x1 ![] bcast_S_S37x1 (constantI S_ 32 64#32))))

/-- The log-decay up to each boundary. -/
def startAll (x3 : Vec F S2x2304x512 .f32) : Vec F S2x4x37x128 .f32 :=
  Host.reduceAdd (select (broadcastInDim S2x4x37x36x128 ![2, 3, 4] bcast_S37x36x1_S2x4x37x36x128_2_3_4
      (broadcastInDim S37x36x1 ![0, 1] bcast_S37x36_S37x36x1_0_1 (chunkBefore (F := F))))
    (broadcastInDim S2x4x37x36x128 ![0, 1, 2, 3, 4] bcast_S2x4x1x36x128_S2x4x37x36x128_0_1_2_3_4
      (broadcastInDim S2x4x1x36x128 ![0, 1, 3, 4] bcast_S2x4x36x128_S2x4x1x36x128_0_1_3_4 (val_main_v26 x3)))
    (broadcastInDim S2x4x37x36x128 ![] bcast_S_S2x4x37x36x128 (id (constant S_ .f32 0x00000000#32))))
    (constant S_ .f32 0x00000000#32) reducesTo_S2x4x37x36x128_S2x4x37x128_d3 h_S_

/-- The log-decay from each token to each boundary. -/
def relAll (x3 : Vec F S2x2304x512 .f32) : Vec F S2x4x37x2304x128 .f32 :=
  subf (broadcastInDim S2x4x37x2304x128 ![0, 1, 2, 3, 4] bcast_S2x4x37x1x128_S2x4x37x2304x128_0_1_2_3_4
      (broadcastInDim S2x4x37x1x128 ![0, 1, 2, 4] bcast_S2x4x37x128_S2x4x37x1x128_0_1_2_4 (startAll x3)))
    (broadcastInDim S2x4x37x2304x128 ![0, 1, 2, 3, 4] bcast_S2x4x1x2304x128_S2x4x37x2304x128_0_1_2_3_4
      (broadcastInDim S2x4x1x2304x128 ![0, 1, 3, 4] bcast_S2x4x2304x128_S2x4x1x2304x128_0_1_3_4 (val_main_v33 x3)))

/-- The decay from each token to each boundary. -/
def decayAll (x3 : Vec F S2x2304x512 .f32) : Vec F S2x4x37x2304x128 .f32 :=
  Host.exp (select (broadcastInDim S2x4x37x2304x128 ![2, 3, 4] bcast_S37x2304x1_S2x4x37x2304x128_2_3_4
      (broadcastInDim S37x2304x1 ![0, 1] bcast_S37x2304_S37x2304x1_0_1 (tokBefore (F := F))))
    (relAll x3) (broadcastInDim S2x4x37x2304x128 ![] bcast_S_S2x4x37x2304x128 (id (constant S_ .f32 0xFF800000#32))))

/-- The keys, decayed to each boundary. -/
def keysAll (x1 : Vec F S2x2304x512 .bf16) (x3 : Vec F S2x2304x512 .f32) : Vec F S2x4x37x2304x128 .f32 :=
  mulf (broadcastInDim S2x4x37x2304x128 ![0, 1, 2, 3, 4] bcast_S2x4x1x2304x128_S2x4x37x2304x128_0_1_2_3_4
    (broadcastInDim S2x4x1x2304x128 ![0, 1, 3, 4] bcast_S2x4x2304x128_S2x4x1x2304x128_0_1_3_4 (val_main_v5 x1))) (decayAll x3)

/-- The state at each boundary. -/
def stateAll (x1 : Vec F S2x2304x512 .bf16) (x2 : Vec F S2x2304x1024 .bf16) (x3 : Vec F S2x2304x512 .f32) : Vec F S2x4x37x256x128 .f32 :=
  transpose S2x4x37x256x128 [0, 1, 3, 2, 4]
    (Host.dotGeneral dot_S2x4x2304x256_S2x4x37x2304x128_S2x4x256x37x128_2_3_3_24_01_01 none (val_main_v7 x2) (keysAll x1 x3))
    transposes_S2x4x256x37x128_S2x4x37x256x128_0_1_3_2_4

/-- The states before the chunks, as the kernel takes them. -/
def stateIn (x1 : Vec F S2x2304x512 .bf16) (x2 : Vec F S2x2304x1024 .bf16) (x3 : Vec F S2x2304x512 .f32) : Vec F S2x4x36x256x128 .bf16 :=
  truncf .bf16 (extractStridedSlice S2x4x36x256x128 ![0, 0, 0, 0, 0] (stateAll x1 x2 x3) slices_S2x4x37x256x128_S2x4x36x256x128_0_0_0_0_0)
    bitsLt_bf16_f32

/-- The last state. -/
def stateEnd (x1 : Vec F S2x2304x512 .bf16) (x2 : Vec F S2x2304x1024 .bf16) (x3 : Vec F S2x2304x512 .f32) : Vec F S2x4x256x128 .f32 :=
  shapeCast S2x4x256x128 (extractStridedSlice S2x4x1x256x128 ![0, 0, 36, 0, 0] (stateAll x1 x2 x3) slices_S2x4x37x256x128_S2x4x1x256x128_0_0_36_0_0)
    shapeCasts_S2x4x1x256x128_S2x4x256x128

variable (m : (ℓ : Loc nD τ sig) → Buf (Elt F) ℓ) (c : Dev nD)

set_option maxHeartbeats 4000000 in
set_option maxRecDepth 100000 in
theorem V_stateIn : V m c main_v82 = stateIn (m (c, main_arg1)) (m (c, main_arg2)) (m (c, main_arg3)) := by
  unfold V
  simp only [hostOps0, hostOps0_1, hostOps0_2, hostOps0_3, hostOps0_4, hostOps0_5, hostOps0_6, hostOps0_7, hostOps0_8, hostOps0_9, hostOps0_10,
    hostOps0_11, hostOps0_12, List.flatten_cons, List.flatten_nil, List.cons_append, List.nil_append, List.append_nil,
    StableHlo.TRef.binary, StableHlo.TRef.nullary, StableHlo.TRef.ternary, StableHlo.TRef.unary, StableHlo.TRef.toBuf, StableHlo.TRef.ofBuf, cast_eq]
  after_results_simp
  rfl

set_option maxHeartbeats 4000000 in
set_option maxRecDepth 100000 in
theorem V_stateEnd : V m c main_v84 = stateEnd (m (c, main_arg1)) (m (c, main_arg2)) (m (c, main_arg3)) := by
  unfold V
  simp only [hostOps0, hostOps0_1, hostOps0_2, hostOps0_3, hostOps0_4, hostOps0_5, hostOps0_6, hostOps0_7, hostOps0_8, hostOps0_9, hostOps0_10,
    hostOps0_11, hostOps0_12, List.flatten_cons, List.flatten_nil, List.cons_append, List.nil_append, List.append_nil,
    StableHlo.TRef.binary, StableHlo.TRef.nullary, StableHlo.TRef.ternary, StableHlo.TRef.unary, StableHlo.TRef.toBuf, StableHlo.TRef.ofBuf, cast_eq]
  after_results_simp
  rfl

end Cert.KernelIdeal.Scan
-- ==== Proof.Block.lean ====
/-
  One chunk over the real numbers: where the chunk's arrays hold finite numbers, so does everything the kernel computes
  from them, and each is the plain formula below.
-/
module

public import proofs.«01_k».proof.Proof.Step
public import Idealize.ShloMosaic.Lib.Pointwise

@[expose] public section

noncomputable section

namespace Cert.KernelIdeal.Scan

open Cert.KernelIdeal Cert.KernelIdeal.Gen Idealize.ShloMosaic Idealize.ShloMosaic.Pointwise

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_ite (p : Prop) [Decidable p] (a b : ℝ) : ((if p then a else b : ℝ) : EReal) = if p then (a : EReal) else (b : EReal) :=
  apply_ite _ _ _ _

/-- The kernel's causal mask at a pair of rows. -/
theorem cmp_rows (x r : Fin 64) : IntOp.cmpi CmpIPredicate.sle (IntOp.addi (0#32) (BitVec.ofNat 32 ↑x)) (IntOp.addi (0#32) (BitVec.ofNat 32 ↑r))
    = BitVec.ofBool (decide (x ≤ r)) := by
  revert x r; decide +kernel

/-- The kernel's mask of the last row. -/
theorem cmp_last (r : Fin 64) : IntOp.cmpi CmpIPredicate.eq (BitVec.ofNat 32 ↑r) 63#32 = BitVec.ofBool (decide (r = 63)) := by
  revert r; decide +kernel

/-- The arrays of one chunk of one head, as real numbers. -/
structure RBlk where
  q : Fin 64 → Fin 128 → ℝ
  k : Fin 64 → Fin 128 → ℝ
  v : Fin 64 → Fin 256 → ℝ
  c : Fin 64 → Fin 128 → ℝ
  s : Fin 256 → Fin 128 → ℝ
  g : Fin 64 → Fin 256 → ℝ

namespace RBlk
variable (R : RBlk) (D S : Fin 256 → Fin 128 → ℝ)

def dq (r : Fin 64) (d : Fin 128) : ℝ := Real.exp (R.c r d) * ∑ e, R.g r e * R.s e d
  + (∑ x, if x ≤ r then (∑ e, R.g r e * R.v x e) * (R.k x d * Real.exp (R.c 32 d - R.c x d)) else 0) * Real.exp (R.c r d - R.c 32 d)

def dk (r : Fin 64) (d : Fin 128) : ℝ := Real.exp (R.c 63 d - R.c r d) * ∑ e, R.v r e * D e d
  + (∑ x, if r ≤ x then (∑ e, R.g x e * R.v r e) * (R.q x d * Real.exp (R.c x d - R.c 32 d)) else 0) * Real.exp (R.c 32 d - R.c r d)

def dv (r : Fin 64) (e : Fin 256) : ℝ := ∑ d, R.k r d * Real.exp (R.c 63 d - R.c r d) * D e d
  + ∑ x, if r ≤ x then (∑ d, R.q x d * Real.exp (R.c x d - R.c 32 d) * (R.k r d * Real.exp (R.c 32 d - R.c r d))) * R.g x e else 0

def dc (r : Fin 64) (d : Fin 128) : ℝ := R.q r d * R.dq r d - R.k r d * R.dk D r d + if r = 63 then ∑ e, D e d * S e d else 0

def dsPrev (e : Fin 256) (d : Fin 128) : ℝ := D e d * Real.exp (R.c 63 d) + ∑ x, R.g x e * (R.q x d * Real.exp (R.c x d))

end RBlk

/-- The chunk's arrays hold these real numbers. -/
structure Blk.Is (B : Blk Ideal) (R : RBlk) : Prop where
  q : ∀ r d, B.q (ix3 0 r d) = (R.q r d : EReal)
  k : ∀ r d, B.k (ix3 0 r d) = (R.k r d : EReal)
  v : ∀ r e, B.v (ix3 0 r e) = (R.v r e : EReal)
  c : ∀ r d, B.c (ix3 0 r d) = (R.c r d : EReal)
  s : ∀ e d, B.s (ix5 0 0 0 e d) = (R.s e d : EReal)
  g : ∀ r e, B.g (ix2 r e) = (R.g r e : EReal)

variable {B : Blk Ideal} {R : RBlk} (H : B.Is R) {ds sn : FVec Ideal S256x128 .f32} {D S : Fin 256 → Fin 128 → ℝ}
  (hD : ∀ e d, ds (ix2 e d) = (D e d : EReal)) (hS : ∀ e d, sn (ix2 e d) = (S e d : EReal))

include H in
theorem Blk.dq_real (r : Fin 64) (d : Fin 128) : B.dq (ix2 r d) = (R.dq r d : EReal) := by
  pointwise [Blk.dq, Blk.q', Blk.k', Blk.v', Blk.c', Blk.s', Blk.g', Blk.da, Blk.a, Blk.qs, Blk.ks, Blk.ek, Blk.eq, Blk.mid,
    Blk.edge, Blk.out, Blk.mask]
  simp only [H.q, H.k, H.v, H.c, H.s, H.g, cmp_rows, Scalar.select_decide, RBlk.dq, EReal.coe_add, EReal.coe_mul, coe_sum, coe_ite,
    EReal.coe_sub, ← Ideal.exp_coe, EReal.coe_zero]

include H hD in
theorem Blk.dk_real (r : Fin 64) (d : Fin 128) : B.dk ds (ix2 r d) = (R.dk D r d : EReal) := by
  pointwise [Blk.dk, Blk.q', Blk.k', Blk.v', Blk.c', Blk.ds', Blk.g', Blk.da, Blk.a, Blk.qs, Blk.ks, Blk.ek, Blk.eq, Blk.mid,
    Blk.edge, Blk.out, Blk.mask]
  simp only [H.q, H.k, H.v, H.c, hD, H.g, cmp_rows, Scalar.select_decide, RBlk.dk, EReal.coe_add, EReal.coe_mul, coe_sum, coe_ite,
    EReal.coe_sub, ← Ideal.exp_coe, EReal.coe_zero]

include H hD in
theorem Blk.dv_real (r : Fin 64) (e : Fin 256) : B.dv ds (ix2 r e) = (R.dv D r e : EReal) := by
  pointwise [Blk.dv, Blk.q', Blk.k', Blk.v', Blk.c', Blk.ds', Blk.g', Blk.da, Blk.a, Blk.qs, Blk.ks, Blk.ek, Blk.eq, Blk.mid,
    Blk.edge, Blk.out, Blk.mask]
  simp only [H.q, H.k, H.v, H.c, hD, H.g, cmp_rows, Scalar.select_decide, RBlk.dv, EReal.coe_add, EReal.coe_mul, coe_sum, coe_ite,
    EReal.coe_sub, ← Ideal.exp_coe, EReal.coe_zero]

include H hD hS in
theorem Blk.dc_real (r : Fin 64) (d : Fin 128) : B.dc ds sn (ix2 r d) = (R.dc D S r d : EReal) := by
  pointwise [Blk.dc, Blk.lastRow, Blk.q', Blk.k']
  simp only [H.q, H.k, hD, hS, Blk.dq_real H, Blk.dk_real H hD, cmp_last, Scalar.select_decide, RBlk.dc, EReal.coe_add, EReal.coe_mul,
    coe_sum, coe_ite, EReal.coe_sub, EReal.coe_zero]

include H hD in
theorem Blk.dsPrev_real (e : Fin 256) (d : Fin 128) : B.dsPrev ds (ix2 e d) = (R.dsPrev D e d : EReal) := by
  pointwise [Blk.dsPrev, Blk.q', Blk.c', Blk.g', Blk.edge]
  simp only [H.q, H.c, hD, H.g, RBlk.dsPrev, EReal.coe_add, EReal.coe_mul, coe_sum, ← Ideal.exp_coe]

include H in
theorem Blk.sPrev_real (e : Fin 256) (d : Fin 128) : B.sPrev (ix2 e d) = (R.s e d : EReal) := by
  pointwise [Blk.sPrev, Blk.s']
  exact H.s e d

end Cert.KernelIdeal.Scan
-- ==== Proof.Reference.lean ====
/-
  What the reference computes: each stage of its forward lines and of their derivative, at an index, as the real number
  it holds where the arguments are finite.
-/
module

public import proofs.«01_k».proof.Proof.Gen.ReferenceIdeal.Read
public import proofs.«01_k».proof.Proof.Tokens
public import proofs.«01_k».proof.Proof.Block

@[expose] public section

noncomputable section

namespace Cert.ReferenceIdeal.Scan

open Cert.ReferenceIdeal Cert.ReferenceIdeal.Read Idealize.ShloMosaic Idealize.ShloMosaic.Pointwise
open Cert.Scan Cert.KernelIdeal.Scan

/-- The arguments hold these real numbers. -/
structure Holds (x0 : (⟨S2x2304x512, .f32⟩ : BufTy).Contents (Elt Ideal)) (x1 : (⟨S2x2304x512, .bf16⟩ : BufTy).Contents (Elt Ideal))
    (x2 : (⟨S2x2304x1024, .bf16⟩ : BufTy).Contents (Elt Ideal)) (x3 : (⟨S2x2304x512, .f32⟩ : BufTy).Contents (Elt Ideal))
    (x4 : (⟨S2x2048x1024, .f32⟩ : BufTy).Contents (Elt Ideal)) (Y : Args) : Prop where
  q : ∀ b t l, x0 (ix3 b t l) = (Y.q b t l : EReal)
  k : ∀ b t l, x1 (ix3 b t l) = (Y.k b t l : EReal)
  v : ∀ b t l, x2 (ix3 b t l) = (Y.v b t l : EReal)
  c : ∀ b t l, x3 (ix3 b t l) = (Y.c b t l : EReal)
  g : ∀ b t l, x4 (ix3 b t l) = (Y.g b t l : EReal)

variable {x0 x3 : (⟨S2x2304x512, .f32⟩ : BufTy).Contents (Elt Ideal)} {x1 : (⟨S2x2304x512, .bf16⟩ : BufTy).Contents (Elt Ideal)}
  {x2 : (⟨S2x2304x1024, .bf16⟩ : BufTy).Contents (Elt Ideal)} {x4 : (⟨S2x2048x1024, .f32⟩ : BufTy).Contents (Elt Ideal)}
  {Y : Args} (H : Holds x0 x1 x2 x3 x4 Y) (b : Fin 2) (h : Fin 4)

/-! ## The arrays by heads -/

include H in
theorem q_at (t : Fin 2304) (d : Fin 128) : val_main_v3 (F := Ideal) x0 (ix4 b h t d) = ((Y.arr b h).q (cm t) (row t) d : EReal) := by
  pointwise [val_main_v3, val_main_v2]
  rw [Args.q_tok]; exact H.q b t (col128 h d)

include H in
theorem k_at (t : Fin 2304) (d : Fin 128) : val_main_v5 (F := Ideal) x1 (ix4 b h t d) = ((Y.arr b h).k (cm t) (row t) d : EReal) := by
  pointwise [val_main_v5, val_main_v4, val_main_v0]
  rw [Args.k_tok]; exact H.k b t (col128 h d)

include H in
theorem v_at (t : Fin 2304) (e : Fin 256) : val_main_v7 (F := Ideal) x2 (ix4 b h t e) = ((Y.arr b h).v (cm t) (row t) e : EReal) := by
  pointwise [val_main_v7, val_main_v6, val_main_v1]
  rw [Args.v_tok]; exact H.v b t (col256 h e)

include H in
theorem c_at (t : Fin 2304) (d : Fin 128) : val_main_v9 (F := Ideal) x3 (ix4 b h t d) = ((Y.arr b h).c (cm t) (row t) d : EReal) := by
  pointwise [val_main_v9, val_main_v8]
  rw [Args.c_tok]; exact H.c b t (col128 h d)

include H in
theorem g_at (t : Fin 2048) (e : Fin 256) :
    val_main_v69 (F := Ideal) x4 (ix4 b h t e) = ((Y.arr b h).g (cm (ofLat t)) (row (ofLat t)) e : EReal) := by
  pointwise [val_main_v69, val_main_v68]
  rw [Args.g_lat]; exact H.g b t (col256 h e)

/-! ## The log-decay from the start of time -/

theorem chunk_time (i : Fin 36) : val_main_v18 (F := Ideal) (ix1 i) = BitVec.ofNat 32 (chunkTime i) := by
  pointwise [val_main_v18, val_main_v17, val_main_v16, val_main_v15, val_main_v14, val_main_v13, val_main_v12, val_main_v11,
    val_main_c, val_main_c_0, val_main_c_1]
  exact place_chunk i

theorem chunk_lt (m i : Fin 36) : val_main_v23 (F := Ideal) (ix2 m i) = BitVec.ofBool (decide (chunkTime i < chunkTime m)) := by
  pointwise [val_main_v23, val_main_v22, val_main_v21, val_main_v20, val_main_v19]
  rw [chunk_time, chunk_time]
  have hw : ∀ j : Fin 36, chunkTime j < 2304 := fun j => by have := j.isLt; unfold chunkTime; split_ifs <;> omega
  exact cmp_slt (hw i) (hw m)

theorem tok_chunk (t : Fin 2304) (i : Fin 36) (hi : t.val / 64 = i.val) : chunkTime i = cm t := by
  rw [← cm_chunk]; congr 1; exact Fin.ext hi.symm

theorem chunkTime_le (i : Fin 36) : chunkTime i ≤ 36 := by have := i.isLt; unfold chunkTime; split_ifs <;> omega

/-- A token of the array, by its chunk there and its row. -/
theorem at_chunk {t : Fin 2304} {i : Fin 36} {r : Fin 64} (ht : t.val = i.val * 64 + r.val) : cm t = chunkTime i ∧ row t = r := by
  have := r.isLt
  refine ⟨(tok_chunk t i (by omega)).symm, Fin.ext ?_⟩
  simp only [row]; omega

include H in
theorem edge_at (i : Fin 36) (d : Fin 128) : val_main_v26 (F := Ideal) x3 (ix4 b h i d) = ((Y.arr b h).c (chunkTime i) 63 d : EReal) := by
  pointwise [val_main_v26, val_main_v25, val_main_v10]
  refine (c_at H b h _ d).trans ?_
  rw [(at_chunk (i := i) (r := 63) rfl).1, (at_chunk (i := i) (r := 63) rfl).2]

include H in
theorem start_at (i : Fin 36) (d : Fin 128) : val_main_v29 (F := Ideal) x3 (ix4 b h i d) = ((Y.arr b h).A (chunkTime i) d : EReal) := by
  pointwise [val_main_v29, val_main_v28_0, val_main_v28_1, val_main_v28_2, val_main_v27, val_main_v24, val_main_call1_v2, val_main_call1_v3,
    val_main_call1_v0, val_main_cst, val_main_cst_2, id, chunk_lt]
  simp only [edge_at H]
  rw [Arr.A, ← sum_before (chunkTime_le i)]
  simp only [coe_sum, coe_ite, EReal.coe_zero]

include H in
theorem b_at (t : Fin 2304) (d : Fin 128) : val_main_v33 (F := Ideal) x3 (ix4 b h t d) = ((Y.arr b h).B (cm t) (row t) d : EReal) := by
  pointwise [val_main_v33, val_main_v32, val_main_v31, val_main_v30, val_main_v10]
  rw [start_at H, cm_chunk]
  rw [c_at H, Arr.B, EReal.coe_add]

include H in
theorem q_lat (t : Fin 2048) (ht : t.val < 2304) (d : Fin 128) : val_main_v3 (F := Ideal) x0 (ix4 b h ⟨t.val, ht⟩ d)
    = ((Y.arr b h).q (cm (ofLat t)) (row (ofLat t)) d : EReal) := q_at H b h (ofLat t) d

/-! ## The scores -/

theorem tok_time (t : Fin 2304) : val_main_v41 (F := Ideal) (ix1 t) = BitVec.ofNat 32 (time t) := by
  pointwise [val_main_v41, val_main_v40, val_main_v39, val_main_v38, val_main_v37, val_main_v36, val_main_v35, val_main_v34,
    val_main_c_3, val_main_c_4, val_main_c_5]
  exact place_tok t

theorem time_lt (t : Fin 2304) : time t < 2304 := by have := t.isLt; unfold time; split_ifs <;> omega

theorem upto_at (t : Fin 2048) (s : Fin 2304) : val_main_v47 (F := Ideal) (ix2 t s)
    = BitVec.ofBool (decide (Arr.Le (cm s) (row s) (cm (ofLat t)) (row (ofLat t)))) := by
  pointwise [val_main_v47, val_main_v46, val_main_v45, val_main_v44, val_main_v43, val_main_v42]
  rw [tok_time s, show val_main_v41 (F := Ideal) (ix1 ⟨t.val, _⟩) = _ from tok_time (ofLat t), cmp_sle (time_lt s) (time_lt _)]
  simp only [le_time]

theorem neg_inf : Ideal.ofBits FTy.f32 0xFF800000#32 = ⊥ := by simp [Ideal.ofBits, Ideal.ieee]

include H in
/-- The log-decay from a token to a latent one. -/
theorem rel_at (t : Fin 2048) (s : Fin 2304) (d : Fin 128) : val_main_v54 (F := Ideal) x3 (ix5 b h t s d)
    = (((Y.arr b h).B (cm (ofLat t)) (row (ofLat t)) d - (Y.arr b h).B (cm s) (row s) d : ℝ) : EReal) := by
  have hs : val_main_v53 (F := Ideal) x3 (ix5 b h t s d) = ((Y.arr b h).B (cm s) (row s) d : EReal) := by
    pointwise [val_main_v53, val_main_v51]
    exact b_at H b h s d
  have ht : val_main_v52 (F := Ideal) x3 (ix5 b h t s d) = ((Y.arr b h).B (cm (ofLat t)) (row (ofLat t)) d : EReal) := by
    pointwise [val_main_v52, val_main_v50, val_main_v49]
    exact b_at H b h (ofLat t) d
  rw [val_main_v54_apply, hs, ht, EReal.coe_sub]
  rfl

include H in
/-- The decay from a token to a latent one. -/
theorem p_at (t : Fin 2048) (s : Fin 2304) (d : Fin 128) : val_main_v62 (F := Ideal) x3 (ix5 b h t s d)
    = ((Y.arr b h).p (cm (ofLat t)) (row (ofLat t)) (cm s) (row s) d : EReal) := by
  pointwise [val_main_v62, val_main_v55_0, val_main_v55_1, val_main_v55_2, val_main_v48, val_main_call3_v2, val_main_call3_v0,
    val_main_cst_6, id, upto_at]
  rw [rel_at H, neg_inf, Arr.p]
  split_ifs
  · rw [Ideal.exp_coe]
  · rw [Ideal.exp_bot, EReal.coe_zero]

include H in
theorem qk_at (t : Fin 2048) (s : Fin 2304) (d : Fin 128) : val_main_v61 (F := Ideal) x0 x1 (ix5 b h t s d)
    = ((Y.arr b h).q (cm (ofLat t)) (row (ofLat t)) d : EReal) * ((Y.arr b h).k (cm s) (row s) d : EReal) := by
  pointwise [val_main_v61, val_main_v60, val_main_v59, val_main_v58, val_main_v57, val_main_v56]
  rw [k_at H, q_lat H]

include H in
theorem a_at (t : Fin 2048) (s : Fin 2304) : val_main_v64 (F := Ideal) x0 x1 x3 (ix4 b h t s)
    = ((∑ d, (Y.arr b h).q (cm (ofLat t)) (row (ofLat t)) d * (Y.arr b h).k (cm s) (row s) d
        * (Y.arr b h).p (cm (ofLat t)) (row (ofLat t)) (cm s) (row s) d : ℝ) : EReal) := by
  pointwise [val_main_v64, val_main_v63, val_main_cst_7]
  simp only [qk_at H, p_at H, coe_sum, EReal.coe_mul]

include H in
theorem ga_at (t : Fin 2048) (s : Fin 2304) : val_main_v72 (F := Ideal) x2 x4 (ix4 b h t s)
    = ((Y.arr b h).ga (cm (ofLat t)) (row (ofLat t)) (cm s) (row s) : EReal) := by
  pointwise [val_main_v72]
  simp only [g_at H, v_at H, Arr.ga, coe_sum, EReal.coe_mul]

/-! ## The gradients of the rows -/

include H in
theorem dv_at (s : Fin 2304) (e : Fin 256) : val_main_v71 (F := Ideal) x0 x1 x3 x4 (ix4 b h s e)
    = ((Y.arr b h).dv 36 (cm s) (row s) e : EReal) := by
  pointwise [val_main_v71, val_main_v70]
  simp only [g_at H, a_at H, ← EReal.coe_mul, ← coe_sum]
  rw [sum_lats (fun m r => (Y.arr b h).g m r e * ∑ d, (Y.arr b h).q m r d * (Y.arr b h).k (cm s) (row s) d
    * (Y.arr b h).p m r (cm s) (row s) d) fun m hm r => by rw [Y.g_ctx b h hm, zero_mul]]
  simp only [Arr.dv, mul_comm]

end Cert.ReferenceIdeal.Scan
-- ==== Proof.StatesAt.lean ====
/-
  The states the host hands the kernel, as the real numbers they hold where the arguments are finite.
-/
module

public import proofs.«01_k».proof.Proof.States
public import proofs.«01_k».proof.Proof.Reference

@[expose] public section

noncomputable section

namespace Cert.KernelIdeal.Scan

open Cert.KernelIdeal Cert.KernelIdeal.Gen Idealize.ShloMosaic Idealize.ShloMosaic.Pointwise
open Cert.Scan Cert.ReferenceIdeal.Scan

theorem cmp_boundary {a b : ℕ} (ha : a < 4096) (hb : b < 4096) :
    IntOp.cmpi .slt (BitVec.ofNat 32 a) (BitVec.ofNat 32 b) = BitVec.ofBool (decide (a < b)) := by
  have h : ∀ {x : ℕ}, x < 4096 → (BitVec.ofNat 32 x).toInt = x := fun {x} hx => by
    rw [BitVec.toInt_eq_toNat_cond, BitVec.toNat_ofNat, Nat.mod_eq_of_lt (by omega), if_pos (by omega)]
  simp only [IntOp.cmpi, BitVec.slt, h ha, h hb, Nat.cast_lt]

theorem boundary_mul (m : Fin 37) : IntOp.muli (BitVec.ofNat 32 m.val) 64#32 = BitVec.ofNat 32 (m.val * 64) := by
  revert m; decide +kernel

theorem chunkBefore_at (m : Fin 37) (i : Fin 36) :
    chunkBefore (F := Ideal) (ix2 m i) = BitVec.ofBool (decide (chunkTime i < m.val)) := by
  pointwise [chunkBefore]
  rw [chunk_time]
  exact cmp_boundary (by have := chunkTime_le i; omega) (by omega)

theorem tokBefore_at (m : Fin 37) (t : Fin 2304) : tokBefore (F := Ideal) (ix2 m t) = BitVec.ofBool (decide (cm t < m.val)) := by
  pointwise [tokBefore]
  rw [tok_time, boundary_mul, cmp_boundary (by have := time_lt t; omega) (by omega)]
  have h : time t < m.val * 64 ↔ cm t < m.val := by
    rw [time_eq]
    have := (row t).isLt
    exact ⟨fun h => by omega, fun h => by omega⟩
  simp only [h]

variable {x0 x3 : (⟨S2x2304x512, .f32⟩ : BufTy).Contents (Elt Ideal)} {x1 : (⟨S2x2304x512, .bf16⟩ : BufTy).Contents (Elt Ideal)}
  {x2 : (⟨S2x2304x1024, .bf16⟩ : BufTy).Contents (Elt Ideal)} {x4 : (⟨S2x2048x1024, .f32⟩ : BufTy).Contents (Elt Ideal)}
  {Y : Args} (H : Holds x0 x1 x2 x3 x4 Y) (b : Fin 2) (h : Fin 4)

include H in
theorem startAll_at (m : Fin 37) (d : Fin 128) : startAll (F := Ideal) x3 (ix4 b h m d) = ((Y.arr b h).A m.val d : EReal) := by
  pointwise [startAll, id, chunkBefore_at]
  simp only [edge_at H]
  rw [Arr.A, ← sum_before (Nat.le_of_lt_succ m.isLt)]
  simp only [coe_sum, coe_ite, EReal.coe_zero]

include H in
theorem relAll_at (m : Fin 37) (t : Fin 2304) (d : Fin 128) : relAll (F := Ideal) x3 (ix5 b h m t d)
    = (((Y.arr b h).A m.val d - (Y.arr b h).B (cm t) (row t) d : ℝ) : EReal) := by
  have hs := startAll_at H b h m d
  have hb := b_at H b h t d
  unfold relAll
  revert hs hb
  generalize startAll (F := Ideal) x3 = y
  generalize Cert.ReferenceIdeal.Read.val_main_v33 (F := Ideal) x3 = z
  intro hs hb
  pointwise []
  rw [hs, EReal.coe_sub, ← hb]

include H in
theorem decayAll_at (m : Fin 37) (t : Fin 2304) (d : Fin 128) : decayAll (F := Ideal) x3 (ix5 b h m t d)
    = ((if cm t < m.val then Real.exp ((Y.arr b h).A m.val d - (Y.arr b h).B (cm t) (row t) d) else 0 : ℝ) : EReal) := by
  pointwise [decayAll, id, tokBefore_at]
  rw [relAll_at H, neg_inf]
  split_ifs
  · rw [Ideal.exp_coe]
  · rw [Ideal.exp_bot, EReal.coe_zero]

include H in
theorem keysAll_at (m : Fin 37) (t : Fin 2304) (d : Fin 128) : keysAll (F := Ideal) x1 x3 (ix5 b h m t d)
    = (((Y.arr b h).k (cm t) (row t) d
        * if cm t < m.val then Real.exp ((Y.arr b h).A m.val d - (Y.arr b h).B (cm t) (row t) d) else 0 : ℝ) : EReal) := by
  pointwise [keysAll]
  rw [decayAll_at H, k_at H, EReal.coe_mul]

include H in
theorem stateAll_at (m : Fin 37) (e : Fin 256) (d : Fin 128) : stateAll (F := Ideal) x1 x2 x3 (ix5 b h m e d)
    = ((Y.arr b h).S m.val e d : EReal) := by
  pointwise [stateAll]
  simp only [keysAll_at H, v_at H, ← EReal.coe_mul, ← coe_sum]
  congr 1
  rw [sum_toks (fun n s => (Y.arr b h).v n s e * ((Y.arr b h).k n s d
    * if n < m.val then Real.exp ((Y.arr b h).A m.val d - (Y.arr b h).B n s d) else 0)), Arr.S]
  rw [← Finset.sum_filter_of_ne (p := fun n => n < m.val) (s := Finset.range 36)]
  · rw [show (Finset.range 36).filter (fun n => n < m.val) = Finset.range m.val from by
      ext n; have := m.isLt; simp only [Finset.mem_filter, Finset.mem_range]; omega]
    refine Finset.sum_congr rfl fun n hn => Finset.sum_congr rfl fun s _ => ?_
    rw [if_pos (Finset.mem_range.mp hn), mul_comm]
  · intro n _ hne
    by_contra hlt
    exact hne (Finset.sum_eq_zero fun s _ => by rw [if_neg hlt, mul_zero, mul_zero])

include H in
/-- The state the kernel is handed before chunk `m`. -/
theorem stateIn_at (m : Fin 36) (e : Fin 256) (d : Fin 128) : stateIn (F := Ideal) x1 x2 x3 (ix5 b h m e d)
    = ((Y.arr b h).S m.val e d : EReal) := by
  pointwise [stateIn]
  exact stateAll_at H b h ⟨m.val, by omega⟩ e d

include H in
/-- The state it is handed for the scan's end. -/
theorem stateEnd_at (e : Fin 256) (d : Fin 128) : stateEnd (F := Ideal) x1 x2 x3 (ix4 b h e d)
    = ((Y.arr b h).S 36 e d : EReal) := by
  pointwise [stateEnd]
  exact stateAll_at H b h 36 e d

end Cert.KernelIdeal.Scan
-- ==== Proof.Inputs.lean ====
/-
  Each grid point's blocks of the arguments, and of the states the host made, by sample, chunk in time and head.
-/
module

public import proofs.«01_k».proof.Proof.Point
public import proofs.«01_k».proof.Proof.StatesAt
public import Idealize.ShloMosaic.Lib.Pipeline.ValueKit

@[expose] public section

noncomputable section

namespace Cert.KernelIdeal.Scan

open Cert.KernelIdeal Cert.KernelIdeal.Gen Idealize.ShloMosaic Idealize.ShloMosaic.TcCoe Idealize.ShloMosaic.Pointwise
open Cert.Scan Cert.ReferenceIdeal.Scan

/-- A point's sample, -/
def sam (t : Fin cfg0.N) : Fin 2 := ⟨t.val / 9, by have := Nat.lt_of_lt_of_eq t.isLt N_0; omega⟩
/-- its step in time, of four chunks: the last comes first, -/
def stp (t : Fin cfg0.N) : ℕ := 8 - t.val % 9
/-- where the step's tokens are, in blocks of 256, -/
def place (t : Fin cfg0.N) : ℕ := if stp t = 0 then 8 else stp t - 1
/-- and the step's chunks. -/
def chunk (t : Fin cfg0.N) (j : Fin 4) : ℕ := 4 * stp t + j.val

theorem idx : ∀ t : Fin cfg0.N, win0_0.index t = ![(sam t).val, place t, 0] ∧ win0_1.index t = ![(sam t).val, place t, 0]
    ∧ win0_2.index t = ![(sam t).val, place t, 0] ∧ win0_3.index t = ![(sam t).val, place t, 0]
    ∧ win0_4.index t = ![(sam t).val, 0, stp t, 0, 0] ∧ win0_5.index t = ![(sam t).val, 0, 0, 0] ∧ win0_6.index t = ![(sam t).val, stp t - 1, 0] := by
  decide +kernel

theorem idx_out : ∀ t : Fin cfg0.N, win0_7.index t = ![(sam t).val, place t, 0] ∧ win0_8.index t = ![(sam t).val, place t, 0]
    ∧ win0_9.index t = ![(sam t).val, place t, 0] ∧ win0_10.index t = ![(sam t).val, place t, 0] := by
  decide +kernel

theorem stp_le (t : Fin cfg0.N) : stp t ≤ 8 := Nat.sub_le _ _

/-- Row `r` of the step's chunk `j`, among its sample's tokens. -/
theorem tok_chunk_val (t : Fin cfg0.N) (j : Fin 4) (r : Fin 64) : (tok (chunk t j) r).val = place t * 256 + (row256 j r).val := by
  have := stp_le t
  have := r.isLt
  have := j.isLt
  have ht : (tok (chunk t j) r).val
      = if chunk t j < 4 then 2048 + (chunk t j * 64 + r.val) else ((chunk t j - 4) * 64 + r.val) % 2304 := rfl
  have hr : (row256 j r).val = 64 * j.val + r.val := rfl
  have hc : chunk t j = 4 * stp t + j.val := rfl
  rw [ht, hr, place]
  by_cases h : stp t = 0
  · rw [if_pos (by omega), if_pos h]; omega
  · rw [if_neg (by omega), if_neg h]; omega

variable (m : (ℓ : Loc nD τ sig) → Buf (Elt Ideal) ℓ) (c : Dev nD) (t : Fin cfg0.N)

theorem iblk0 (j : Fin 4) (r : Fin 64) (l : Fin 512) :
    iblk m c 0 t (ix3 0 (row256 j r) l) = m ((c : Thread nD τ).loc main_arg0) (ix3 (sam t) (tok (chunk t j) r) l) := by
  have e := tok_chunk_val t j r
  blk_ext [iblk, V_main_arg0, idx t]

theorem iblk1 (j : Fin 4) (r : Fin 64) (l : Fin 512) :
    iblk m c 1 t (ix3 0 (row256 j r) l) = m ((c : Thread nD τ).loc main_arg1) (ix3 (sam t) (tok (chunk t j) r) l) := by
  have e := tok_chunk_val t j r
  blk_ext [iblk, V_main_arg1, idx t]

theorem iblk2 (j : Fin 4) (r : Fin 64) (l : Fin 1024) :
    iblk m c 2 t (ix3 0 (row256 j r) l) = m ((c : Thread nD τ).loc main_arg2) (ix3 (sam t) (tok (chunk t j) r) l) := by
  have e := tok_chunk_val t j r
  blk_ext [iblk, V_main_arg2, idx t]

theorem iblk3 (j : Fin 4) (r : Fin 64) (l : Fin 512) :
    iblk m c 3 t (ix3 0 (row256 j r) l) = m ((c : Thread nD τ).loc main_arg3) (ix3 (sam t) (tok (chunk t j) r) l) := by
  have e := tok_chunk_val t j r
  blk_ext [iblk, V_main_arg3, idx t]

theorem chunk_lt_36 (j : Fin 4) : chunk t j < 36 := by have := stp_le t; have := j.isLt; simp only [chunk]; omega

theorem read4 (X : Vec Ideal S2x4x36x256x128 .bf16) (h j : Fin 4) (e : Fin 256) (d : Fin 128) :
    ((cfg0.win 4).blk t).view.read (Elt Ideal) X (ix5 0 h j e d) = X (ix5 (sam t) h ⟨chunk t j, chunk_lt_36 t j⟩ e d) := by
  have e4 : chunk t j = stp t * 4 + j.val := by simp only [chunk]; omega
  blk_ext [idx t]

theorem read5 (X : Vec Ideal S2x4x256x128 .f32) (h : Fin 4) (e : Fin 256) (d : Fin 128) :
    ((cfg0.win 5).blk t).view.read (Elt Ideal) X (ix4 0 h e d) = X (ix4 (sam t) h e d) := by
  blk_ext [idx t]

theorem iblk4 (h j : Fin 4) (e : Fin 256) (d : Fin 128) :
    iblk m c 4 t (ix5 0 h j e d) = stateIn (m ((c : Thread nD τ).loc main_arg1)) (m ((c : Thread nD τ).loc main_arg2))
      (m ((c : Thread nD τ).loc main_arg3)) (ix5 (sam t) h ⟨chunk t j, chunk_lt_36 t j⟩ e d) :=
  (read4 t (V m c main_v82) h j e d).trans (congrFun (V_stateIn m c) _)

theorem iblk5 (h : Fin 4) (e : Fin 256) (d : Fin 128) :
    iblk m c 5 t (ix4 0 h e d) = stateEnd (m ((c : Thread nD τ).loc main_arg1)) (m ((c : Thread nD τ).loc main_arg2))
      (m ((c : Thread nD τ).loc main_arg3)) (ix4 (sam t) h e d) :=
  (read5 t (V m c main_v84) h e d).trans (congrFun (V_stateEnd m c) _)

/-- The output gradient's rows of a latent chunk. -/
theorem iblk6 (ht : 0 < stp t) (j : Fin 4) (r : Fin 64) (l : Fin 1024) :
    iblk m c 6 t (ix3 0 (row256 j r) l) = m ((c : Thread nD τ).loc main_arg4) (ix3 (sam t) (lat (chunk t j) r) l) := by
  have e : (lat (chunk t j) r).val = (stp t - 1) * 256 + (row256 j r).val := by
    have := stp_le t
    have := r.isLt
    have := j.isLt
    simp only [lat, chunk, row256]
    omega
  blk_ext [iblk, V_main_arg4, idx t]

end Cert.KernelIdeal.Scan
-- ==== Proof.Grid.lean ====
/-
  The grid over the real numbers: what each point computes, and what it carries on to the next.
-/
module

public import proofs.«01_k».proof.Proof.Inputs
public import proofs.«01_k».proof.Proof.Math

@[expose] public section

noncomputable section

namespace Cert.KernelIdeal.Scan

open Cert.KernelIdeal Cert.KernelIdeal.Gen Idealize.ShloMosaic Idealize.ShloMosaic.TcCoe Idealize.ShloMosaic.Pointwise
open Cert.Scan Cert.ReferenceIdeal.Scan

/-! ## A chunk of the real scan -/

/-- Chunk `n` of a head, with the state before it. -/
def chunkOf (X : Arr) (n : ℕ) : RBlk := ⟨X.q n, X.k n, X.v n, X.c n, X.S n, X.g n⟩

section Chunk
variable (X : Arr) {n : ℕ} (hn : n < 36)

include hn
theorem chunk_dq (r : Fin 64) (d : Fin 128) : (chunkOf X n).dq r d = X.dq 36 n r d := (X.dq_split hn r d).symm
theorem chunk_dk (r : Fin 64) (d : Fin 128) : (chunkOf X n).dk (X.D 36 (n + 1)) r d = X.dk 36 n r d := (X.dk_split hn r d).symm
theorem chunk_dv (r : Fin 64) (e : Fin 256) : (chunkOf X n).dv (X.D 36 (n + 1)) r e = X.dv 36 n r e := (X.dv_split hn r e).symm
theorem chunk_dc (r : Fin 64) (d : Fin 128) : (chunkOf X n).dc (X.D 36 (n + 1)) (X.S (n + 1)) r d = X.dc 36 n r d := by
  rw [RBlk.dc, chunk_dq X hn, chunk_dk X hn, Arr.dc, Arr.db_eq, X.db_after hn]
  rfl
theorem chunk_dsPrev (e : Fin 256) (d : Fin 128) : (chunkOf X n).dsPrev (X.D 36 (n + 1)) e d = X.D 36 n e d := X.D_step 36 n hn e d
end Chunk

/-! ## Loads at an index -/

section Loads
variable {e : EltTy} (j h : Fin 4) (r : Fin 64) (d : Fin 128) (x : Fin 256)

theorem ld128 (X : S1x256x512.Idx → Elt Ideal e) : View.ld X (box128 j h) (ix3 0 r d) = X (ix3 0 (row256 j r) (col128 h d)) :=
  View.ld_unit_apply_of X _ _ _ _ _ fun a => match a with
    | ⟨0, _⟩ => rfl
    | ⟨1, _⟩ => rfl
    | ⟨2, _⟩ => show h.val * 128 + d.val = 128 * h.val + d.val by omega

theorem ld256 (X : S1x256x1024.Idx → Elt Ideal e) : View.ld X (box256 j h) (ix3 0 r x) = X (ix3 0 (row256 j r) (col256 h x)) :=
  View.ld_unit_apply_of X _ _ _ _ _ fun a => match a with
    | ⟨0, _⟩ => rfl
    | ⟨1, _⟩ => rfl
    | ⟨2, _⟩ => show h.val * 256 + x.val = 256 * h.val + x.val by omega

theorem ldS (X : S1x4x4x256x128.Idx → Elt Ideal e) : View.ld X (boxS j h) (ix5 0 0 0 x d) = X (ix5 0 h j x d) :=
  View.ld_unit_apply_of X _ _ _ _ _ fun a => match a with
    | ⟨0, _⟩ => rfl
    | ⟨1, _⟩ => rfl
    | ⟨2, _⟩ => rfl
    | ⟨3, _⟩ => (Nat.zero_add _).symm
    | ⟨4, _⟩ => (Nat.zero_add _).symm

theorem ldC (X : S4x256x128.Idx → Elt Ideal e) : View.ld X (boxC h) (ix3 0 x d) = X (ix3 h x d) :=
  View.ld_unit_apply_of X _ _ _ _ _ fun a => match a with
    | ⟨0, _⟩ => rfl
    | ⟨1, _⟩ => (Nat.zero_add _).symm
    | ⟨2, _⟩ => (Nat.zero_add _).symm

end Loads

theorem up128_at (x : FVec Ideal S64x128 .f32) (r : Fin 64) (d : Fin 128) : up128 x (ix3 0 r d) = x (ix2 r d) := by
  pointwise [up128]
theorem up256_at (x : FVec Ideal S64x256 .f32) (r : Fin 64) (e : Fin 256) : up256 x (ix3 0 r e) = x (ix2 r e) := by
  pointwise [up256]
theorem upS_at (x : FVec Ideal S256x128 .f32) (e : Fin 256) (d : Fin 128) : upS x (ix3 0 e d) = x (ix2 e d) := by
  pointwise [upS]
theorem downS_at (x : Vec Ideal S1x256x128 .f32) (e : Fin 256) (d : Fin 128) : downS x (ix2 e d) = x (ix3 0 e d) := by
  pointwise [downS]

/-! ## One point -/

/-- Which steps are latent ones, by the kernel's comparison. -/
theorem latent (t : Fin cfg0.N) : Scalar.cmpi .sgt (Scalar.subi 8#32 (BitVec.ofNat 32 (grid0.coords t 1).val)) 0#32
    = BitVec.ofBool (decide (0 < stp t)) := by
  revert t; decide +kernel

theorem gOf_at (t : Fin cfg0.N) (y : Vec Ideal S1x64x256 .f32) (r : Fin 64) (e : Fin 256) :
    gOf (grid0.coords t) y (ix2 r e) = if 0 < stp t then y (ix3 0 r e) else 0 := by
  unfold gOf
  rw [latent, Scalar.select_decide]
  split_ifs
  · pointwise []
  · pointwise []

section Point

variable (m : (ℓ : Loc nD τ sig) → Buf (Elt Ideal) ℓ) (c : Dev nD) {Y : Args}
  (H : Holds (m ((c : Thread nD τ).loc main_arg0)) (m ((c : Thread nD τ).loc main_arg1)) (m ((c : Thread nD τ).loc main_arg2))
    (m ((c : Thread nD τ).loc main_arg3)) (m ((c : Thread nD τ).loc main_arg4)) Y) (t : Fin cfg0.N)

/-- The arrays of one chunk and head, at a point. -/
abbrev blkAt (j h : Fin 4) : Blk Ideal :=
  blk (grid0.coords t) (iblk m c 0 t) (iblk m c 1 t) (iblk m c 2 t) (iblk m c 3 t) (iblk m c 4 t) (iblk m c 6 t) j h

omit H in
/-- The arrays of one chunk and head, when the blocks hold real numbers. -/
theorem blk_is (t : Fin cfg0.N) {x0 x1 x3 : Vec Ideal S1x256x512 _} {x2 x6 : Vec Ideal S1x256x1024 _} {x4 : Vec Ideal S1x4x4x256x128 _} (j h : Fin 4) {X : Arr} {n : ℕ}
    (hq : ∀ r d, x0 (ix3 0 (row256 j r) (col128 h d)) = (X.q n r d : EReal)) (hk : ∀ r d, x1 (ix3 0 (row256 j r) (col128 h d)) = (X.k n r d : EReal))
    (hv : ∀ r e, x2 (ix3 0 (row256 j r) (col256 h e)) = (X.v n r e : EReal)) (hc : ∀ r d, x3 (ix3 0 (row256 j r) (col128 h d)) = (X.c n r d : EReal))
    (hs : ∀ e d, x4 (ix5 0 h j e d) = (X.S n e d : EReal))
    (hg : ∀ r e, (if 0 < stp t then x6 (ix3 0 (row256 j r) (col256 h e)) else 0) = (X.g n r e : EReal)) :
    (blk (grid0.coords t) x0 x1 x2 x3 x4 x6 j h).Is (chunkOf X n) where
  q r d := (ld128 j h r d x0).trans (hq r d)
  k r d := (ld128 j h r d x1).trans (hk r d)
  v r e := (ld256 j h r e x2).trans (hv r e)
  c r d := (ld128 j h r d x3).trans (hc r d)
  s e d := (ldS j h d e x4).trans (hs e d)
  g r e := (gOf_at t (View.ld x6 (box256 j h)) r e).trans ((if_congr Iff.rfl (ld256 j h r e x6) rfl).trans (hg r e))

include H in
theorem blkAt_g (j h : Fin 4) (r : Fin 64) (e : Fin 256) :
    (if 0 < stp t then iblk m c 6 t (ix3 0 (row256 j r) (col256 h e)) else (0 : EReal)) = ((Y.arr (sam t) h).g (chunk t j) r e : EReal) := by
  have hg : (Y.arr (sam t) h).g (chunk t j) r e = if 4 ≤ chunk t j then Y.g (sam t) (lat (chunk t j) r) (col256 h e) else 0 := rfl
  have hc : chunk t j = 4 * stp t + j.val := rfl
  rw [hg]
  by_cases ht : 0 < stp t
  · rw [if_pos ht, if_pos (by omega)]
    exact (iblk6 m c t ht j r _).trans (H.g _ _ _)
  · rw [if_neg ht, if_neg (by have := j.isLt; omega), EReal.coe_zero]

include H in
theorem blkAt_is (j h : Fin 4) : (blkAt m c t j h).Is (chunkOf (Y.arr (sam t) h) (chunk t j)) :=
  blk_is t j h (fun r d => (iblk0 m c t j r _).trans (H.q _ _ _)) (fun r d => (iblk1 m c t j r _).trans (H.k _ _ _))
    (fun r e => (iblk2 m c t j r _).trans (H.v _ _ _)) (fun r d => (iblk3 m c t j r _).trans (H.c _ _ _))
    (fun e d => (iblk4 m c t h j e d).trans (stateIn_at H _ _ _ _ _)) (blkAt_g m c H t j h)

/-- The carried arrays hold the state's gradient and the state at the boundary `n` of sample `b`. -/
structure Carries (Y : Args) (b : Fin 2) (n : ℕ) (xs0 xs1 : Vec Ideal S4x256x128 .f32) : Prop where
  ds : ∀ h e d, xs0 (ix3 h e d) = ((Y.arr b h).D 36 n e d : EReal)
  sn : ∀ h e d, xs1 (ix3 h e d) = ((Y.arr b h).S n e d : EReal)

variable {xs0 xs1 : Vec Ideal S4x256x128 .f32} (C : Carries Y (sam t) (4 * stp t + 4) xs0 xs1) (h : Fin 4)

/-- The gradient of the state after a chunk. -/
abbrev dsAt (xs0 : Vec Ideal S4x256x128 .f32) (j : Fin 4) : FVec Ideal S256x128 .f32 :=
  dsOf (grid0.coords t) (iblk m c 0 t) (iblk m c 1 t) (iblk m c 2 t) (iblk m c 3 t) (iblk m c 4 t) (iblk m c 6 t) xs0 h j
/-- The state after a chunk. -/
abbrev snAt (xs1 : Vec Ideal S4x256x128 .f32) (j : Fin 4) : FVec Ideal S256x128 .f32 :=
  snOf (grid0.coords t) (iblk m c 0 t) (iblk m c 1 t) (iblk m c 2 t) (iblk m c 3 t) (iblk m c 4 t) (iblk m c 6 t) xs1 h j

include H in
theorem ds_step {j : Fin 4} {ds : FVec Ideal S256x128 .f32} (hd : ∀ e d, ds (ix2 e d) = ((Y.arr (sam t) h).D 36 (chunk t j + 1) e d : EReal))
    (e : Fin 256) (d : Fin 128) : (blkAt m c t j h).dsPrev ds (ix2 e d) = ((Y.arr (sam t) h).D 36 (chunk t j) e d : EReal) := by
  rw [Blk.dsPrev_real (blkAt_is m c H t j h) hd, chunk_dsPrev _ (chunk_lt_36 t j)]

include H C in
theorem dsAt_real : ∀ (j : Fin 4) (e : Fin 256) (d : Fin 128), dsAt m c t h xs0 j (ix2 e d) = ((Y.arr (sam t) h).D 36 (chunk t j + 1) e d : EReal) := by
  have h3 : ∀ e d, dsAt m c t h xs0 3 (ix2 e d) = ((Y.arr (sam t) h).D 36 (chunk t 3 + 1) e d : EReal) := fun e d =>
    (downS_at _ e d).trans ((ldC h d e xs0).trans (C.ds h e d))
  have h2 : ∀ e d, dsAt m c t h xs0 2 (ix2 e d) = ((Y.arr (sam t) h).D 36 (chunk t 2 + 1) e d : EReal) := fun e d => ds_step m c H t h (j := 3) h3 e d
  have h1 : ∀ e d, dsAt m c t h xs0 1 (ix2 e d) = ((Y.arr (sam t) h).D 36 (chunk t 1 + 1) e d : EReal) := fun e d => ds_step m c H t h (j := 2) h2 e d
  have h0 : ∀ e d, dsAt m c t h xs0 0 (ix2 e d) = ((Y.arr (sam t) h).D 36 (chunk t 0 + 1) e d : EReal) := fun e d => ds_step m c H t h (j := 1) h1 e d
  exact fun j => match j with
    | 0 => h0
    | 1 => h1
    | 2 => h2
    | 3 => h3

include H C in
theorem snAt_real : ∀ (j : Fin 4) (e : Fin 256) (d : Fin 128), snAt m c t h xs1 j (ix2 e d) = ((Y.arr (sam t) h).S (chunk t j + 1) e d : EReal) :=
  fun j => match j with
    | 0 => fun e d => Blk.sPrev_real (blkAt_is m c H t 1 h) e d
    | 1 => fun e d => Blk.sPrev_real (blkAt_is m c H t 2 h) e d
    | 2 => fun e d => Blk.sPrev_real (blkAt_is m c H t 3 h) e d
    | 3 => fun e d => (downS_at _ e d).trans ((ldC h d e xs1).trans (C.sn h e d))

/-- What a point leaves holds the gradients of its chunks, and carries on the boundary before them. -/
structure Leaves (Y : Args) (t : Fin cfg0.N) (o : Outs Ideal) : Prop where
  dq : ∀ j h r d, o.1 (ix3 0 (row256 j r) (col128 h d)) = ((Y.arr (sam t) h).dq 36 (chunk t j) r d : EReal)
  dk : ∀ j h r d, o.2.1 (ix3 0 (row256 j r) (col128 h d)) = ((Y.arr (sam t) h).dk 36 (chunk t j) r d : EReal)
  dv : ∀ j h r e, o.2.2.1 (ix3 0 (row256 j r) (col256 h e)) = ((Y.arr (sam t) h).dv 36 (chunk t j) r e : EReal)
  dc : ∀ j h r d, o.2.2.2.1 (ix3 0 (row256 j r) (col128 h d)) = ((Y.arr (sam t) h).dc 36 (chunk t j) r d : EReal)
  carries : Carries Y (sam t) (4 * stp t) o.2.2.2.2.1 o.2.2.2.2.2

include H C in
theorem leaves {o : Outs Ideal} (P : PointIs o (grid0.coords t) (iblk m c 0 t) (iblk m c 1 t) (iblk m c 2 t) (iblk m c 3 t) (iblk m c 4 t)
    (iblk m c 6 t) xs0 xs1) : Leaves Y t o where
  dq j h r d := (P.dq j h r d).trans ((up128_at _ r d).trans
    ((Blk.dq_real (blkAt_is m c H t j h) r d).trans (congrArg _ (chunk_dq _ (chunk_lt_36 t j) r d))))
  dk j h r d := (P.dk j h r d).trans ((up128_at _ r d).trans
    ((Blk.dk_real (blkAt_is m c H t j h) (dsAt_real m c H t C h j) r d).trans (congrArg _ (chunk_dk _ (chunk_lt_36 t j) r d))))
  dv j h r e := (P.dv j h r e).trans ((up256_at _ r e).trans
    ((Blk.dv_real (blkAt_is m c H t j h) (dsAt_real m c H t C h j) r e).trans (congrArg _ (chunk_dv _ (chunk_lt_36 t j) r e))))
  dc j h r d := (P.dc j h r d).trans ((up128_at _ r d).trans
    ((Blk.dc_real (blkAt_is m c H t j h) (dsAt_real m c H t C h j) (snAt_real m c H t C h j) r d).trans
      (congrArg _ (chunk_dc _ (chunk_lt_36 t j) r d))))
  carries := {
    ds := fun h e d => (P.ds h e d).trans ((upS_at _ e d).trans (ds_step m c H t h (j := 0) (dsAt_real m c H t C h 0) e d))
    sn := fun h e d => (P.sn h e d).trans ((upS_at _ e d).trans (Blk.sPrev_real (blkAt_is m c H t 0 h) e d)) }

end Point

/-! ## All points -/

section Grid

variable (m : (ℓ : Loc nD τ sig) → Buf (Elt Ideal) ℓ) (c : Dev nD) {Y : Args}
  (H : Holds (m ((c : Thread nD τ).loc main_arg0)) (m ((c : Thread nD τ).loc main_arg1)) (m ((c : Thread nD τ).loc main_arg2))
    (m ((c : Thread nD τ).loc main_arg3)) (m ((c : Thread nD τ).loc main_arg4)) Y)

include H in
theorem first_carries (t : Fin cfg0.N) (h0 : t.val % 9 = 0) : Carries Y (sam t) (4 * stp t + 4) ds0 (sn0 (iblk m c 5 t)) := by
  have hn : 4 * stp t + 4 = 36 := by simp only [stp]; omega
  rw [hn]
  refine ⟨fun h e d => ?_, fun h e d => ?_⟩
  · rw [Arr.D_end, EReal.coe_zero]
    pointwise [ds0]
  · have e5 : sn0 (iblk m c 5 t) (ix3 h e d) = iblk m c 5 t (ix4 0 h e d) := by
      unfold sn0
      generalize (iblk m c 5 t : Vec Ideal S1x4x256x128 .f32) = y
      pointwise []
    exact e5.trans ((iblk5 m c t h e d).trans (stateEnd_at H _ h e d))

include H in
theorem outs_leave : ∀ (n : ℕ) (hn : n < cfg0.N), Leaves Y ⟨n, hn⟩ (outsAt0 m c n hn) := by
  intro n
  induction n with
  | zero => exact fun hn => leaves m c H ⟨0, hn⟩ (first_carries m c H ⟨0, hn⟩ rfl) (point_A m c ⟨0, hn⟩ rfl)
  | succ n ih =>
    intro hn
    by_cases h0 : (n + 1) % 9 = 0
    · exact leaves m c H ⟨n + 1, hn⟩ (first_carries m c H ⟨n + 1, hn⟩ h0) (point_A m c ⟨n + 1, hn⟩ h0)
    · refine leaves m c H ⟨n + 1, hn⟩ ?_ (point_B m c ⟨n + 1, hn⟩ h0)
      have hp := (ih (Nat.lt_of_succ_lt hn)).carries
      have hs : sam ⟨n, Nat.lt_of_succ_lt hn⟩ = sam ⟨n + 1, hn⟩ := Fin.ext (by simp only [sam]; omega)
      have hc : 4 * stp ⟨n, Nat.lt_of_succ_lt hn⟩ = 4 * stp ⟨n + 1, hn⟩ + 4 := by simp only [stp]; omega
      rw [hs, hc] at hp
      exact hp

end Grid

end Cert.KernelIdeal.Scan
-- ==== Proof.Arrays.lean ====
/-
  The kernel's four results: every element is the gradient of the real scan there.
-/
module

public import proofs.«01_k».proof.Proof.Grid
public import proofs.«01_k».proof.Proof.Gen.KernelIdeal.Value

@[expose] public section

noncomputable section

namespace Cert.KernelIdeal.Scan

open Cert.KernelIdeal Cert.KernelIdeal.Gen Cert.KernelIdeal.Value Idealize.ShloMosaic Idealize.ShloMosaic.TcCoe Idealize.ShloMosaic.Pointwise
open Cert.Scan Cert.ReferenceIdeal.Scan

/-- The point and the place in it that compute a chunk of a sample. -/
theorem point_of (b : Fin 2) (n : ℕ) (hn : n < 36) : ∃ (t : Fin cfg0.N) (j : Fin 4), sam t = b ∧ chunk t j = n := by
  have hN : cfg0.N = 18 := N_0
  refine ⟨⟨9 * b.val + 8 - n / 4, by omega⟩, ⟨n % 4, by omega⟩, Fin.ext ?_, ?_⟩
  · show (9 * b.val + 8 - n / 4) / 9 = b.val
    omega
  · show 4 * (8 - (9 * b.val + 8 - n / 4) % 9) + n % 4 = n
    omega

section Blocks
variable (t : Fin cfg0.N) (j : Fin 4) (r : Fin 64)

theorem read7 (X : Vec Ideal S2x2304x512 .f32) (l : Fin 512) :
    ((cfg0.win 7).blk t).view.read (Elt Ideal) X (ix3 0 (row256 j r) l) = X (ix3 (sam t) (tok (chunk t j) r) l) := by
  have e := tok_chunk_val t j r
  blk_ext [idx_out t]

theorem read8 (X : Vec Ideal S2x2304x512 .f32) (l : Fin 512) :
    ((cfg0.win 8).blk t).view.read (Elt Ideal) X (ix3 0 (row256 j r) l) = X (ix3 (sam t) (tok (chunk t j) r) l) := by
  have e := tok_chunk_val t j r
  blk_ext [idx_out t]

theorem read9 (X : Vec Ideal S2x2304x1024 .f32) (l : Fin 1024) :
    ((cfg0.win 9).blk t).view.read (Elt Ideal) X (ix3 0 (row256 j r) l) = X (ix3 (sam t) (tok (chunk t j) r) l) := by
  have e := tok_chunk_val t j r
  blk_ext [idx_out t]

theorem read10 (X : Vec Ideal S2x2304x512 .f32) (l : Fin 512) :
    ((cfg0.win 10).blk t).view.read (Elt Ideal) X (ix3 0 (row256 j r) l) = X (ix3 (sam t) (tok (chunk t j) r) l) := by
  have e := tok_chunk_val t j r
  blk_ext [idx_out t]

end Blocks

variable (m : (ℓ : Loc nD τ sig) → Buf (Elt Ideal) ℓ) (c : Dev nD) {Y : Args}
  (H : Holds (m ((c : Thread nD τ).loc main_arg0)) (m ((c : Thread nD τ).loc main_arg1)) (m ((c : Thread nD τ).loc main_arg2))
    (m ((c : Thread nD τ).loc main_arg3)) (m ((c : Thread nD τ).loc main_arg4)) Y)

/-- The kernel's results after all points. -/
abbrev arrQ : Vec Ideal S2x2304x512 .f32 := (dats m 0 c).arrAt 7 cfg0.N
abbrev arrK : Vec Ideal S2x2304x512 .f32 := (dats m 0 c).arrAt 8 cfg0.N
abbrev arrV : Vec Ideal S2x2304x1024 .f32 := (dats m 0 c).arrAt 9 cfg0.N
abbrev arrC : Vec Ideal S2x2304x512 .f32 := (dats m 0 c).arrAt 10 cfg0.N

theorem arrQ_eq (t : Fin cfg0.N) (j : Fin 4) (r : Fin 64) (l : Fin 512) :
    arrQ m c (ix3 (sam t) (tok (chunk t j) r) l) = (outsAt0 m c t.val t.isLt).1 (ix3 0 (row256 j r) l) := by
  refine (read7 t j r (arrQ m c) l).symm.trans ((congrFun (blocks7 m c t (flush0_7 t)) _).trans ?_)
  rw [flushed7]; rfl

theorem arrK_eq (t : Fin cfg0.N) (j : Fin 4) (r : Fin 64) (l : Fin 512) :
    arrK m c (ix3 (sam t) (tok (chunk t j) r) l) = (outsAt0 m c t.val t.isLt).2.1 (ix3 0 (row256 j r) l) := by
  refine (read8 t j r (arrK m c) l).symm.trans ((congrFun (blocks8 m c t (flush0_8 t)) _).trans ?_)
  rw [flushed8]; rfl

theorem arrV_eq (t : Fin cfg0.N) (j : Fin 4) (r : Fin 64) (l : Fin 1024) :
    arrV m c (ix3 (sam t) (tok (chunk t j) r) l) = (outsAt0 m c t.val t.isLt).2.2.1 (ix3 0 (row256 j r) l) := by
  refine (read9 t j r (arrV m c) l).symm.trans ((congrFun (blocks9 m c t (flush0_9 t)) _).trans ?_)
  rw [flushed9]; rfl

theorem arrC_eq (t : Fin cfg0.N) (j : Fin 4) (r : Fin 64) (l : Fin 512) :
    arrC m c (ix3 (sam t) (tok (chunk t j) r) l) = (outsAt0 m c t.val t.isLt).2.2.2.1 (ix3 0 (row256 j r) l) := by
  refine (read10 t j r (arrC m c) l).symm.trans ((congrFun (blocks10 m c t (flush0_10 t)) _).trans ?_)
  rw [flushed10]; rfl

variable (b : Fin 2) (h : Fin 4) (s : Fin 2304) (d : Fin 128) (e : Fin 256)

include H
theorem kernel_dq : arrQ m c (ix3 b s (col128 h d)) = ((Y.arr b h).dq 36 (cm s) (row s) d : EReal) := by
  obtain ⟨t, j, rfl, hc⟩ := point_of b (cm s) (cm_lt s)
  have hs : tok (chunk t j) (row s) = s := by rw [hc, tok_cm]
  have hq := (arrQ_eq m c t j (row s) (col128 h d)).trans ((outs_leave m c H t.val t.isLt).dq j h (row s) d)
  rw [hs] at hq
  rw [hq, hc]

theorem kernel_dk : arrK m c (ix3 b s (col128 h d)) = ((Y.arr b h).dk 36 (cm s) (row s) d : EReal) := by
  obtain ⟨t, j, rfl, hc⟩ := point_of b (cm s) (cm_lt s)
  have hs : tok (chunk t j) (row s) = s := by rw [hc, tok_cm]
  have hk := (arrK_eq m c t j (row s) (col128 h d)).trans ((outs_leave m c H t.val t.isLt).dk j h (row s) d)
  rw [hs] at hk
  rw [hk, hc]

theorem kernel_dv : arrV m c (ix3 b s (col256 h e)) = ((Y.arr b h).dv 36 (cm s) (row s) e : EReal) := by
  obtain ⟨t, j, rfl, hc⟩ := point_of b (cm s) (cm_lt s)
  have hs : tok (chunk t j) (row s) = s := by rw [hc, tok_cm]
  have hv := (arrV_eq m c t j (row s) (col256 h e)).trans ((outs_leave m c H t.val t.isLt).dv j h (row s) e)
  rw [hs] at hv
  rw [hv, hc]

theorem kernel_dc : arrC m c (ix3 b s (col128 h d)) = ((Y.arr b h).dc 36 (cm s) (row s) d : EReal) := by
  obtain ⟨t, j, rfl, hc⟩ := point_of b (cm s) (cm_lt s)
  have hs : tok (chunk t j) (row s) = s := by rw [hc, tok_cm]
  have hc' := (arrC_eq m c t j (row s) (col128 h d)).trans ((outs_leave m c H t.val t.isLt).dc j h (row s) d)
  rw [hs] at hc'
  rw [hc', hc]

end Cert.KernelIdeal.Scan
-- ==== Proof.RefGrads.lean ====
/-
  What the reference computes: the gradients of q, k and of the cumulative log-decay.
-/
module

public import proofs.«01_k».proof.Proof.Reference

@[expose] public section

noncomputable section

namespace Cert.ReferenceIdeal.Scan

open Cert.ReferenceIdeal Cert.ReferenceIdeal.Read Idealize.ShloMosaic Idealize.ShloMosaic.Pointwise
open Cert.Scan Cert.KernelIdeal.Scan

variable {x0 x3 : (⟨S2x2304x512, .f32⟩ : BufTy).Contents (Elt Ideal)} {x1 : (⟨S2x2304x512, .bf16⟩ : BufTy).Contents (Elt Ideal)}
  {x2 : (⟨S2x2304x1024, .bf16⟩ : BufTy).Contents (Elt Ideal)} {x4 : (⟨S2x2048x1024, .f32⟩ : BufTy).Contents (Elt Ideal)}
  {Y : Args} (H : Holds x0 x1 x2 x3 x4 Y) (b : Fin 2) (h : Fin 4)

include H in
theorem dk_at (s : Fin 2304) (d : Fin 128) : val_main_v79 (F := Ideal) x0 x2 x3 x4 (ix4 b h s d)
    = ((Y.arr b h).dk 36 (cm s) (row s) d : EReal) := by
  pointwise [val_main_v79, val_main_v78, val_main_v77, val_main_v75, val_main_v73, val_main_v57, val_main_v56, val_main_cst_8]
  simp only [q_lat H, ga_at H, p_at H, ← EReal.coe_mul, ← coe_sum]
  rw [sum_lats (fun m r => (Y.arr b h).q m r d * ((Y.arr b h).ga m r (cm s) (row s) * (Y.arr b h).p m r (cm s) (row s) d))
    fun m hm r => by rw [Y.ga_ctx b h hm]; ring, Arr.dk]
  exact congrArg _ (Finset.sum_congr rfl fun m _ => Finset.sum_congr rfl fun r _ => by ring)

include H in
theorem dq_at (t : Fin 2048) (d : Fin 128) : val_main_v83 (F := Ideal) x1 x2 x3 x4 (ix4 b h t d)
    = ((Y.arr b h).dq 36 (cm (ofLat t)) (row (ofLat t)) d : EReal) := by
  pointwise [val_main_v83, val_main_v82, val_main_v81, val_main_v75, val_main_v73, val_main_v58, val_main_cst_9]
  simp only [k_at H, ga_at H, p_at H, ← EReal.coe_mul, ← coe_sum]
  rw [sum_toks fun n s => (Y.arr b h).ga (cm (ofLat t)) (row (ofLat t)) n s * (Y.arr b h).p (cm (ofLat t)) (row (ofLat t)) n s d
    * (Y.arr b h).k n s d, Arr.dq]
  exact congrArg _ (Finset.sum_congr rfl fun m _ => Finset.sum_congr rfl fun r _ => by ring)

include H in
/-- What a pair of tokens gives to the log-decay's gradient. -/
theorem w_at (t : Fin 2048) (s : Fin 2304) (d : Fin 128) : val_main_v88 (F := Ideal) x0 x1 x2 x3 x4 (ix5 b h t s d)
    = ((Y.arr b h).w (cm (ofLat t)) (row (ofLat t)) (cm s) (row s) d : EReal) := by
  have hw : val_main_v76 (F := Ideal) x0 x1 x2 x3 x4 (ix5 b h t s d) = ((Y.arr b h).w (cm (ofLat t)) (row (ofLat t)) (cm s) (row s) d : EReal) := by
    pointwise [val_main_v76, val_main_v74, val_main_v73]
    rw [qk_at H, ga_at H, p_at H, ← EReal.coe_mul, ← EReal.coe_mul, ← EReal.coe_mul, Arr.w]
    congr 1; ring
  have hm : val_main_v55_1 (F := Ideal) (ix5 b h t s d) = BitVec.ofBool (decide (Arr.Le (cm s) (row s) (cm (ofLat t)) (row (ofLat t)))) := by
    pointwise [val_main_v55_1, val_main_v48]
    exact upto_at t s
  have h0 : val_main_call4_v0 (F := Ideal) (ix5 b h t s d) = 0 := by pointwise [val_main_call4_v0, val_main_call4_cst]
  rw [val_main_v88_apply, hm, hw, h0, Scalar.select_decide]
  split_ifs with hle
  · rfl
  · rw [Arr.w, Arr.p, if_neg hle, mul_zero, mul_zero, EReal.coe_zero]

/-! ## The log-decay's gradient -/

include H in
theorem out_at (s : Fin 2304) (d : Fin 128) : val_main_v94 (F := Ideal) x0 x1 x2 x3 x4 (ix4 b h s d)
    = ((-∑ m ∈ Finset.range 36, ∑ r, (Y.arr b h).w m r (cm s) (row s) d : ℝ) : EReal) := by
  pointwise [val_main_v94, val_main_v93, val_main_v92, val_main_v91, val_main_cst_14, val_main_cst_15]
  rw [Fin.sum_univ_one]
  simp only [w_at H, ← EReal.coe_neg, ← coe_sum]
  rw [sum_lats (fun m r => -(Y.arr b h).w m r (cm s) (row s) d) fun m hm r => by rw [Arr.w, Y.ga_ctx b h hm]; ring]
  simp only [Finset.sum_neg_distrib]

include H in
theorem in_lat (t : Fin 2048) (d : Fin 128) : val_main_v95 (F := Ideal) x0 x1 x2 x3 x4 (ix4 b h t d)
    = ((∑ n ∈ Finset.range 36, ∑ s, (Y.arr b h).w (cm (ofLat t)) (row (ofLat t)) n s d : ℝ) : EReal) := by
  pointwise [val_main_v95, val_main_v90, val_main_v89, val_main_cst_13, val_main_cst_16]
  rw [Fin.sum_univ_one, ← sum_toks fun n s => (Y.arr b h).w (cm (ofLat t)) (row (ofLat t)) n s d, coe_sum]
  simp only [w_at H]

include H in
theorem in_at (t : Fin 2304) (d : Fin 128) : val_main_v96 (F := Ideal) x0 x1 x2 x3 x4 (ix4 b h t d)
    = ((∑ n ∈ Finset.range 36, ∑ s, (Y.arr b h).w (cm t) (row t) n s d : ℝ) : EReal) := by
  have hl := in_lat H b h
  unfold val_main_v96
  revert hl
  generalize val_main_v95 (F := Ideal) x0 x1 x2 x3 x4 = y
  intro hl
  pointwise [val_main_cst_17]
  by_cases ht : t.val < 2048
  · exact (dif_pos ht).trans (hl ⟨t.val, ht⟩ d)
  · refine (dif_neg ht).trans ?_
    rw [Finset.sum_eq_zero fun n _ => Finset.sum_eq_zero fun s _ => by rw [Arr.w, Y.ga_ctx b h (cm_ctx ht), zero_mul], EReal.coe_zero]

include H in
theorem db_tok (t : Fin 2304) (d : Fin 128) : val_main_v97 (F := Ideal) x0 x1 x2 x3 x4 (ix4 b h t d)
    = ((Y.arr b h).db 36 (cm t) (row t) d : EReal) := by
  rw [val_main_v97_apply, out_at H, in_at H, Arr.db, sub_eq_add_neg, EReal.coe_add, add_comm]
  rfl

include H in
theorem db_at (i : Fin 36) (r : Fin 64) (d : Fin 128) : val_main_v98 (F := Ideal) x0 x1 x2 x3 x4 (ix5 b h i r d)
    = ((Y.arr b h).db 36 (chunkTime i) r d : EReal) := by
  have hl := db_tok H b h
  unfold val_main_v98
  revert hl
  generalize val_main_v97 (F := Ideal) x0 x1 x2 x3 x4 = y
  intro hl
  pointwise
  rw [hl, (at_chunk (i := i) (r := r) rfl).1, (at_chunk (i := i) (r := r) rfl).2]

include H in
theorem after_at (i : Fin 36) (d : Fin 128) : val_main_v104 (F := Ideal) x0 x1 x2 x3 x4 (ix4 b h i d)
    = ((∑ n ∈ Finset.Ico (chunkTime i + 1) 36, ∑ s, (Y.arr b h).db 36 n s d : ℝ) : EReal) := by
  pointwise [val_main_v104, val_main_v103, val_main_call5_v2, val_main_call5_v1, val_main_call5_v0, val_main_v102, val_main_v101,
    val_main_v100, val_main_v99, val_main_v28_1, val_main_v24, val_main_cst_18, val_main_cst_19, val_main_cst_20,
    val_main_call5_cst, val_main_call5_cst_0, chunk_lt]
  rw [Fin.sum_univ_one, ← sum_after (chunkTime i) fun n => ∑ s, (Y.arr b h).db 36 n s d]
  simp only [Fin.sum_univ_one, db_at H, coe_sum, coe_ite, EReal.coe_zero]

include H in
theorem dc_at (i : Fin 36) (r : Fin 64) (d : Fin 128) : val_main_v107 (F := Ideal) x0 x1 x2 x3 x4 (ix5 b h i r d)
    = ((Y.arr b h).dc 36 (chunkTime i) r d : EReal) := by
  have hp : val_main_v106 (F := Ideal) x0 x1 x2 x3 x4 (ix5 b h i r d)
      = ((if r = 63 then ∑ n ∈ Finset.Ico (chunkTime i + 1) 36, ∑ s, (Y.arr b h).db 36 n s d else 0 : ℝ) : EReal) := by
    have hl := after_at H b h
    unfold val_main_v106 val_main_v105
    revert hl
    generalize val_main_v104 (F := Ideal) x0 x1 x2 x3 x4 = y
    intro hl
    pointwise [val_main_cst_21]
    have := r.isLt
    by_cases hr : r = 63
    · subst hr
      rw [if_pos rfl]
      exact (dif_pos (by decide)).trans (hl i d)
    · rw [if_neg hr, EReal.coe_zero]
      exact dif_neg (by rintro ⟨h', -⟩; exact hr (Fin.ext (by simp only [Fin.val_natCast] at *; omega)))
  rw [val_main_v107_apply, db_at H, hp, Arr.dc, EReal.coe_add]
  rfl

/-! ## The results -/

include H in
theorem result_dc (t : Fin 2304) (d : Fin 128) : val_main_v110 (F := Ideal) x0 x1 x2 x3 x4 (ix3 b t (col128 h d))
    = ((Y.arr b h).dc 36 (cm t) (row t) d : EReal) := by
  have hl := dc_at H b
  unfold val_main_v110 val_main_v109 val_main_v108
  revert hl
  generalize val_main_v107 (F := Ideal) x0 x1 x2 x3 x4 = y
  intro hl
  pointwise
  rw [hl, col128_div, col128_mod, cm_chunk]
  rfl

include H in
theorem result_dv (t : Fin 2304) (e : Fin 256) : val_main_v112 (F := Ideal) x0 x1 x3 x4 (ix3 b t (col256 h e))
    = ((Y.arr b h).dv 36 (cm t) (row t) e : EReal) := by
  pointwise [val_main_v112, val_main_v111]
  rw [dv_at H, col256_div, col256_mod]

include H in
theorem result_dk (t : Fin 2304) (d : Fin 128) : val_main_v114 (F := Ideal) x0 x2 x3 x4 (ix3 b t (col128 h d))
    = ((Y.arr b h).dk 36 (cm t) (row t) d : EReal) := by
  pointwise [val_main_v114, val_main_v113, val_main_v85, val_main_v80, val_main_cst_10]
  rw [Fin.sum_univ_one, dk_at H, col128_div, col128_mod]

include H in
theorem dq_tok (t : Fin 2304) (d : Fin 128) : val_main_v87 (F := Ideal) x1 x2 x3 x4 (ix4 b h t d)
    = ((Y.arr b h).dq 36 (cm t) (row t) d : EReal) := by
  have hl := dq_at H b h
  unfold val_main_v87 val_main_v86 val_main_v84
  revert hl
  generalize val_main_v83 (F := Ideal) x1 x2 x3 x4 = y
  intro hl
  pointwise [val_main_cst_11, val_main_cst_12]
  by_cases ht : t.val < 2048
  · exact (dif_pos ht).trans ((Fin.sum_univ_one _).trans (hl ⟨t.val, ht⟩ d))
  · refine (dif_neg ht).trans ?_
    rw [Arr.dq, Finset.sum_eq_zero fun n _ => Finset.sum_eq_zero fun s _ => by rw [Y.ga_ctx b h (cm_ctx ht), zero_mul], EReal.coe_zero]

include H in
theorem result_dq (t : Fin 2304) (d : Fin 128) : val_main_v116 (F := Ideal) x1 x2 x3 x4 (ix3 b t (col128 h d))
    = ((Y.arr b h).dq 36 (cm t) (row t) d : EReal) := by
  pointwise [val_main_v116, val_main_v115]
  rw [dq_tok H, col128_div, col128_mod]

end Cert.ReferenceIdeal.Scan
-- ==== Proof.Finite.lean ====
/-
  The precondition: where it holds, every element of the arguments is a real number.
-/
module

public import proofs.«01_k».proof.Defs
public import proofs.«01_k».proof.Proof.Reference
public import Idealize.ShloMosaic.Lib.ReduceAll

@[expose] public section

noncomputable section

namespace Cert.Pre_finite

open Idealize.ShloMosaic Idealize.ShloMosaic.Pointwise Cert.Scan

/-- The shape facts the precondition's text states. -/
instance facts : Facts where
  bcast_S_S2x2304x512 := by decide
  reducesTo_S2x2304x512_S_d0_1_2 := by decide
  h_S_ := by decide
  bitsLt_bf16_f32 := by decide
  bcast_S_S2x2304x1024 := by decide
  reducesTo_S2x2304x1024_S_d0_1_2 := by decide
  bcast_S_S2x2048x1024 := by decide
  reducesTo_S2x2048x1024_S_d0_1_2 := by decide

theorem h0 : 0 < S_.numel := by decide

local instance : Subsingleton S_.Idx := ⟨fun a b => funext fun k => k.elim0⟩

/-- A number whose absolute value is below the infinity is a real one. -/
theorem real_of_abs_lt (x : Ideal .f32)
    (h : FloatOps.cmpf .olt (FloatOps.hostAbsf x) (FloatOps.ofBits (F := Ideal) .f32 0x7F800000#32) = 1#1) : x = (EReal.toReal x : EReal) := by
  have htop : Ideal.ofBits .f32 0x7F800000#32 = ⊤ := by simp [Ideal.ofBits, Ideal.ieee]
  have hx : max (x : EReal) (-x) < ⊤ := by
    have := (Ideal.cmp_olt_eq_one _ _).mp h
    change max (x : EReal) (-x) < Ideal.ofBits .f32 0x7F800000#32 at this
    rwa [htop] at this
  refine (EReal.coe_toReal (fun e => ?_) (fun e => ?_)).symm
  · rw [e] at hx; simp at hx
  · rw [e] at hx; simp at hx

/-- … of a whole array. -/
theorem all_real {S : Shape} (x : FVec Ideal S .f32) (hb : S_.BroadcastsInDim S (![] : Fin 0 → Fin S.rank)) {axes} (hr : S.ReducesTo axes S_) (j : S_.Idx)
    (h : Host.reduce IntOp.andi (cmpf .olt (Host.absf x) (broadcastInDim S ![] hb (constant S_ .f32 0x7F800000#32))) (constantI S_ 1 1#1) hr h0 j = 1#1)
    (i : S.Idx) : x i = (EReal.toReal (x i) : EReal) :=
  real_of_abs_lt (x i) (Host.reduce_andi_all _ _ _ _ j h i)

/-- The arguments' real numbers. -/
def reals (x0 : FVec Ideal S2x2304x512 .f32) (x1 : FVec Ideal S2x2304x512 .bf16) (x2 : FVec Ideal S2x2304x1024 .bf16)
    (x3 : FVec Ideal S2x2304x512 .f32) (x4 : FVec Ideal S2x2048x1024 .f32) : Args where
  q b t l := EReal.toReal (x0 (ix3 b t l))
  k b t l := EReal.toReal (x1 (ix3 b t l))
  v b t l := EReal.toReal (x2 (ix3 b t l))
  c b t l := EReal.toReal (x3 (ix3 b t l))
  g b t l := EReal.toReal (x4 (ix3 b t l))

theorem holds_of_finite (x0 : FVec Ideal S2x2304x512 .f32) (x1 : FVec Ideal S2x2304x512 .bf16) (x2 : FVec Ideal S2x2304x1024 .bf16)
    (x3 : FVec Ideal S2x2304x512 .f32) (x4 : FVec Ideal S2x2048x1024 .f32) (h : fn (F := Ideal) x0 x1 x2 x3 x4 = fun _ => 1#1) :
    Cert.ReferenceIdeal.Scan.Holds x0 x1 x2 x3 x4 (reals x0 x1 x2 x3 x4) := by
  have j : S_.Idx := fun k => k.elim0
  have e := congrFun h j
  obtain ⟨e, h4⟩ := IntOp.andi_eq_one.mp e
  obtain ⟨e, h3⟩ := IntOp.andi_eq_one.mp e
  obtain ⟨e, h2⟩ := IntOp.andi_eq_one.mp e
  obtain ⟨h0, h1⟩ := IntOp.andi_eq_one.mp e
  exact ⟨fun b t l => all_real x0 _ _ j h0 _, fun b t l => all_real (extf .f32 x1 Facts.bitsLt_bf16_f32) _ _ j h1 (ix3 b t l),
    fun b t l => all_real (extf .f32 x2 Facts.bitsLt_bf16_f32) _ _ j h2 (ix3 b t l), fun b t l => all_real x3 _ _ j h3 _, fun b t l => all_real x4 _ _ j h4 _⟩

end Cert.Pre_finite
-- ==== Proof.Equal.lean ====
/-
  The equation: from the same finite arguments, the kernel's four results are the reference's.
-/
module

public import proofs.«01_k».proof.Proof.Arrays
public import proofs.«01_k».proof.Proof.RefGrads
public import proofs.«01_k».proof.Proof.Finite

@[expose] public section

noncomputable section

namespace Cert.KernelIdeal.Scan

open Cert.KernelIdeal Cert.KernelIdeal.Gen Idealize.ShloMosaic Idealize.ShloMosaic.TcCoe Idealize.ShloMosaic.Pointwise
open Cert.Scan Cert.ReferenceIdeal.Scan Cert.ReferenceIdeal.Read

/-- An array of heads of 128 columns, -/
theorem ext128 {X X' : S2x2304x512.Idx → EReal} (h : ∀ b h t d, X (ix3 b t (col128 h d)) = X' (ix3 b t (col128 h d))) : X = X' := by
  funext i
  have e : i = ix3 (i 0) (i 1) (col128 ⟨(i 2).val / 128, by have : (i 2).val < 512 := (i 2).isLt; omega⟩ ⟨(i 2).val % 128, Nat.mod_lt _ (by decide)⟩) := by
    funext a
    exact match a with
      | ⟨0, _⟩ => rfl
      | ⟨1, _⟩ => rfl
      | ⟨2, _⟩ => Fin.ext (by show (i 2).val = (i 2).val / 128 * 128 + (i 2).val % 128; omega)
  rw [e]
  exact h _ _ _ _

/-- and one of heads of 256, by their columns. -/
theorem ext256 {X X' : S2x2304x1024.Idx → EReal} (h : ∀ b h t e, X (ix3 b t (col256 h e)) = X' (ix3 b t (col256 h e))) : X = X' := by
  funext i
  have e : i = ix3 (i 0) (i 1) (col256 ⟨(i 2).val / 256, by have : (i 2).val < 1024 := (i 2).isLt; omega⟩ ⟨(i 2).val % 256, Nat.mod_lt _ (by decide)⟩) := by
    funext a
    exact match a with
      | ⟨0, _⟩ => rfl
      | ⟨1, _⟩ => rfl
      | ⟨2, _⟩ => Fin.ext (by show (i 2).val = (i 2).val / 256 * 256 + (i 2).val % 256; omega)
  rw [e]
  exact h _ _ _ _

variable (m : (ℓ : Loc nD τ sig) → Buf (Elt Ideal) ℓ) (c : Dev nD) {Y : Args}
  (H : Holds (m ((c : Thread nD τ).loc main_arg0)) (m ((c : Thread nD τ).loc main_arg1)) (m ((c : Thread nD τ).loc main_arg2))
    (m ((c : Thread nD τ).loc main_arg3)) (m ((c : Thread nD τ).loc main_arg4)) Y)

include H
theorem equal_dq : arrQ m c = val_main_v116 (F := Ideal) (m ((c : Thread nD τ).loc main_arg1)) (m ((c : Thread nD τ).loc main_arg2))
    (m ((c : Thread nD τ).loc main_arg3)) (m ((c : Thread nD τ).loc main_arg4)) :=
  ext128 fun b h t d => (kernel_dq m c H b h t d).trans (result_dq H b h t d).symm
theorem equal_dk : arrK m c = val_main_v114 (F := Ideal) (m ((c : Thread nD τ).loc main_arg0)) (m ((c : Thread nD τ).loc main_arg2))
    (m ((c : Thread nD τ).loc main_arg3)) (m ((c : Thread nD τ).loc main_arg4)) :=
  ext128 fun b h t d => (kernel_dk m c H b h t d).trans (result_dk H b h t d).symm
theorem equal_dv : arrV m c = val_main_v112 (F := Ideal) (m ((c : Thread nD τ).loc main_arg0)) (m ((c : Thread nD τ).loc main_arg1))
    (m ((c : Thread nD τ).loc main_arg3)) (m ((c : Thread nD τ).loc main_arg4)) :=
  ext256 fun b h t e => (kernel_dv m c H b h t e).trans (result_dv H b h t e).symm
theorem equal_dc : arrC m c = val_main_v110 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) :=
  ext128 fun b h t d => (kernel_dc m c H b h t d).trans (result_dc H b h t d).symm

end Cert.KernelIdeal.Scan
-- ==== Proof.MergeBwd.lean ====
/-
  The output projection's gradient and the merge gates' (kernel `out_dgrad_merge_bwd`): the kernel's three results are
  the reference's.
-/
module

public import proofs.«01_k».proof.Proof.Gen.Kernel2Ideal.Value
public import proofs.«01_k».proof.Proof.Gen.Reference2Ideal.Read
public import Idealize.ShloMosaic.Lib.Pipeline.ValueKit

@[expose] public section

noncomputable section

namespace Cert.MergeBwd

open Cert.Kernel2Ideal Cert.Kernel2Ideal.Gen Cert.Kernel2Ideal.Value Idealize.ShloMosaic Idealize.ShloMosaic.TcCoe Idealize.ShloMosaic.Pointwise
open Cert.Reference2Ideal.Read

/-- Row `r` of the point's tile, -/
def row (t : Fin cfg0.N) (r : Fin 512) : Fin 4096 := ⟨t.val * 512 + r.val, by have := Nat.lt_of_lt_of_eq t.isLt N_0; omega⟩
/-- and column `n` of one of the gates' halves: the convolution's first, the recurrence's second. -/
def lo (n : Fin 1024) : Fin 2048 := ⟨n.val, by omega⟩
def hi (n : Fin 1024) : Fin 2048 := ⟨1024 + n.val, by omega⟩

theorem idx : ∀ t : Fin cfg0.N, win0_0.index t = ![t.val, 0] ∧ win0_1.index t = ![t.val, 1] ∧ win0_2.index t = ![t.val, 0]
    ∧ win0_3.index t = ![t.val, 0] ∧ win0_4.index t = ![t.val, 0] ∧ win0_5.index t = ![0, 0]
    ∧ win0_6.index t = ![t.val, 0] ∧ win0_7.index t = ![t.val, 0] ∧ win0_8.index t = ![t.val, 0] := by
  decide +kernel

variable (m : (ℓ : Loc nD τ sig) → Buf (Elt Ideal) ℓ) (c : Dev nD) (t : Fin cfg0.N) (r : Fin 512) (n k : Fin 1024)

theorem iblk0 : iblk m c 0 t (ix2 r n) = m ((c : Thread nD τ).loc main_arg0) (ix2 (row t r) (lo n)) := by
  have e : (row t r).val = t.val * 512 + r.val := rfl
  have e' : (lo n).val = n.val := rfl
  blk_ext [iblk, V_main_arg0, idx t]

theorem iblk1 : iblk m c 1 t (ix2 r n) = m ((c : Thread nD τ).loc main_arg0) (ix2 (row t r) (hi n)) := by
  have e : (row t r).val = t.val * 512 + r.val := rfl
  have e' : (hi n).val = 1024 + n.val := rfl
  blk_ext [iblk, V_main_arg0, idx t]

theorem iblk2 : iblk m c 2 t (ix2 r n) = m ((c : Thread nD τ).loc main_arg1) (ix2 (row t r) n) := by
  have e : (row t r).val = t.val * 512 + r.val := rfl
  blk_ext [iblk, V_main_arg1, idx t]

theorem iblk3 : iblk m c 3 t (ix2 r n) = m ((c : Thread nD τ).loc main_arg2) (ix2 (row t r) n) := by
  have e : (row t r).val = t.val * 512 + r.val := rfl
  blk_ext [iblk, V_main_arg2, idx t]

theorem iblk4 : iblk m c 4 t (ix2 r n) = m ((c : Thread nD τ).loc main_arg3) (ix2 (row t r) n) := by
  have e : (row t r).val = t.val * 512 + r.val := rfl
  blk_ext [iblk, V_main_arg3, idx t]

theorem iblk5 : iblk m c 5 t (ix2 k n) = m ((c : Thread nD τ).loc main_arg4) (ix2 k n) := by
  blk_ext [iblk, V_main_arg4, idx t]

theorem read6 (X : Vec Ideal S4096x1024 .bf16) : ((cfg0.win 6).blk t).view.read (Elt Ideal) X (ix2 r n) = X (ix2 (row t r) n) := by
  have e : (row t r).val = t.val * 512 + r.val := rfl
  blk_ext [idx t]

theorem read7 (X : Vec Ideal S4096x1024 .bf16) : ((cfg0.win 7).blk t).view.read (Elt Ideal) X (ix2 r n) = X (ix2 (row t r) n) := by
  have e : (row t r).val = t.val * 512 + r.val := rfl
  blk_ext [idx t]

theorem read8 (X : Vec Ideal S4096x2048 .bf16) (q : Fin 2048) : ((cfg0.win 8).blk t).view.read (Elt Ideal) X (ix2 r q) = X (ix2 (row t r) q) := by
  have e : (row t r).val = t.val * 512 + r.val := rfl
  blk_ext [idx t]

/-- The merged branches' gradient at a row `x` of the output's, a column `n` of the branches. -/
def grad (x : Fin 1024 → EReal) (w : Fin 1024 → EReal) : EReal := ∑ k : Fin 1024, x k * w k
/-- A gate. -/
def gate (v : EReal) : EReal := Ideal.div 1 (1 + Ideal.exp (0 - v))
/-- A gate's gradient, given what comes in. -/
def gateGrad (d y v : EReal) : EReal := d * y * gate v * (1 - gate v)

theorem pay2_at (x : Vec Ideal S512x1024 .bf16) (w : Vec Ideal S1024x1024 .bf16) :
    k0_pay2 x w (ix2 r n) = grad (fun k => x (ix2 r k)) (fun k => w (ix2 n k)) := by
  pointwise [k0_pay2, grad]
theorem pay3_at (v : Vec Ideal S512x1024 .bf16) (i : S512x1024.Idx) : k0_pay3 v i = gate (v i) := by
  pointwise [k0_pay3, gate]
theorem pay4_at (v : Vec Ideal S512x1024 .bf16) (i : S512x1024.Idx) : k0_pay4 v i = gate (v i) := by
  pointwise [k0_pay4, gate]

theorem pay7_at (x : Vec Ideal S512x1024 .bf16) (w : Vec Ideal S1024x1024 .bf16) (v y : Vec Ideal S512x1024 .bf16) :
    k0_pay7 x w v y (ix2 r n) = gateGrad (grad (fun k => x (ix2 r k)) (fun k => w (ix2 n k))) (y (ix2 r n)) (v (ix2 r n)) := by
  pointwise [k0_pay7]
  rw [pay2_at, pay3_at]
  rfl
theorem pay1_at (d s : Vec Ideal S512x1024 .f32) (y : Vec Ideal S512x1024 .bf16) (i : S512x1024.Idx) :
    k0_pay1 d s y i = (d i * y i * s i * (1 - s i) : EReal) := by
  pointwise [k0_pay1]

/-- What a point writes of the convolution branch's gradient, -/
theorem out6_at (x0 x1 x2 x3 x4 : Vec Ideal S512x1024 .bf16) (x5 : Vec Ideal S1024x1024 .bf16) :
    out0_6 x0 x1 x2 x3 x4 x5 (ix2 r n) = grad (fun k => x4 (ix2 r k)) (fun k => x5 (ix2 n k)) * gate (x0 (ix2 r n)) := by
  unfold out0_6 r0_0 r0_1
  rw [View.canon_cons_unit_lit _ _ _ (by decide), View.ld_unit_lit _ _ (by decide), View.ld_unit_lit _ _ (by decide), View.ld_unit_lit _ _ (by decide)]
  pointwise [k0_pay5]
  rw [pay2_at, pay3_at]

/-- of the recurrent branch's, -/
theorem out7_at (x0 x1 x2 x3 x4 : Vec Ideal S512x1024 .bf16) (x5 : Vec Ideal S1024x1024 .bf16) :
    out0_7 x0 x1 x2 x3 x4 x5 (ix2 r n) = grad (fun k => x4 (ix2 r k)) (fun k => x5 (ix2 n k)) * gate (x1 (ix2 r n)) := by
  unfold out0_7 r0_0 r0_1
  rw [View.canon_cons_unit_lit _ _ _ (by decide), View.ld_unit_lit _ _ (by decide), View.ld_unit_lit _ _ (by decide), View.ld_unit_lit _ _ (by decide)]
  pointwise [k0_pay6]
  rw [pay2_at, pay4_at]

/-- and of the gates'. -/
theorem out8_hi (x0 x1 x2 x3 x4 : Vec Ideal S512x1024 .bf16) (x5 : Vec Ideal S1024x1024 .bf16) :
    out0_8 x0 x1 x2 x3 x4 x5 (ix2 r (hi n))
      = gateGrad (grad (fun k => x4 (ix2 r k)) (fun k => x5 (ix2 n k))) (x3 (ix2 r n)) (x1 (ix2 r n)) := by
  unfold out0_8 r0_0 r0_1
  rw [View.ld_unit_lit _ _ (by decide), View.ld_unit_lit _ _ (by decide), View.ld_unit_lit _ _ (by decide), View.ld_unit_lit _ _ (by decide)]
  have e : r0_3.idx (ix2 r n) = ix2 r (hi n) := by
    funext a; apply Fin.ext; fin_cases a <;> simp [Rect.idx_unit_val, hi, Nat.add_comm]
  rw [← e]
  refine (View.canon_cons_emb r0_3 _ _ (ix2 r n)).trans ?_
  rw [pay1_at, pay2_at, pay4_at]
  rfl

theorem out8_lo (x0 x1 x2 x3 x4 : Vec Ideal S512x1024 .bf16) (x5 : Vec Ideal S1024x1024 .bf16) :
    out0_8 x0 x1 x2 x3 x4 x5 (ix2 r (lo n))
      = gateGrad (grad (fun k => x4 (ix2 r k)) (fun k => x5 (ix2 n k))) (x2 (ix2 r n)) (x0 (ix2 r n)) := by
  unfold out0_8 r0_0 r0_1
  rw [View.ld_unit_lit _ _ (by decide), View.ld_unit_lit _ _ (by decide), View.ld_unit_lit _ _ (by decide), View.ld_unit_lit _ _ (by decide)]
  have h : (ix2 r (lo n) : S512x2048.Idx) ∉ r0_3.set := fun h => by
    have h1 := ((Rect.mem_set_unit (inb := inb_S512x2048_S512x1024_0_1024)).1 h 1).1
    have h3 : 1024 ≤ n.val := h1
    omega
  refine (View.canon_cons_of_not_mem _ _ (by exact h)).trans ?_
  have e : r0_2.idx (ix2 r n) = ix2 r (lo n) := by
    funext a; apply Fin.ext; fin_cases a <;> simp [Rect.idx_unit_val, lo]
  rw [← e]
  refine (View.canon_cons_emb r0_2 _ _ (ix2 r n)).trans ?_
  rw [View.ld_unit_lit _ _ (by decide), View.ld_unit_lit _ _ (by decide)]
  exact pay7_at r n _ _ _ _

abbrev argP : S4096x2048.Idx → EReal := m ((c : Thread nD τ).loc main_arg0)
abbrev argC : S4096x1024.Idx → EReal := m ((c : Thread nD τ).loc main_arg1)
abbrev argG : S4096x1024.Idx → EReal := m ((c : Thread nD τ).loc main_arg2)
abbrev argD : S4096x1024.Idx → EReal := m ((c : Thread nD τ).loc main_arg3)
abbrev argW : S1024x1024.Idx → EReal := m ((c : Thread nD τ).loc main_arg4)
/-- The kernel's results after all points: of the convolution branch, of the recurrent branch, of the gates. -/
abbrev resultC : Vec Ideal S4096x1024 .bf16 := (dats m 0 c).arrAt 6 cfg0.N
abbrev resultG : Vec Ideal S4096x1024 .bf16 := (dats m 0 c).arrAt 7 cfg0.N
abbrev resultP : Vec Ideal S4096x2048 .bf16 := (dats m 0 c).arrAt 8 cfg0.N

/-- The merged branches' gradient. -/
abbrev gradAt (D : S4096x1024.Idx → EReal) (W : S1024x1024.Idx → EReal) (s : Fin 4096) : EReal := grad (fun k => D (ix2 s k)) (fun k => W (ix2 n k))

theorem resultC_at : resultC m c (ix2 (row t r) n) = gradAt n (argD m c) (argW m c) (row t r) * gate (argP m c (ix2 (row t r) (lo n))) := by
  refine (read6 t r n (resultC m c)).symm.trans ((congrFun (blocks6 m c t (flush0_6 t)) _).trans ?_)
  rw [flushed6]
  refine (out6_at r n _ _ _ _ _ _).trans ?_
  simp only [iblk0, iblk4, iblk5]

theorem resultG_at : resultG m c (ix2 (row t r) n) = gradAt n (argD m c) (argW m c) (row t r) * gate (argP m c (ix2 (row t r) (hi n))) := by
  refine (read7 t r n (resultG m c)).symm.trans ((congrFun (blocks7 m c t (flush0_7 t)) _).trans ?_)
  rw [flushed7]
  refine (out7_at r n _ _ _ _ _ _).trans ?_
  simp only [iblk1, iblk4, iblk5]

theorem resultP_lo : resultP m c (ix2 (row t r) (lo n))
    = gateGrad (gradAt n (argD m c) (argW m c) (row t r)) (argC m c (ix2 (row t r) n)) (argP m c (ix2 (row t r) (lo n))) := by
  refine (read8 t r (resultP m c) (lo n)).symm.trans ((congrFun (blocks8 m c t (flush0_8 t)) _).trans ?_)
  rw [flushed8]
  refine (out8_lo r n _ _ _ _ _ _).trans ?_
  simp only [iblk0, iblk2, iblk4, iblk5]

theorem resultP_hi : resultP m c (ix2 (row t r) (hi n))
    = gateGrad (gradAt n (argD m c) (argW m c) (row t r)) (argG m c (ix2 (row t r) n)) (argP m c (ix2 (row t r) (hi n))) := by
  refine (read8 t r (resultP m c) (hi n)).symm.trans ((congrFun (blocks8 m c t (flush0_8 t)) _).trans ?_)
  rw [flushed8]
  refine (out8_hi r n _ _ _ _ _ _).trans ?_
  simp only [iblk1, iblk3, iblk4, iblk5]

/-! ## The reference -/

section
variable (x0 : S4096x2048.Idx → EReal) (x1 x2 x3 : S4096x1024.Idx → EReal) (x4 : S1024x1024.Idx → EReal) (s : Fin 4096)

theorem gateC_at : val_main_v8 (F := Ideal) x0 (ix2 s n) = gate (x0 (ix2 s (lo n))) := by
  pointwise [val_main_v8, val_main_v7, val_main_v6, val_main_v5, val_main_v4, val_main_v3, val_main_v1, val_main_v0, val_main_cst, val_main_cst_0, gate]
  rw [zero_sub]
  rfl
theorem gateG_at : val_main_v19 (F := Ideal) x0 (ix2 s n) = gate (x0 (ix2 s (hi n))) := by
  pointwise [val_main_v19, val_main_v18, val_main_v17, val_main_v16, val_main_v15, val_main_v14, val_main_v2, val_main_v0, val_main_cst_2, val_main_cst_3, gate]
  rw [zero_sub]
  rfl
theorem grad_at : val_main_v29 (F := Ideal) x3 x4 (ix2 s n) = gradAt n x3 x4 s := by
  pointwise [val_main_v29, val_main_v28, val_main_v26, gradAt, grad]
theorem referenceC_at : val_main_v36 (F := Ideal) x0 x3 x4 (ix2 s n) = gradAt n x3 x4 s * gate (x0 (ix2 s (lo n))) := by
  pointwise [val_main_v36, val_main_v34]
  rw [gateC_at, grad_at, mul_comm]
theorem referenceG_at : val_main_v32 (F := Ideal) x0 x3 x4 (ix2 s n) = gradAt n x3 x4 s * gate (x0 (ix2 s (hi n))) := by
  pointwise [val_main_v32, val_main_v30]
  rw [gateG_at, grad_at, mul_comm]
theorem gradC_at : val_main_v37 (F := Ideal) x0 x1 x3 x4 (ix2 s n) = gateGrad (gradAt n x3 x4 s) (x1 (ix2 s n)) (x0 (ix2 s (lo n))) := by
  pointwise [val_main_v37, val_main_v35, val_main_v12, val_main_v11, val_main_v10, val_main_v9, val_main_cst_1]
  rw [gateC_at, grad_at]
  exact (mul_assoc _ _ _).symm
theorem gradG_at : val_main_v33 (F := Ideal) x0 x2 x3 x4 (ix2 s n) = gateGrad (gradAt n x3 x4 s) (x2 (ix2 s n)) (x0 (ix2 s (hi n))) := by
  pointwise [val_main_v33, val_main_v31, val_main_v23, val_main_v22, val_main_v21, val_main_v20, val_main_cst_4]
  rw [gateG_at, grad_at]
  exact (mul_assoc _ _ _).symm
theorem referenceP_lo : val_main_v39 (F := Ideal) x0 x1 x2 x3 x4 (ix2 s (lo n)) = gateGrad (gradAt n x3 x4 s) (x1 (ix2 s n)) (x0 (ix2 s (lo n))) := by
  pointwise [val_main_v39, val_main_v38]
  rw [dif_pos (show (lo n).val < 1024 from n.isLt)]
  exact gradC_at n x0 x1 x3 x4 s
theorem referenceP_hi : val_main_v39 (F := Ideal) x0 x1 x2 x3 x4 (ix2 s (hi n)) = gateGrad (gradAt n x3 x4 s) (x2 (ix2 s n)) (x0 (ix2 s (hi n))) := by
  pointwise [val_main_v39, val_main_v38]
  rw [dif_neg (show ¬ (hi n).val < 1024 by simp [hi])]
  refine Eq.trans ?_ (gradG_at n x0 x2 x3 x4 s)
  congr 2
  exact Fin.ext (Nat.add_sub_cancel_left 1024 n.val)
end

/-! ## The equations -/

/-- Every row is one of a point's, -/
theorem row_of (s : Fin 4096) : ∃ t r, row t r = s := by
  have hN : cfg0.N = 8 := N_0
  exact ⟨⟨s.val / 512, by omega⟩, ⟨s.val % 512, Nat.mod_lt _ (by decide)⟩, Fin.ext (by show s.val / 512 * 512 + s.val % 512 = _; omega)⟩

/-- and every column of the gates lies in one of the halves. -/
theorem half_of (q : Fin 2048) : (∃ n, lo n = q) ∨ ∃ n, hi n = q := by
  rcases lt_or_ge q.val 1024 with h | h
  · exact .inl ⟨⟨q.val, h⟩, rfl⟩
  · exact .inr ⟨⟨q.val - 1024, by omega⟩, Fin.ext (by show 1024 + (q.val - 1024) = q.val; omega)⟩

theorem equalC : resultC m c = val_main_v36 (F := Ideal) (argP m c) (argD m c) (argW m c) := by
  funext i
  obtain ⟨t, r, h⟩ := row_of (i 0)
  have e : i = ix2 (row t r) (i 1) := by rw [h]; funext a; fin_cases a <;> rfl
  rw [e]
  exact (resultC_at m c t r (i 1)).trans (referenceC_at _ _ _ _ _).symm

theorem equalG : resultG m c = val_main_v32 (F := Ideal) (argP m c) (argD m c) (argW m c) := by
  funext i
  obtain ⟨t, r, h⟩ := row_of (i 0)
  have e : i = ix2 (row t r) (i 1) := by rw [h]; funext a; fin_cases a <;> rfl
  rw [e]
  exact (resultG_at m c t r (i 1)).trans (referenceG_at _ _ _ _ _).symm

theorem equalP : resultP m c = val_main_v39 (F := Ideal) (argP m c) (argC m c) (argG m c) (argD m c) (argW m c) := by
  funext i
  obtain ⟨t, r, h⟩ := row_of (i 0)
  rcases half_of (i 1) with ⟨n, hn⟩ | ⟨n, hn⟩
  · have e : i = ix2 (row t r) (lo n) := by rw [h, hn]; funext a; fin_cases a <;> rfl
    rw [e]
    exact (resultP_lo m c t r n).trans (referenceP_lo _ _ _ _ _ _ _).symm
  · have e : i = ix2 (row t r) (hi n) := by rw [h, hn]; funext a; fin_cases a <;> rfl
    rw [e]
    exact (resultP_hi m c t r n).trans (referenceP_hi _ _ _ _ _ _ _).symm

end Cert.MergeBwd

end
-- ==== Proof.WInGrad1.lean ====
/-
  The gradients of an input projection of 2048 columns: the kernel sums its four tiles of tokens to the reference's
  gradients of the weight and of the bias.
-/
module

public import proofs.«01_k».proof.Proof.Gen.Kernel3Ideal.Value
public import proofs.«01_k».proof.Proof.Gen.Reference3Ideal.Read
public import Idealize.ShloMosaic.Lib.Pipeline.ValueKit

@[expose] public section

noncomputable section

namespace Cert.WInGrad1

open Cert.Kernel3Ideal Cert.Kernel3Ideal.Gen Cert.Kernel3Ideal.Value Idealize.ShloMosaic Idealize.ShloMosaic.TcCoe Idealize.ShloMosaic.Pointwise
open Cert.Reference3Ideal.Read

/-- Token `r` of the point's tile among the latent tokens, -/
def row (t : Fin cfg0.N) (r : Fin 1024) : Fin 4096 := ⟨t.val % 4 * 1024 + r.val, by omega⟩
/-- a latent token among all, -/
def tok (s : Fin 4096) : Fin 4608 := ⟨s.val, by omega⟩
/-- and column `n` of the point's tile. -/
def col (t : Fin cfg0.N) (n : Fin 1024) : Fin 2048 := ⟨t.val / 4 * 1024 + n.val, by have := Nat.lt_of_lt_of_eq t.isLt N_0; omega⟩

theorem idx : ∀ t : Fin cfg0.N, win0_0.index t = ![t.val % 4, 0] ∧ win0_1.index t = ![t.val % 4, t.val / 4]
    ∧ win0_2.index t = ![0, t.val / 4] ∧ win0_3.index t = ![0, t.val / 4] := by
  decide +kernel

/-- Two points that write back write different columns. -/
theorem idx_inj : ∀ t t' : Fin cfg0.N, t.val % 4 = 3 → t'.val % 4 = 3 → t.val / 4 = t'.val / 4 → t = t' :=
  fun t t' h h' e => Fin.ext (by omega)

theorem disjoint2 (t t' : Fin cfg0.N) (h : (cfg0.win 2).flush t = true) (h' : (cfg0.win 2).flush t' = true) (hne : t ≠ t') :
    Disjoint ((cfg0.win 2).blk t).view.set ((cfg0.win 2).blk t').view.set :=
  (cfg0.win 2).disjoint_blk fun e => hne (idx_inj t t' ((flush0_2 t).mp h) ((flush0_2 t').mp h') (by
    have e' : win0_2.index t = win0_2.index t' := e
    rw [(idx t).2.2.1, (idx t').2.2.1] at e'
    exact congrFun e' 1))

theorem disjoint3 (t t' : Fin cfg0.N) (h : (cfg0.win 3).flush t = true) (h' : (cfg0.win 3).flush t' = true) (hne : t ≠ t') :
    Disjoint ((cfg0.win 3).blk t).view.set ((cfg0.win 3).blk t').view.set :=
  (cfg0.win 3).disjoint_blk fun e => hne (idx_inj t t' ((flush0_3 t).mp h) ((flush0_3 t').mp h') (by
    have e' : win0_3.index t = win0_3.index t' := e
    rw [(idx t).2.2.2, (idx t').2.2.2] at e'
    exact congrFun e' 1))

variable (m : (ℓ : Loc nD τ sig) → Buf (Elt Ideal) ℓ) (c : Dev nD) (t : Fin cfg0.N) (r n k : Fin 1024)

theorem iblk0 : X0_0 m c t (ix2 r k) = m ((c : Thread nD τ).loc main_arg0) (ix2 (tok (row t r)) k) := by
  have e : (tok (row t r)).val = t.val % 4 * 1024 + r.val := rfl
  unfold X0_0 Pipeline.Window.fill
  rw [dif_pos (moved0_0 t _)]
  blk_ext [iblk, V_main_arg0, idx t]

theorem iblk1 : iblk m c 1 t (ix2 r n) = m ((c : Thread nD τ).loc main_arg1) (ix2 (row t r) (col t n)) := by
  have e : (row t r).val = t.val % 4 * 1024 + r.val := rfl
  have e' : (col t n).val = t.val / 4 * 1024 + n.val := rfl
  blk_ext [iblk, V_main_arg1, idx t]

theorem read2 (X : Vec Ideal S1024x2048 .f32) : ((cfg0.win 2).blk t).view.read (Elt Ideal) X (ix2 k n) = X (ix2 k (col t n)) := by
  have e' : (col t n).val = t.val / 4 * 1024 + n.val := rfl
  blk_ext [idx t]

theorem read3 (X : Vec Ideal S1x2048 .f32) : ((cfg0.win 3).blk t).view.read (Elt Ideal) X (ix2 0 n) = X (ix2 0 (col t n)) := by
  have e' : (col t n).val = t.val / 4 * 1024 + n.val := rfl
  blk_ext [idx t]

/-- What a point adds to a tile of the weight's gradient, -/
theorem pay3_at (a : Vec Ideal S1024x1024 .f32) (x y : Vec Ideal S1024x1024 .bf16) :
    k0_pay3 a x y (ix2 k n) = (a (ix2 k n) + ∑ r : Fin 1024, x (ix2 r k) * y (ix2 r n) : EReal) := by
  pointwise [k0_pay3]

/-- and to a tile of the bias's. -/
theorem pay4_at (a : Vec Ideal S1x1024 .f32) (y : Vec Ideal S1024x1024 .bf16) :
    k0_pay4 a y (ix2 0 n) = (a (ix2 0 n) + ∑ r : Fin 1024, y (ix2 r n) : EReal) := by
  pointwise [k0_pay4]

theorem pay1_at : k0_pay1 (F := Ideal) (ix2 k n) = (0 : EReal) := by pointwise [k0_pay1]
theorem pay2_at : k0_pay2 (F := Ideal) (ix2 0 n) = (0 : EReal) := by pointwise [k0_pay2]

abbrev argA : S4608x1024.Idx → EReal := m ((c : Thread nD τ).loc main_arg0)
abbrev argB : S4096x2048.Idx → EReal := m ((c : Thread nD τ).loc main_arg1)
/-- The kernel's results after all points. -/
abbrev resultW : Vec Ideal S1024x2048 .f32 := (dats m 0 c).arrAt 2 cfg0.N
abbrev resultB : Vec Ideal S1x2048 .f32 := (dats m 0 c).arrAt 3 cfg0.N

/-- The tokens of the four points of a column tile are all the latent tokens. -/
theorem tokens (f : Fin 4096 → Fin 2048 → EReal) (h : t.val % 4 = 4 - 1) :
    (∑ s : Fin 4, ∑ r : Fin 1024, f (row ⟨4 * (t.val / 4) + s.val, Pipeline.run_point_lt_of_flush t h s⟩ r)
      (col ⟨4 * (t.val / 4) + s.val, Pipeline.run_point_lt_of_flush t h s⟩ n)) = ∑ r : Fin 4096, f r (col t n) := by
  refine Fin.sum_mul_add_congr fun s r hl => ?_
  refine congrArg₂ f (Fin.ext ?_) (Fin.ext ?_)
  · show (4 * (t.val / 4) + s.val) % 4 * 1024 + r.val = s.val * 1024 + r.val; omega
  · show (4 * (t.val / 4) + s.val) / 4 * 1024 + n.val = t.val / 4 * 1024 + n.val; omega

theorem outs2 (h : t.val % 4 = 3) : (outsAt0 m c t.val t.isLt).1 (ix2 k n) = ∑ r : Fin 4096, argA m c (ix2 (tok r) k) * argB m c (ix2 r (col t n)) := by
  rw [← tokens t n (fun r d => argA m c (ix2 (tok r) k) * argB m c (ix2 r d)) h]
  refine (Pipeline.eq_sum_fin_of_reset_step_apply_of_flush (fun n h => (fun i : Fin 1024 × Fin 1024 => (outsAt0 m c n h).1 (ix2 i.1 i.2))) 4 (fun _ => (0 : EReal))
    (fun t i => ∑ r : Fin 1024, argA m c (ix2 (tok (row t r)) i.1) * argB m c (ix2 (row t r) (col t i.2))) (fun t h i => ?_) (fun t h i => ?_) t h (k, n)).trans (zero_add _)
  · rw [outsAt0_A m c t h]; frame_out
    rw [pay3_at, pay1_at]
    simp only [iblk0, iblk1]
  · rw [outsAt0_B m c t h]; frame_out
    rw [pay3_at]
    simp only [iblk0, iblk1]

theorem outs3 (h : t.val % 4 = 3) : (outsAt0 m c t.val t.isLt).2 (ix2 0 n) = ∑ r : Fin 4096, argB m c (ix2 r (col t n)) := by
  rw [← tokens t n (fun r d => argB m c (ix2 r d)) h]
  refine (Pipeline.eq_sum_fin_of_reset_step_apply_of_flush (fun n h => (fun i : Fin 1024 => (outsAt0 m c n h).2 (ix2 0 i))) 4 (fun _ => (0 : EReal))
    (fun t i => ∑ r : Fin 1024, argB m c (ix2 (row t r) (col t i))) (fun t h i => ?_) (fun t h i => ?_) t h n).trans (zero_add _)
  · rw [outsAt0_A m c t h]; frame_out
    rw [pay4_at, pay2_at]
    simp only [iblk1]
  · rw [outsAt0_B m c t h]; frame_out
    rw [pay4_at]
    simp only [iblk1]

theorem resultW_at (h : t.val % 4 = 3) : resultW m c (ix2 k (col t n)) = ∑ r : Fin 4096, argA m c (ix2 (tok r) k) * argB m c (ix2 r (col t n)) := by
  refine (read2 t n k (resultW m c)).symm.trans ((congrFun ((dats m 0 c).read_blk_arrAt_eq_flushed 2 disjoint2 cfg0.N t t.isLt ((flush0_2 t).mpr h)) _).trans ?_)
  rw [flushed2]
  exact outs2 m c t n k h

theorem resultB_at (h : t.val % 4 = 3) : resultB m c (ix2 0 (col t n)) = ∑ r : Fin 4096, argB m c (ix2 r (col t n)) := by
  refine (read3 t n (resultB m c)).symm.trans ((congrFun ((dats m 0 c).read_blk_arrAt_eq_flushed 3 disjoint3 cfg0.N t t.isLt ((flush0_3 t).mpr h)) _).trans ?_)
  rw [flushed3]
  exact outs3 m c t n h

/-- Every column is one of a point's that writes back. -/
theorem col_of (d : Fin 2048) : ∃ t n, t.val % 4 = 3 ∧ col t n = d := by
  have hN : cfg0.N = 8 := N_0
  refine ⟨⟨d.val / 1024 * 4 + 3, by omega⟩, ⟨d.val % 1024, Nat.mod_lt _ (by decide)⟩, ?_, Fin.ext ?_⟩
  · show (d.val / 1024 * 4 + 3) % 4 = 3; omega
  · show (d.val / 1024 * 4 + 3) / 4 * 1024 + d.val % 1024 = _; omega

theorem referenceW_at (x0 : S4608x1024.Idx → EReal) (x1 : S4096x2048.Idx → EReal) (d : Fin 2048) :
    val_main_v11 (F := Ideal) x0 x1 (ix2 k d) = (∑ r : Fin 4096, x0 (ix2 (tok r) k) * x1 (ix2 r d) : EReal) := by
  pointwise [val_main_v11, val_main_v10, val_main_v7, val_main_v3, val_main_v2]
  exact Finset.sum_congr rfl fun r _ => mul_comm _ _

theorem referenceB_at (x1 : S4096x2048.Idx → EReal) (d : Fin 2048) :
    val_main_v9 (F := Ideal) x1 (ix2 0 d) = (∑ r : Fin 4096, x1 (ix2 r d) : EReal) := by
  pointwise [val_main_v9, val_main_v8, val_main_v7, val_main_cst_1]

theorem equalW : resultW m c = val_main_v11 (F := Ideal) (argA m c) (argB m c) := by
  funext i
  obtain ⟨t, n, h, h'⟩ := col_of (i 1)
  have e : i = ix2 (i 0) (col t n) := by rw [h']; funext a; fin_cases a <;> rfl
  rw [e]
  exact (resultW_at m c t n (i 0) h).trans (referenceW_at _ _ _ _).symm

theorem equalB : resultB m c = val_main_v9 (F := Ideal) (argB m c) := by
  funext i
  obtain ⟨t, n, h, h'⟩ := col_of (i 1)
  have h0 : (i 0).val < 1 := (i 0).isLt
  have e : i = ix2 0 (col t n) := by
    rw [h']; funext a
    exact match a with
      | ⟨0, _⟩ => Fin.ext (Nat.lt_one_iff.mp h0)
      | ⟨1, _⟩ => rfl
  rw [e]
  exact (resultB_at m c t n h).trans (referenceB_at _ _).symm

end Cert.WInGrad1

end
-- ==== Proof.WInGrad2.lean ====
/-
  The gradients of an input projection of 1024 columns: the kernel sums its four tiles of tokens to the reference's
  gradients of the weight and of the bias.
-/
module

public import proofs.«01_k».proof.Proof.Gen.Kernel4Ideal.Value
public import proofs.«01_k».proof.Proof.Gen.Reference4Ideal.Read
public import Idealize.ShloMosaic.Lib.Pipeline.ValueKit

@[expose] public section

noncomputable section

namespace Cert.WInGrad2

open Cert.Kernel4Ideal Cert.Kernel4Ideal.Gen Cert.Kernel4Ideal.Value Idealize.ShloMosaic Idealize.ShloMosaic.TcCoe Idealize.ShloMosaic.Pointwise
open Cert.Reference4Ideal.Read

/-- Token `r` of the point's tile among the latent tokens, -/
def row (t : Fin cfg0.N) (r : Fin 1024) : Fin 4096 := ⟨t.val * 1024 + r.val, by have := Nat.lt_of_lt_of_eq t.isLt N_0; omega⟩
/-- and a latent token among all. -/
def tok (s : Fin 4096) : Fin 4608 := ⟨s.val, by omega⟩

theorem idx : ∀ t : Fin cfg0.N, win0_0.index t = ![t.val, 0] ∧ win0_1.index t = ![t.val, 0]
    ∧ win0_2.index t = ![0, 0] ∧ win0_3.index t = ![0, 0] := by
  decide +kernel

/-- Only the last point writes back. -/
theorem last_inj (t t' : Fin cfg0.N) (h : t.val % 4 = 3) (h' : t'.val % 4 = 3) : t = t' := by
  have hN : cfg0.N = 4 := N_0
  exact Fin.ext (by omega)

variable (m : (ℓ : Loc nD τ sig) → Buf (Elt Ideal) ℓ) (c : Dev nD) (t : Fin cfg0.N) (r n k : Fin 1024)

theorem iblk0 : X0_0 m c t (ix2 r k) = m ((c : Thread nD τ).loc main_arg0) (ix2 (tok (row t r)) k) := by
  have e : (tok (row t r)).val = t.val * 1024 + r.val := rfl
  unfold X0_0 Pipeline.Window.fill
  rw [dif_pos (moved0_0 t _)]
  blk_ext [iblk, V_main_arg0, idx t]

theorem iblk1 : iblk m c 1 t (ix2 r n) = m ((c : Thread nD τ).loc main_arg1) (ix2 (row t r) n) := by
  have e : (row t r).val = t.val * 1024 + r.val := rfl
  blk_ext [iblk, V_main_arg1, idx t]

theorem read2 (X : Vec Ideal S1024x1024 .f32) : ((cfg0.win 2).blk t).view.read (Elt Ideal) X (ix2 k n) = X (ix2 k n) := by
  blk_ext [idx t]

theorem read3 (X : Vec Ideal S1x1024 .f32) : ((cfg0.win 3).blk t).view.read (Elt Ideal) X (ix2 0 n) = X (ix2 0 n) := by
  blk_ext [idx t]

/-- What a point adds to the weight's gradient, -/
theorem pay3_at (a : Vec Ideal S1024x1024 .f32) (x y : Vec Ideal S1024x1024 .bf16) :
    k0_pay3 a x y (ix2 k n) = (a (ix2 k n) + ∑ r : Fin 1024, x (ix2 r k) * y (ix2 r n) : EReal) := by
  pointwise [k0_pay3]

/-- and to the bias's. -/
theorem pay4_at (a : Vec Ideal S1x1024 .f32) (y : Vec Ideal S1024x1024 .bf16) :
    k0_pay4 a y (ix2 0 n) = (a (ix2 0 n) + ∑ r : Fin 1024, y (ix2 r n) : EReal) := by
  pointwise [k0_pay4]

theorem pay1_at : k0_pay1 (F := Ideal) (ix2 k n) = (0 : EReal) := by pointwise [k0_pay1]
theorem pay2_at : k0_pay2 (F := Ideal) (ix2 0 n) = (0 : EReal) := by pointwise [k0_pay2]

abbrev argA : S4608x1024.Idx → EReal := m ((c : Thread nD τ).loc main_arg0)
abbrev argB : S4096x1024.Idx → EReal := m ((c : Thread nD τ).loc main_arg1)
/-- The kernel's results after all points. -/
abbrev resultW : Vec Ideal S1024x1024 .f32 := (dats m 0 c).arrAt 2 cfg0.N
abbrev resultB : Vec Ideal S1x1024 .f32 := (dats m 0 c).arrAt 3 cfg0.N

/-- The tokens of the four points are all the latent tokens. -/
theorem tokens (f : Fin 4096 → EReal) (h : t.val % 4 = 4 - 1) :
    (∑ s : Fin 4, ∑ r : Fin 1024, f (row ⟨4 * (t.val / 4) + s.val, Pipeline.run_point_lt_of_flush t h s⟩ r)) = ∑ r : Fin 4096, f r := by
  have hN : cfg0.N = 4 := N_0
  refine Fin.sum_mul_add_congr fun s r hl => congrArg f (Fin.ext ?_)
  show (4 * (t.val / 4) + s.val) * 1024 + r.val = s.val * 1024 + r.val
  have := t.isLt
  omega

theorem outs2 (h : t.val % 4 = 3) : (outsAt0 m c t.val t.isLt).1 (ix2 k n) = ∑ r : Fin 4096, argA m c (ix2 (tok r) k) * argB m c (ix2 r n) := by
  rw [← tokens t (fun r => argA m c (ix2 (tok r) k) * argB m c (ix2 r n)) h]
  refine (Pipeline.eq_sum_fin_of_reset_step_apply_of_flush (fun n h => (fun i : Fin 1024 × Fin 1024 => (outsAt0 m c n h).1 (ix2 i.1 i.2))) 4 (fun _ => (0 : EReal))
    (fun t i => ∑ r : Fin 1024, argA m c (ix2 (tok (row t r)) i.1) * argB m c (ix2 (row t r) i.2)) (fun t h i => ?_) (fun t h i => ?_) t h (k, n)).trans (zero_add _)
  · rw [outsAt0_A m c t h]; frame_out
    rw [pay3_at, pay1_at]
    simp only [iblk0, iblk1]
  · rw [outsAt0_B m c t h]; frame_out
    rw [pay3_at]
    simp only [iblk0, iblk1]

theorem outs3 (h : t.val % 4 = 3) : (outsAt0 m c t.val t.isLt).2 (ix2 0 n) = ∑ r : Fin 4096, argB m c (ix2 r n) := by
  rw [← tokens t (fun r => argB m c (ix2 r n)) h]
  refine (Pipeline.eq_sum_fin_of_reset_step_apply_of_flush (fun n h => (fun i : Fin 1024 => (outsAt0 m c n h).2 (ix2 0 i))) 4 (fun _ => (0 : EReal))
    (fun t i => ∑ r : Fin 1024, argB m c (ix2 (row t r) i)) (fun t h i => ?_) (fun t h i => ?_) t h n).trans (zero_add _)
  · rw [outsAt0_A m c t h]; frame_out
    rw [pay4_at, pay2_at]
    simp only [iblk1]
  · rw [outsAt0_B m c t h]; frame_out
    rw [pay4_at]
    simp only [iblk1]

theorem resultW_at (h : t.val % 4 = 3) : resultW m c (ix2 k n) = ∑ r : Fin 4096, argA m c (ix2 (tok r) k) * argB m c (ix2 r n) := by
  refine (read2 t n k (resultW m c)).symm.trans ((congrFun ((dats m 0 c).read_blk_arrAt_eq_flushed 2
    (fun t t' h h' hne => absurd (last_inj t t' ((flush0_2 t).mp h) ((flush0_2 t').mp h')) hne) cfg0.N t t.isLt ((flush0_2 t).mpr h)) _).trans ?_)
  rw [flushed2]
  exact outs2 m c t n k h

theorem resultB_at (h : t.val % 4 = 3) : resultB m c (ix2 0 n) = ∑ r : Fin 4096, argB m c (ix2 r n) := by
  refine (read3 t n (resultB m c)).symm.trans ((congrFun ((dats m 0 c).read_blk_arrAt_eq_flushed 3
    (fun t t' h h' hne => absurd (last_inj t t' ((flush0_3 t).mp h) ((flush0_3 t').mp h')) hne) cfg0.N t t.isLt ((flush0_3 t).mpr h)) _).trans ?_)
  rw [flushed3]
  exact outs3 m c t n h

/-- The last point. -/
def last : Fin cfg0.N := ⟨3, by have : cfg0.N = 4 := N_0; omega⟩

theorem referenceW_at (x0 : S4608x1024.Idx → EReal) (x1 : S4096x1024.Idx → EReal) :
    val_main_v11 (F := Ideal) x0 x1 (ix2 k n) = (∑ r : Fin 4096, x0 (ix2 (tok r) k) * x1 (ix2 r n) : EReal) := by
  pointwise [val_main_v11, val_main_v10, val_main_v7, val_main_v3, val_main_v2]
  exact Finset.sum_congr rfl fun r _ => mul_comm _ _

theorem referenceB_at (x1 : S4096x1024.Idx → EReal) :
    val_main_v9 (F := Ideal) x1 (ix2 0 n) = (∑ r : Fin 4096, x1 (ix2 r n) : EReal) := by
  pointwise [val_main_v9, val_main_v8, val_main_v7, val_main_cst_1]

theorem equalW : resultW m c = val_main_v11 (F := Ideal) (argA m c) (argB m c) := by
  funext i
  have e : i = ix2 (i 0) (i 1) := by funext a; fin_cases a <;> rfl
  rw [e]
  exact (resultW_at m c last (i 1) (i 0) rfl).trans (referenceW_at _ _ _ _).symm

theorem equalB : resultB m c = val_main_v9 (F := Ideal) (argB m c) := by
  funext i
  have h0 : (i 0).val < 1 := (i 0).isLt
  have e : i = ix2 0 (i 1) := by
    funext a
    exact match a with
      | ⟨0, _⟩ => Fin.ext (Nat.lt_one_iff.mp h0)
      | ⟨1, _⟩ => rfl
  rw [e]
  exact (resultB_at m c last (i 1) rfl).trans (referenceB_at _ _).symm

end Cert.WInGrad2

end
-- ==== Proof.WOutGrad.lean ====
/-
  The gradient of the output projection's weight: the kernel sums its four tiles of tokens to the reference's gradient.
-/
module

public import proofs.«01_k».proof.Proof.Gen.Kernel5Ideal.Value
public import proofs.«01_k».proof.Proof.Gen.Reference5Ideal.Read
public import Idealize.ShloMosaic.Lib.Pipeline.ValueKit

@[expose] public section

noncomputable section

namespace Cert.WOutGrad

open Cert.Kernel5Ideal Cert.Kernel5Ideal.Gen Cert.Kernel5Ideal.Value Idealize.ShloMosaic Idealize.ShloMosaic.TcCoe Idealize.ShloMosaic.Pointwise
open Cert.Reference5Ideal.Read

/-- Token `r` of the point's tile. -/
def row (t : Fin cfg0.N) (r : Fin 1024) : Fin 4096 := ⟨t.val * 1024 + r.val, by have := Nat.lt_of_lt_of_eq t.isLt N_0; omega⟩

theorem idx : ∀ t : Fin cfg0.N, win0_0.index t = ![t.val, 0] ∧ win0_1.index t = ![t.val, 0] ∧ win0_2.index t = ![0, 0] := by
  decide +kernel

/-- Only the last point writes back. -/
theorem last_inj (t t' : Fin cfg0.N) (h : t.val % 4 = 3) (h' : t'.val % 4 = 3) : t = t' := by
  have hN : cfg0.N = 4 := N_0
  exact Fin.ext (by omega)

variable (m : (ℓ : Loc nD τ sig) → Buf (Elt Ideal) ℓ) (c : Dev nD) (t : Fin cfg0.N) (r n k : Fin 1024)

theorem iblk0 : iblk m c 0 t (ix2 r k) = m ((c : Thread nD τ).loc main_arg0) (ix2 (row t r) k) := by
  have e : (row t r).val = t.val * 1024 + r.val := rfl
  blk_ext [iblk, V_main_arg0, idx t]

theorem iblk1 : iblk m c 1 t (ix2 r n) = m ((c : Thread nD τ).loc main_arg1) (ix2 (row t r) n) := by
  have e : (row t r).val = t.val * 1024 + r.val := rfl
  blk_ext [iblk, V_main_arg1, idx t]

theorem read2 (X : Vec Ideal S1024x1024 .f32) : ((cfg0.win 2).blk t).view.read (Elt Ideal) X (ix2 k n) = X (ix2 k n) := by
  blk_ext [idx t]

/-- What a point adds. -/
theorem pay2_at (a : Vec Ideal S1024x1024 .f32) (x y : Vec Ideal S1024x1024 .bf16) :
    k0_pay2 a x y (ix2 k n) = (a (ix2 k n) + ∑ r : Fin 1024, x (ix2 r k) * y (ix2 r n) : EReal) := by
  pointwise [k0_pay2]

theorem pay1_at : k0_pay1 (F := Ideal) (ix2 k n) = (0 : EReal) := by pointwise [k0_pay1]

abbrev argA : S4096x1024.Idx → EReal := m ((c : Thread nD τ).loc main_arg0)
abbrev argB : S4096x1024.Idx → EReal := m ((c : Thread nD τ).loc main_arg1)
/-- The kernel's result after all points. -/
abbrev result : Vec Ideal S1024x1024 .f32 := (dats m 0 c).arrAt 2 cfg0.N

/-- The tokens of the four points are all the tokens. -/
theorem tokens (f : Fin 4096 → EReal) (h : t.val % 4 = 4 - 1) :
    (∑ s : Fin 4, ∑ r : Fin 1024, f (row ⟨4 * (t.val / 4) + s.val, Pipeline.run_point_lt_of_flush t h s⟩ r)) = ∑ r : Fin 4096, f r := by
  have hN : cfg0.N = 4 := N_0
  refine Fin.sum_mul_add_congr fun s r hl => congrArg f (Fin.ext ?_)
  show (4 * (t.val / 4) + s.val) * 1024 + r.val = s.val * 1024 + r.val
  have := t.isLt
  omega

theorem outs2 (h : t.val % 4 = 3) : outsAt0 m c t.val t.isLt (ix2 k n) = ∑ r : Fin 4096, argA m c (ix2 r k) * argB m c (ix2 r n) := by
  rw [← tokens t (fun r => argA m c (ix2 r k) * argB m c (ix2 r n)) h]
  refine (Pipeline.eq_sum_fin_of_reset_step_apply_of_flush (fun n h => (fun i : Fin 1024 × Fin 1024 => outsAt0 m c n h (ix2 i.1 i.2))) 4 (fun _ => (0 : EReal))
    (fun t i => ∑ r : Fin 1024, argA m c (ix2 (row t r) i.1) * argB m c (ix2 (row t r) i.2)) (fun t h i => ?_) (fun t h i => ?_) t h (k, n)).trans (zero_add _)
  · rw [outsAt0_A m c t h]; frame_out
    rw [pay2_at, pay1_at]
    simp only [iblk0, iblk1]
  · rw [outsAt0_B m c t h]; frame_out
    rw [pay2_at]
    simp only [iblk0, iblk1]

theorem result_at (h : t.val % 4 = 3) : result m c (ix2 k n) = ∑ r : Fin 4096, argA m c (ix2 r k) * argB m c (ix2 r n) := by
  refine (read2 t n k (result m c)).symm.trans ((congrFun ((dats m 0 c).read_blk_arrAt_eq_flushed 2
    (fun t t' h h' hne => absurd (last_inj t t' ((flush0_2 t).mp h) ((flush0_2 t').mp h')) hne) cfg0.N t t.isLt ((flush0_2 t).mpr h)) _).trans ?_)
  rw [flushed2]
  exact outs2 m c t n k h

/-- The last point. -/
def last : Fin cfg0.N := ⟨3, by have : cfg0.N = 4 := N_0; omega⟩

theorem reference_at (x0 x1 : S4096x1024.Idx → EReal) :
    val_main_v5 (F := Ideal) x0 x1 (ix2 k n) = (∑ r : Fin 4096, x0 (ix2 r k) * x1 (ix2 r n) : EReal) := by
  pointwise [val_main_v5, val_main_v4, val_main_v3, val_main_v1]
  exact Finset.sum_congr rfl fun r _ => mul_comm _ _

theorem equal : result m c = val_main_v5 (F := Ideal) (argA m c) (argB m c) := by
  funext i
  have e : i = ix2 (i 0) (i 1) := by funext a; fin_cases a <;> rfl
  rw [e]
  exact (result_at m c last (i 1) (i 0) rfl).trans (reference_at _ _ _ _).symm

end Cert.WOutGrad

end
-- ==== Proof.ProjConv.lean ====
/-
  An input projection of 2048 columns, in two tiles of columns: the kernel's product and bias are the reference's.
-/
module

public import proofs.«01_k».proof.Proof.Gen.Kernel6Ideal.Value
public import proofs.«01_k».proof.Proof.Gen.Reference6Ideal.Read
public import Idealize.ShloMosaic.Lib.Pipeline.ValueKit

@[expose] public section

noncomputable section

namespace Cert.ProjConv

open Cert.Kernel6Ideal Cert.Kernel6Ideal.Gen Cert.Kernel6Ideal.Value Idealize.ShloMosaic Idealize.ShloMosaic.TcCoe Idealize.ShloMosaic.Pointwise
open Cert.Reference6Ideal.Read

/-- Row `r` of the point's tile among the latent tokens, -/
def row (t : Fin cfg0.N) (r : Fin 1024) : Fin 4096 := ⟨t.val % 4 * 1024 + r.val, by omega⟩
/-- a latent token among all, -/
def tok (s : Fin 4096) : Fin 4608 := ⟨s.val, by omega⟩
/-- and column `n` of the point's tile. -/
def col (t : Fin cfg0.N) (n : Fin 1024) : Fin 2048 := ⟨t.val / 4 * 1024 + n.val, by have := Nat.lt_of_lt_of_eq t.isLt N_0; omega⟩

theorem idx : ∀ t : Fin cfg0.N, win0_0.index t = ![t.val % 4, 0] ∧ win0_1.index t = ![0, t.val / 4] ∧ win0_2.index t = ![0, t.val / 4]
    ∧ win0_3.index t = ![t.val % 4, t.val / 4] := by
  decide +kernel

variable (m : (ℓ : Loc nD τ sig) → Buf (Elt Ideal) ℓ) (c : Dev nD) (t : Fin cfg0.N) (r n k : Fin 1024)

theorem iblk0 : X0_0 m c t (ix2 r k) = m ((c : Thread nD τ).loc main_arg0) (ix2 (tok (row t r)) k) := by
  have e : (tok (row t r)).val = t.val % 4 * 1024 + r.val := rfl
  unfold X0_0 Pipeline.Window.fill
  rw [dif_pos (moved0_0 t _)]
  blk_ext [iblk, V_main_arg0, idx t]

theorem iblk1 : iblk m c 1 t (ix2 k n) = m ((c : Thread nD τ).loc main_arg1) (ix2 k (col t n)) := by
  have e : (col t n).val = t.val / 4 * 1024 + n.val := rfl
  blk_ext [iblk, V_main_arg1, idx t]

theorem iblk2 : iblk m c 2 t (ix2 0 n) = m ((c : Thread nD τ).loc main_arg2) (ix2 0 (col t n)) := by
  have e : (col t n).val = t.val / 4 * 1024 + n.val := rfl
  blk_ext [iblk, V_main_arg2, idx t]

theorem read3 (X : Vec Ideal S4096x2048 .bf16) :
    ((cfg0.win 3).blk t).view.read (Elt Ideal) X (ix2 r n) = X (ix2 (row t r) (col t n)) := by
  have e : (row t r).val = t.val % 4 * 1024 + r.val := rfl
  have e' : (col t n).val = t.val / 4 * 1024 + n.val := rfl
  blk_ext [idx t]

/-- What a point writes, element by element. -/
theorem pay_at (x y : Vec Ideal S1024x1024 .bf16) (b : Vec Ideal S1x1024 .f32) :
    k0_pay1 x y b (ix2 r n) = ((∑ k : Fin 1024, x (ix2 r k) * y (ix2 k n)) + b (ix2 0 n) : EReal) := by
  pointwise [k0_pay1]

abbrev argA : S4608x1024.Idx → EReal := m ((c : Thread nD τ).loc main_arg0)
abbrev argB : S1024x2048.Idx → EReal := m ((c : Thread nD τ).loc main_arg1)
abbrev argC : S1x2048.Idx → EReal := m ((c : Thread nD τ).loc main_arg2)
/-- The kernel's result after all points. -/
abbrev result : Vec Ideal S4096x2048 .bf16 := (dats m 0 c).arrAt 3 cfg0.N

theorem result_at : result m c (ix2 (row t r) (col t n))
    = (∑ k : Fin 1024, argA m c (ix2 (tok (row t r)) k) * argB m c (ix2 k (col t n))) + argC m c (ix2 0 (col t n)) := by
  refine (read3 t r n (result m c)).symm.trans ((congrFun (blocks3 m c t (flush0_3 t)) _).trans ?_)
  rw [flushed3_A]
  frame_out
  refine (pay_at r n _ _ _).trans (congrArg₂ _ (Finset.sum_congr rfl fun k _ => ?_) (iblk2 m c t n))
  rw [iblk0, iblk1]

/-- Every element is one of a point's. -/
theorem place_of (s : Fin 4096) (d : Fin 2048) : ∃ t r n, row t r = s ∧ col t n = d := by
  have hN : cfg0.N = 8 := N_0
  refine ⟨⟨d.val / 1024 * 4 + s.val / 1024, by omega⟩, ⟨s.val % 1024, Nat.mod_lt _ (by decide)⟩, ⟨d.val % 1024, Nat.mod_lt _ (by decide)⟩,
    Fin.ext ?_, Fin.ext ?_⟩
  · show (d.val / 1024 * 4 + s.val / 1024) % 4 * 1024 + s.val % 1024 = _; omega
  · show (d.val / 1024 * 4 + s.val / 1024) / 4 * 1024 + d.val % 1024 = _; omega

theorem reference_at (x0 : S4608x1024.Idx → EReal) (x1 : S1024x2048.Idx → EReal) (x2 : S1x2048.Idx → EReal) (s : Fin 4096) (d : Fin 2048) :
    val_main_v6 (F := Ideal) x0 x1 x2 (ix2 s d) = ((∑ k : Fin 1024, x0 (ix2 (tok s) k) * x1 (ix2 k d)) + x2 (ix2 0 d) : EReal) := by
  pointwise [val_main_v6, val_main_v5, val_main_v4, val_main_v3, val_main_v2, val_main_v1, val_main_v0]
  rfl

theorem equal : result m c = val_main_v6 (F := Ideal) (argA m c) (argB m c) (argC m c) := by
  funext i
  obtain ⟨t, r, n, h, h'⟩ := place_of (i 0) (i 1)
  have e : i = ix2 (row t r) (col t n) := by rw [h, h']; funext a; fin_cases a <;> rfl
  rw [e]
  exact (result_at m c t r n).trans (reference_at _ _ _ _ _).symm

end Cert.ProjConv

end
-- ==== Proof.ProjZ.lean ====
/-
  An input projection of 1024 columns: the kernel's product and bias are the reference's.
-/
module

public import proofs.«01_k».proof.Proof.Gen.Kernel7Ideal.Value
public import proofs.«01_k».proof.Proof.Gen.Reference7Ideal.Read
public import Idealize.ShloMosaic.Lib.Pipeline.ValueKit

@[expose] public section

noncomputable section

namespace Cert.ProjZ

open Cert.Kernel7Ideal Cert.Kernel7Ideal.Gen Cert.Kernel7Ideal.Value Idealize.ShloMosaic Idealize.ShloMosaic.TcCoe Idealize.ShloMosaic.Pointwise
open Cert.Reference7Ideal.Read

/-- Row `r` of the point's tile among the latent tokens, -/
def row (t : Fin cfg0.N) (r : Fin 1024) : Fin 4096 := ⟨t.val * 1024 + r.val, by have := Nat.lt_of_lt_of_eq t.isLt N_0; omega⟩
/-- and a latent token among all. -/
def tok (s : Fin 4096) : Fin 4608 := ⟨s.val, by omega⟩

theorem idx : ∀ t : Fin cfg0.N, win0_0.index t = ![t.val, 0] ∧ win0_1.index t = ![0, 0] ∧ win0_2.index t = ![0, 0]
    ∧ win0_3.index t = ![t.val, 0] := by
  decide +kernel

variable (m : (ℓ : Loc nD τ sig) → Buf (Elt Ideal) ℓ) (c : Dev nD) (t : Fin cfg0.N) (r n k : Fin 1024)

theorem iblk0 : X0_0 m c t (ix2 r k) = m ((c : Thread nD τ).loc main_arg0) (ix2 (tok (row t r)) k) := by
  have e : (tok (row t r)).val = t.val * 1024 + r.val := rfl
  unfold X0_0 Pipeline.Window.fill
  rw [dif_pos (moved0_0 t _)]
  blk_ext [iblk, V_main_arg0, idx t]

theorem iblk1 : iblk m c 1 t (ix2 k n) = m ((c : Thread nD τ).loc main_arg1) (ix2 k n) := by
  blk_ext [iblk, V_main_arg1, idx t]

theorem iblk2 : iblk m c 2 t (ix2 0 n) = m ((c : Thread nD τ).loc main_arg2) (ix2 0 n) := by
  blk_ext [iblk, V_main_arg2, idx t]

theorem read3 (X : Vec Ideal S4096x1024 .bf16) : ((cfg0.win 3).blk t).view.read (Elt Ideal) X (ix2 r n) = X (ix2 (row t r) n) := by
  have e : (row t r).val = t.val * 1024 + r.val := rfl
  blk_ext [idx t]

/-- What a point writes, element by element. -/
theorem pay_at (x y : Vec Ideal S1024x1024 .bf16) (b : Vec Ideal S1x1024 .f32) :
    k0_pay1 x y b (ix2 r n) = ((∑ k : Fin 1024, x (ix2 r k) * y (ix2 k n)) + b (ix2 0 n) : EReal) := by
  pointwise [k0_pay1]

abbrev argA : S4608x1024.Idx → EReal := m ((c : Thread nD τ).loc main_arg0)
abbrev argB : S1024x1024.Idx → EReal := m ((c : Thread nD τ).loc main_arg1)
abbrev argC : S1x1024.Idx → EReal := m ((c : Thread nD τ).loc main_arg2)
/-- The kernel's result after all points. -/
abbrev result : Vec Ideal S4096x1024 .bf16 := (dats m 0 c).arrAt 3 cfg0.N

theorem result_at : result m c (ix2 (row t r) n)
    = (∑ k : Fin 1024, argA m c (ix2 (tok (row t r)) k) * argB m c (ix2 k n)) + argC m c (ix2 0 n) := by
  refine (read3 t r n (result m c)).symm.trans ((congrFun (blocks3 m c t (flush0_3 t)) _).trans ?_)
  rw [flushed3_A]
  frame_out
  refine (pay_at r n _ _ _).trans (congrArg₂ _ (Finset.sum_congr rfl fun k _ => ?_) (iblk2 m c t n))
  rw [iblk0, iblk1]

/-- Every row is one of a point's. -/
theorem row_of (s : Fin 4096) : ∃ t r, row t r = s := by
  have hN : cfg0.N = 4 := N_0
  exact ⟨⟨s.val / 1024, by omega⟩, ⟨s.val % 1024, Nat.mod_lt _ (by decide)⟩, Fin.ext (by show s.val / 1024 * 1024 + s.val % 1024 = _; omega)⟩

theorem reference_at (x0 : S4608x1024.Idx → EReal) (x1 : S1024x1024.Idx → EReal) (x2 : S1x1024.Idx → EReal) (s : Fin 4096) :
    val_main_v6 (F := Ideal) x0 x1 x2 (ix2 s n) = ((∑ k : Fin 1024, x0 (ix2 (tok s) k) * x1 (ix2 k n)) + x2 (ix2 0 n) : EReal) := by
  pointwise [val_main_v6, val_main_v5, val_main_v4, val_main_v3, val_main_v2, val_main_v1, val_main_v0]
  rfl

theorem equal : result m c = val_main_v6 (F := Ideal) (argA m c) (argB m c) (argC m c) := by
  funext i
  obtain ⟨t, r, h⟩ := row_of (i 0)
  have e : i = ix2 (row t r) (i 1) := by rw [h]; funext a; fin_cases a <;> rfl
  rw [e]
  exact (result_at m c t r (i 1)).trans (reference_at (i 1) _ _ _ _).symm

end Cert.ProjZ

end
-- ==== Proof.ConvProj.lean ====
/-
  The convolution branch's projection: the kernel's product is the reference's.
-/
module

public import proofs.«01_k».proof.Proof.Gen.Kernel8Ideal.Value
public import proofs.«01_k».proof.Proof.Gen.Reference8Ideal.Read
public import Idealize.ShloMosaic.Lib.Pipeline.ValueKit

@[expose] public section

noncomputable section

namespace Cert.ConvProj

open Cert.Kernel8Ideal Cert.Kernel8Ideal.Gen Cert.Kernel8Ideal.Value Idealize.ShloMosaic Idealize.ShloMosaic.TcCoe Idealize.ShloMosaic.Pointwise
open Cert.Reference8Ideal.Read

/-- Row `r` of the point's tile. -/
def row (t : Fin cfg0.N) (r : Fin 1024) : Fin 4096 := ⟨t.val * 1024 + r.val, by have := Nat.lt_of_lt_of_eq t.isLt N_0; omega⟩

theorem idx : ∀ t : Fin cfg0.N, win0_0.index t = ![t.val, 0] ∧ win0_1.index t = ![0, 0] ∧ win0_2.index t = ![t.val, 0] := by
  decide +kernel

variable (m : (ℓ : Loc nD τ sig) → Buf (Elt Ideal) ℓ) (c : Dev nD) (t : Fin cfg0.N) (r n k : Fin 1024)

theorem iblk0 : iblk m c 0 t (ix2 r k) = m ((c : Thread nD τ).loc main_arg0) (ix2 (row t r) k) := by
  have e : (row t r).val = t.val * 1024 + r.val := rfl
  blk_ext [iblk, V_main_arg0, idx t]

theorem iblk1 : iblk m c 1 t (ix2 k n) = m ((c : Thread nD τ).loc main_arg1) (ix2 k n) := by
  blk_ext [iblk, V_main_arg1, idx t]

theorem read2 (X : Vec Ideal S4096x1024 .bf16) : ((cfg0.win 2).blk t).view.read (Elt Ideal) X (ix2 r n) = X (ix2 (row t r) n) := by
  have e : (row t r).val = t.val * 1024 + r.val := rfl
  blk_ext [idx t]

/-- What a point writes, element by element. -/
theorem out_at (x y : Vec Ideal S1024x1024 .bf16) : out0_2 x y (ix2 r n) = (∑ k : Fin 1024, x (ix2 r k) * y (ix2 k n) : EReal) := by
  unfold out0_2 r0_0
  rw [View.canon_cons_unit_lit _ _ _ (by decide), View.ld_unit_lit _ _ (by decide), View.ld_unit_lit _ _ (by decide)]
  pointwise [k0_pay1]

abbrev argA : S4096x1024.Idx → EReal := m ((c : Thread nD τ).loc main_arg0)
abbrev argB : S1024x1024.Idx → EReal := m ((c : Thread nD τ).loc main_arg1)
/-- The kernel's result after all points. -/
abbrev result : Vec Ideal S4096x1024 .bf16 := (dats m 0 c).arrAt 2 cfg0.N

theorem result_at : result m c (ix2 (row t r) n) = ∑ k : Fin 1024, argA m c (ix2 (row t r) k) * argB m c (ix2 k n) := by
  refine (read2 t r n (result m c)).symm.trans ((congrFun (blocks2 m c t (flush0_2 t)) _).trans ?_)
  rw [flushed2]
  refine (out_at r n _ _).trans (Finset.sum_congr rfl fun k _ => ?_)
  rw [iblk0, iblk1]

/-- Every row is one of a point's. -/
theorem row_of (s : Fin 4096) : ∃ t r, row t r = s := by
  have hN : cfg0.N = 4 := N_0
  exact ⟨⟨s.val / 1024, by omega⟩, ⟨s.val % 1024, Nat.mod_lt _ (by decide)⟩, Fin.ext (by show s.val / 1024 * 1024 + s.val % 1024 = _; omega)⟩

theorem reference_at (x0 : S4096x1024.Idx → EReal) (x1 : S1024x1024.Idx → EReal) (s : Fin 4096) :
    val_main_v3 (F := Ideal) x0 x1 (ix2 s n) = (∑ k : Fin 1024, x0 (ix2 s k) * x1 (ix2 k n) : EReal) := by
  pointwise [val_main_v3, val_main_v2, val_main_v1, val_main_v0]

theorem equal : result m c = val_main_v3 (F := Ideal) (argA m c) (argB m c) := by
  funext i
  obtain ⟨t, r, h⟩ := row_of (i 0)
  have e : i = ix2 (row t r) (i 1) := by rw [h]; funext a; fin_cases a <;> rfl
  rw [e]
  exact (result_at m c t r (i 1)).trans (reference_at (i 1) _ _ _).symm

end Cert.ConvProj

end
-- ==== Proof.Reals.lean ====
/-
  Real numbers among the extended ones: the constants and the functions the kernels use, at real arguments.
-/
module

public import Idealize.ShloMosaic.Lib.Pipeline.ValueKit

@[expose] public section

noncomputable section

namespace Cert.Reals

open Idealize.ShloMosaic

theorem sum_real {ι : Type*} (s : Finset ι) (f : ι → ℝ) : ∑ i ∈ s, (f i : EReal) = ((∑ i ∈ s, f i : ℝ) : EReal) :=
  (map_sum (⟨⟨((↑) : ℝ → EReal), EReal.coe_zero⟩, EReal.coe_add⟩ : ℝ →+ EReal) f s).symm

theorem c1024 : Ideal.ofBits .f32 0x44800000#32 = ((1024 : ℝ) : EReal) := by
  simp [Ideal.ofBits, Ideal.ieee]
  rw [← EReal.coe_mul, EReal.coe_eq_coe_iff]; norm_num
theorem c256 : Ideal.ofBits .f32 0x43800000#32 = ((256 : ℝ) : EReal) := by
  simp [Ideal.ofBits, Ideal.ieee]
  rw [← EReal.coe_mul, EReal.coe_eq_coe_iff]; norm_num
theorem c2 : Ideal.ofBits .f32 0x40000000#32 = ((2 : ℝ) : EReal) := by
  simp [Ideal.ofBits, Ideal.ieee]
  rw [← EReal.coe_mul, EReal.coe_eq_coe_iff]; norm_num
theorem cHalf : Ideal.ofBits .f32 0xBF000000#32 = ((-(1 / 2) : ℝ) : EReal) := by
  simp [Ideal.ofBits, Ideal.ieee]
  rw [← EReal.coe_mul, EReal.coe_eq_coe_iff]; norm_num

/-- The norms' small constant, -/
def eps : ℝ := 8796093 / 8796093022208
theorem eps_pos : 0 < eps := by unfold eps; norm_num
theorem cEps : Ideal.ofBits .f32 0x358637BD#32 = ((eps : ℝ) : EReal) := by
  simp [Ideal.ofBits, Ideal.ieee, eps]
  rw [← EReal.coe_mul, EReal.coe_eq_coe_iff]; norm_num

/-- a quotient of real numbers, -/
theorem div_real (x : ℝ) {y : ℝ} (h : y ≠ 0) : Ideal.div (x : EReal) (y : EReal) = ((x / y : ℝ) : EReal) := by
  rw [Ideal.div_coe h, ← EReal.coe_mul]
  congr 1
  field_simp

theorem div1024 (x : ℝ) : Ideal.div (x : EReal) (Ideal.ofBits .f32 0x44800000#32) = ((x / 1024 : ℝ) : EReal) := by
  rw [c1024, div_real _ (by norm_num)]
theorem div256 (x : ℝ) : Ideal.div (x : EReal) (Ideal.ofBits .f32 0x43800000#32) = ((x / 256 : ℝ) : EReal) := by
  rw [c256, div_real _ (by norm_num)]

/-- the inverse square root of a positive one, -/
theorem rsqrt_real {x : ℝ} (h : 0 < x) : Ideal.rsqrt (x : EReal) = (((Real.sqrt x)⁻¹ : ℝ) : EReal) := by
  rw [Ideal.rsqrt_coe, if_neg h.not_gt, if_neg h.ne']

/-- and the gates' logistic function. -/
def sg (x : ℝ) : ℝ := 1 / (1 + Real.exp (-x))

theorem sg_neg (x : ℝ) : Ideal.div 1 (1 + Ideal.exp (-(x : EReal))) = (sg x : EReal) := by
  have h : (1 + Real.exp (-x)) ≠ 0 := by positivity
  rw [← EReal.coe_neg, Ideal.exp_coe, ← EReal.coe_one, ← EReal.coe_add, div_real _ h]
  rfl
theorem sg_sub (x : ℝ) : Ideal.div 1 (1 + Ideal.exp (0 - (x : EReal))) = (sg x : EReal) := by
  rw [zero_sub, sg_neg]

end Cert.Reals

end
-- ==== Proof.LnGateRow.lean ====
/-
  The gated layer norm's gradient at one row of tokens, over the real numbers: as the kernel computes it and as the
  reference does.
-/
module

public import proofs.«01_k».proof.Proof.Reals

@[expose] public section

noncomputable section

namespace Cert.LnGate

open Cert.Reals

/-- A row: the convolution's output, the gate's input, the gradient of the gated output, the norm's scale and shift. -/
structure Row where
  a : Fin 1024 → ℝ
  z : Fin 1024 → ℝ
  d : Fin 1024 → ℝ
  g : Fin 1024 → ℝ
  b : Fin 1024 → ℝ

def mean (f : Fin 1024 → ℝ) : ℝ := (∑ k, f k) / 1024

namespace Row
variable (R : Row) (n : Fin 1024)

/-- The centred row, its variance (with the small constant), the norm's factor, the normed row, and the scaled one. -/
def x : ℝ := R.a n - mean R.a
def v : ℝ := mean (fun k => R.x k * R.x k) + eps
def s : ℝ := (Real.sqrt R.v)⁻¹
def xh : ℝ := R.x n * R.s
def l : ℝ := R.xh n * R.g n + R.b n

/-- The kernel's gradients: of the gate's input, of the scaled row, of the normed row, of the row. -/
def dz : ℝ := R.d n * (R.l n * sg (R.l n)) * (sg (R.z n) * (1 + R.z n * (1 - sg (R.z n))))
def dl : ℝ := R.d n * (R.z n * sg (R.z n)) * (sg (R.l n) * (1 + R.l n * (1 - sg (R.l n))))
def dxh : ℝ := R.dl n * R.g n
def da : ℝ := R.s * (R.dxh n - mean R.dxh - R.xh n * mean fun k => R.dxh k * R.xh k)

/-- The reference's: the same, and the row's gradient by way of the norm's factor and of the variance. -/
def rz : ℝ := R.l n * sg (R.l n) * R.d n * sg (R.z n) + R.z n * (R.l n * sg (R.l n) * R.d n) * (sg (R.z n) * (1 - sg (R.z n)))
def rl : ℝ := R.d n * (R.z n * sg (R.z n)) * sg (R.l n) + R.l n * (R.d n * (R.z n * sg (R.z n))) * (sg (R.l n) * (1 - sg (R.l n)))
def t : ℝ := R.rl n * R.g n * R.s
def u : ℝ := (∑ k, R.x k * (R.rl k * R.g k)) * (-(1 / 2) * (R.s / R.v)) / 1024 * (2 * R.x n)
def ra : ℝ := R.t n + R.u n + (∑ k, -R.t k + ∑ k, -R.u k) / 1024

theorem v_pos : 0 < R.v := by
  have h : 0 ≤ mean (fun k => R.x k * R.x k) := div_nonneg (Finset.sum_nonneg fun k _ => mul_self_nonneg _) (by norm_num)
  have := eps_pos
  unfold v; linarith

theorem v_ne : R.v ≠ 0 := R.v_pos.ne'

theorem s_div_v : R.s / R.v = R.s * R.s * R.s := by
  have h : Real.sqrt R.v ≠ 0 := (Real.sqrt_pos.mpr R.v_pos).ne'
  have e : R.v = Real.sqrt R.v * Real.sqrt R.v := (Real.mul_self_sqrt R.v_pos.le).symm
  unfold s
  rw [show (Real.sqrt R.v)⁻¹ / R.v = (Real.sqrt R.v)⁻¹ / (Real.sqrt R.v * Real.sqrt R.v) from congrArg _ e]
  field_simp

theorem rz_eq : R.rz n = R.dz n := by unfold rz dz; ring
theorem rl_eq : R.rl n = R.dl n := by unfold rl dl; ring

/-- The centred row sums to nothing. -/
theorem sum_x : ∑ k, R.x k = 0 := by
  unfold x mean
  rw [Finset.sum_sub_distrib, Finset.sum_const, Finset.card_univ, Fintype.card_fin]
  simp only [nsmul_eq_mul]
  push_cast
  ring

theorem t_eq : R.t n = R.s * R.dxh n := by unfold t dxh; rw [rl_eq]; ring

theorem u_eq : R.u n = -(R.s * (R.xh n * mean fun k => R.dxh k * R.xh k)) := by
  have e : ∑ k, R.dxh k * R.xh k = (∑ k, R.x k * (R.rl k * R.g k)) * R.s := by
    rw [Finset.sum_mul]
    exact Finset.sum_congr rfl fun k _ => by unfold dxh xh; rw [rl_eq]; ring
  unfold u mean
  rw [e, s_div_v]
  unfold xh
  ring

theorem ra_eq : R.ra n = R.da n := by
  have h : ∑ k, -R.u k = 0 := by
    have e : ∀ k, -R.u k = R.x k * (R.s * (R.s * mean fun k => R.dxh k * R.xh k)) := fun k => by rw [u_eq]; unfold xh; ring
    rw [Finset.sum_congr rfl fun k _ => e k, ← Finset.sum_mul, sum_x, zero_mul]
  have h' : ∑ k, -R.t k = -(R.s * ∑ k, R.dxh k) := by
    rw [Finset.sum_neg_distrib, Finset.mul_sum]
    exact congrArg _ (Finset.sum_congr rfl fun k _ => R.t_eq k)
  unfold ra
  rw [h, h', t_eq, u_eq]
  unfold da
  have m : mean R.dxh = (∑ k, R.dxh k) / 1024 := rfl
  rw [m]
  ring

end Row

end Cert.LnGate

end
-- ==== Proof.LnGate.lean ====
/-
  The gated layer norm's gradient (kernel `ln_gate_bwd`): what the kernel writes, where the arguments are real numbers.
-/
module

public import proofs.«01_k».proof.Proof.Gen.Kernel9Ideal.Value
public import proofs.«01_k».proof.Proof.LnGateRow

@[expose] public section

noncomputable section

namespace Cert.LnGate

open Cert.Kernel9Ideal Cert.Kernel9Ideal.Gen Cert.Kernel9Ideal.Value Idealize.ShloMosaic Idealize.ShloMosaic.TcCoe Idealize.ShloMosaic.Pointwise
open Cert.Reals

/-! ## One point's block, a row at a time -/

section
variable (x0 : Vec Ideal S256x1024 .f32) (x1 x2 : Vec Ideal S256x1024 .bf16) (x3 : Vec Ideal S1024x1024 .bf16) (x4 x5 : Vec Ideal S1x1024 .f32)

/-- Row `r` of the blocks holds these real numbers. -/
structure Holds (r : Fin 256) (R : Row) : Prop where
  a : ∀ n : Fin 1024, x0 (ix2 r n) = (R.a n : EReal)
  z : ∀ n : Fin 1024, x1 (ix2 r n) = (R.z n : EReal)
  d : ∀ n : Fin 1024, k0_pay7 x2 x3 (ix2 r n) = (R.d n : EReal)
  g : ∀ n : Fin 1024, x4 (ix2 0 n) = (R.g n : EReal)
  b : ∀ n : Fin 1024, x5 (ix2 0 n) = (R.b n : EReal)

variable {x0 x1 x2 x3 x4 x5} {r : Fin 256} {R : Row} (H : Holds x0 x1 x2 x3 x4 x5 r R) (n : Fin 1024)
include H

theorem pay6_real : k0_pay6 x1 (ix2 r n) = (R.z n : EReal) := by
  pointwise [k0_pay6]
  exact H.z n
theorem pay8_real : k0_pay8 x0 (ix2 r n) = (R.x n : EReal) := by
  pointwise [k0_pay8]
  simp only [H.a, sum_real, div1024, ← EReal.coe_sub]
  rfl
theorem pay9_real : k0_pay9 x0 (ix2 r 0) = (R.s : EReal) := by
  pointwise [k0_pay9]
  simp only [pay8_real H, sum_real, div1024, cEps, ← EReal.coe_mul, ← EReal.coe_add]
  exact rsqrt_real R.v_pos
theorem pay10_real : k0_pay10 x0 (ix2 r n) = (R.xh n : EReal) := by
  pointwise [k0_pay10]
  simp only [pay8_real H, pay9_real H, ← EReal.coe_mul]
  rfl
theorem pay11_real : k0_pay11 x0 x4 x5 (ix2 r n) = (R.l n : EReal) := by
  pointwise [k0_pay11]
  simp only [pay10_real H, H.g, H.b, ← EReal.coe_mul, ← EReal.coe_add]
  rfl
theorem pay12_real : k0_pay12 x0 x2 x3 x4 x5 (ix2 r n) = ((R.d n * (R.l n * sg (R.l n)) : ℝ) : EReal) := by
  pointwise [k0_pay12]
  simp only [pay11_real H, H.d, sg_sub, ← EReal.coe_mul]
theorem pay13_real : k0_pay13 (k0_pay6 x1) (k0_pay12 x0 x2 x3 x4 x5) (Scalar.ofBits .f32 0x00000000#32) (ix2 r n) = (R.dz n : EReal) := by
  pointwise [k0_pay13]
  simp only [pay12_real H, pay6_real H, sg_sub]
  simp only [← EReal.coe_one, ← EReal.coe_mul, ← EReal.coe_sub, ← EReal.coe_add]
  rfl
theorem pay14_real : k0_pay14 (k0_pay6 x1) (k0_pay7 x2 x3) (k0_pay11 x0 x4 x5) (ix2 r n) = (R.dl n : EReal) := by
  pointwise [k0_pay14]
  simp only [pay11_real H, pay6_real H, H.d, sg_sub]
  simp only [← EReal.coe_one, ← EReal.coe_mul, ← EReal.coe_sub, ← EReal.coe_add]
  rfl
theorem pay15_real : k0_pay15 (k0_pay6 x1) (k0_pay7 x2 x3) (k0_pay11 x0 x4 x5) x4 (ix2 r n) = (R.dxh n : EReal) := by
  pointwise [k0_pay15]
  simp only [pay14_real H, H.g, ← EReal.coe_mul]
  rfl
theorem pay1_real : k0_pay1 (k0_pay9 x0) (k0_pay10 x0) (k0_pay15 (k0_pay6 x1) (k0_pay7 x2 x3) (k0_pay11 x0 x4 x5) x4) (ix2 r n) = (R.da n : EReal) := by
  pointwise [k0_pay1]
  simp only [pay15_real H, pay10_real H, pay9_real H, sum_real, div1024, ← EReal.coe_mul, ← EReal.coe_sub]
  rfl
end

/-- The points' contributions to the scale's and the shift's gradients, added to what is there. -/
theorem pay4_at (x y : FVec Ideal S256x1024 .f32) (p : FVec Ideal S1x1024 .f32) (n : Fin 1024) :
    k0_pay4 x y p (ix2 0 n) = (p (ix2 0 n) + ∑ r : Fin 256, y (ix2 r n) * x (ix2 r n) : EReal) := by
  pointwise [k0_pay4]
theorem pay5_at (y : FVec Ideal S256x1024 .f32) (p : FVec Ideal S1x1024 .f32) (n : Fin 1024) :
    k0_pay5 y p (ix2 0 n) = (p (ix2 0 n) + ∑ r : Fin 256, y (ix2 r n) : EReal) := by
  pointwise [k0_pay5]
theorem pay2_at (n : Fin 1024) : k0_pay2 (F := Ideal) (ix2 0 n) = (0 : EReal) := by
  pointwise [k0_pay2]
theorem pay3_at (n : Fin 1024) : k0_pay3 (F := Ideal) (ix2 0 n) = (0 : EReal) := by
  pointwise [k0_pay3]

/-! ## The points -/

/-- Row `r` of the point's tile. -/
def row (t : Fin cfg0.N) (r : Fin 256) : Fin 4096 := ⟨t.val * 256 + r.val, by have := Nat.lt_of_lt_of_eq t.isLt N_0; omega⟩

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0]
    ∧ win0_6.index t = ![t.val, 0] ∧ win0_7.index t = ![t.val, 0] ∧ win0_8.index t = ![0, 0] ∧ win0_9.index t = ![0, 0] := by
  decide +kernel

theorem last_inj : ∀ t t' : Fin cfg0.N, t.val % 16 = 15 → t'.val % 16 = 15 → t = t' := by
  decide +kernel

variable (m : (ℓ : Loc nD τ sig) → Buf (Elt Ideal) ℓ) (c : Dev nD) (t : Fin cfg0.N) (r : Fin 256) (n k : Fin 1024)

theorem iblk0 : iblk m c 0 t (ix2 r n) = m ((c : Thread nD τ).loc main_arg0) (ix2 (row t r) n) := by
  have e : (row t r).val = t.val * 256 + r.val := rfl
  blk_ext [iblk, V_main_arg0, idx t]
theorem iblk1 : iblk m c 1 t (ix2 r n) = m ((c : Thread nD τ).loc main_arg1) (ix2 (row t r) n) := by
  have e : (row t r).val = t.val * 256 + r.val := rfl
  blk_ext [iblk, V_main_arg1, idx t]
theorem iblk2 : iblk m c 2 t (ix2 r n) = m ((c : Thread nD τ).loc main_arg2) (ix2 (row t r) n) := by
  have e : (row t r).val = t.val * 256 + r.val := rfl
  blk_ext [iblk, V_main_arg2, idx t]
theorem iblk3 : iblk m c 3 t (ix2 k n) = m ((c : Thread nD τ).loc main_arg3) (ix2 k n) := by
  blk_ext [iblk, V_main_arg3, idx t]
theorem iblk4 : iblk m c 4 t (ix2 0 n) = m ((c : Thread nD τ).loc main_arg4) (ix2 0 n) := by
  blk_ext [iblk, V_main_arg4, idx t]
theorem iblk5 : iblk m c 5 t (ix2 0 n) = m ((c : Thread nD τ).loc main_arg5) (ix2 0 n) := by
  blk_ext [iblk, V_main_arg5, idx t]

theorem read6 (X : Vec Ideal S4096x1024 .f32) : ((cfg0.win 6).blk t).view.read (Elt Ideal) X (ix2 r n) = X (ix2 (row t r) n) := by
  have e : (row t r).val = t.val * 256 + r.val := rfl
  blk_ext [idx t]
theorem read7 (X : Vec Ideal S4096x1024 .bf16) : ((cfg0.win 7).blk t).view.read (Elt Ideal) X (ix2 r n) = X (ix2 (row t r) n) := by
  have e : (row t r).val = t.val * 256 + r.val := rfl
  blk_ext [idx t]
theorem read8 (X : Vec Ideal S1x1024 .f32) : ((cfg0.win 8).blk t).view.read (Elt Ideal) X (ix2 0 n) = X (ix2 0 n) := by
  blk_ext [idx t]
theorem read9 (X : Vec Ideal S1x1024 .f32) : ((cfg0.win 9).blk t).view.read (Elt Ideal) X (ix2 0 n) = X (ix2 0 n) := by
  blk_ext [idx t]

/-- The arguments' real numbers. -/
structure Args where
  a : Fin 4096 → Fin 1024 → ℝ
  z : Fin 4096 → Fin 1024 → ℝ
  y : Fin 4096 → Fin 1024 → ℝ
  w : Fin 1024 → Fin 1024 → ℝ
  g : Fin 1024 → ℝ
  b : Fin 1024 → ℝ

/-- A token's row. -/
def Args.at (A : Args) (s : Fin 4096) : Row := ⟨A.a s, A.z s, fun n => ∑ k, A.y s k * A.w n k, A.g, A.b⟩

/-- The arguments hold these real numbers. -/
structure Real (x0 : S4096x1024.Idx → EReal) (x1 x2 : S4096x1024.Idx → EReal) (x3 : S1024x1024.Idx → EReal) (x4 x5 : S1x1024.Idx → EReal) (A : Args) : Prop where
  a : ∀ s n, x0 (ix2 s n) = (A.a s n : EReal)
  z : ∀ s n, x1 (ix2 s n) = (A.z s n : EReal)
  y : ∀ s n, x2 (ix2 s n) = (A.y s n : EReal)
  w : ∀ k n, x3 (ix2 k n) = (A.w k n : EReal)
  g : ∀ n, x4 (ix2 0 n) = (A.g n : EReal)
  b : ∀ n, x5 (ix2 0 n) = (A.b n : EReal)

abbrev argA : S4096x1024.Idx → EReal := m ((c : Thread nD τ).loc main_arg0)
abbrev argZ : S4096x1024.Idx → EReal := m ((c : Thread nD τ).loc main_arg1)
abbrev argY : S4096x1024.Idx → EReal := m ((c : Thread nD τ).loc main_arg2)
abbrev argW : S1024x1024.Idx → EReal := m ((c : Thread nD τ).loc main_arg3)
abbrev argG : S1x1024.Idx → EReal := m ((c : Thread nD τ).loc main_arg4)
abbrev argB : S1x1024.Idx → EReal := m ((c : Thread nD τ).loc main_arg5)
/-- The kernel's results after all points: of the convolution's output, of the gate, of the scale, of the shift. -/
abbrev resultA : Vec Ideal S4096x1024 .f32 := (dats m 0 c).arrAt 6 cfg0.N
abbrev resultZ : Vec Ideal S4096x1024 .bf16 := (dats m 0 c).arrAt 7 cfg0.N
abbrev resultG : Vec Ideal S1x1024 .f32 := (dats m 0 c).arrAt 8 cfg0.N
abbrev resultB : Vec Ideal S1x1024 .f32 := (dats m 0 c).arrAt 9 cfg0.N

theorem pay7_at (x : Vec Ideal S256x1024 .bf16) (w : Vec Ideal S1024x1024 .bf16) :
    k0_pay7 x w (ix2 r n) = (∑ k : Fin 1024, x (ix2 r k) * w (ix2 n k) : EReal) := by
  pointwise [k0_pay7]

/-- The tokens of the sixteen points are all the tokens. -/
theorem tokens (f : Fin 4096 → EReal) (h : t.val % 16 = 16 - 1) :
    (∑ s : Fin 16, ∑ r : Fin 256, f (row ⟨16 * (t.val / 16) + s.val, Pipeline.run_point_lt_of_flush t h s⟩ r)) = ∑ s : Fin 4096, f s := by
  have hN : cfg0.N = 16 := N_0
  refine Fin.sum_mul_add_congr fun s r hl => congrArg f (Fin.ext ?_)
  show (16 * (t.val / 16) + s.val) * 256 + r.val = s.val * 256 + r.val
  have := t.isLt
  omega

/-- Every row is one of a point's. -/
theorem row_of (s : Fin 4096) : ∃ t r, row t r = s := by
  have hN : cfg0.N = 16 := N_0
  exact ⟨⟨s.val / 256, by omega⟩, ⟨s.val % 256, Nat.mod_lt _ (by decide)⟩, Fin.ext (by show s.val / 256 * 256 + s.val % 256 = _; omega)⟩
/-- The last point. -/
def last : Fin cfg0.N := ⟨15, by have : cfg0.N = 16 := N_0; omega⟩

variable {A : Args} (H : Real (argA m c) (argZ m c) (argY m c) (argW m c) (argG m c) (argB m c) A)
include H

/-- The rows a point sees. -/
theorem holds : Holds (iblk m c 0 t) (iblk m c 1 t) (iblk m c 2 t) (iblk m c 3 t) (iblk m c 4 t) (iblk m c 5 t) r (A.at (row t r)) where
  a n := (iblk0 m c t r n).trans (H.a _ _)
  z n := (iblk1 m c t r n).trans (H.z _ _)
  d n := by
    rw [pay7_at]
    simp only [iblk2, iblk3]
    refine (Finset.sum_congr rfl fun k _ => ?_).trans (sum_real Finset.univ fun k => A.y (row t r) k * A.w n k)
    rw [EReal.coe_mul]
    exact congrArg₂ _ (H.y _ _) (H.w _ _)
  g n := (iblk4 m c t n).trans (H.g n)
  b n := (iblk5 m c t n).trans (H.b n)

theorem out6 : (outsAt0 m c t.val t.isLt).1 (ix2 r n) = ((A.at (row t r)).da n : EReal) := by
  by_cases h : t.val % 16 = 0
  · rw [outsAt0_A m c t h]; frame_out
    exact pay1_real (holds m c t r H) n
  · rw [outsAt0_B m c t h]; frame_out
    exact pay1_real (holds m c t r H) n

theorem out7 : (outsAt0 m c t.val t.isLt).2.1 (ix2 r n) = ((A.at (row t r)).dz n : EReal) := by
  by_cases h : t.val % 16 = 0
  · rw [outsAt0_A m c t h]; frame_out
    exact pay13_real (holds m c t r H) n
  · rw [outsAt0_B m c t h]; frame_out
    exact pay13_real (holds m c t r H) n

theorem out8 (h : t.val % 16 = 15) : (outsAt0 m c t.val t.isLt).2.2.1 (ix2 0 n) = ∑ s, ((A.at s).dl n : EReal) * ((A.at s).xh n : EReal) := by
  rw [← tokens t (fun s => ((A.at s).dl n : EReal) * ((A.at s).xh n : EReal)) h]
  refine (Pipeline.eq_sum_fin_of_reset_step_apply_of_flush (fun n h => (fun i : Fin 1024 => (outsAt0 m c n h).2.2.1 (ix2 0 i))) 16 (fun _ => (0 : EReal))
    (fun t i => ∑ r : Fin 256, ((A.at (row t r)).dl i : EReal) * ((A.at (row t r)).xh i : EReal)) (fun t h i => ?_) (fun t h i => ?_) t h n).trans (zero_add _)
  · rw [outsAt0_A m c t h]; frame_out
    rw [pay4_at, pay2_at]
    exact congrArg _ (Finset.sum_congr rfl fun r _ => congrArg₂ _ (pay14_real (holds m c t r H) i) (pay10_real (holds m c t r H) i))
  · rw [outsAt0_B m c t h]; frame_out
    rw [pay4_at]
    exact congrArg _ (Finset.sum_congr rfl fun r _ => congrArg₂ _ (pay14_real (holds m c t r H) i) (pay10_real (holds m c t r H) i))

theorem out9 (h : t.val % 16 = 15) : (outsAt0 m c t.val t.isLt).2.2.2 (ix2 0 n) = ∑ s, ((A.at s).dl n : EReal) := by
  rw [← tokens t (fun s => ((A.at s).dl n : EReal)) h]
  refine (Pipeline.eq_sum_fin_of_reset_step_apply_of_flush (fun n h => (fun i : Fin 1024 => (outsAt0 m c n h).2.2.2 (ix2 0 i))) 16 (fun _ => (0 : EReal))
    (fun t i => ∑ r : Fin 256, ((A.at (row t r)).dl i : EReal)) (fun t h i => ?_) (fun t h i => ?_) t h n).trans (zero_add _)
  · rw [outsAt0_A m c t h]; frame_out
    rw [pay5_at, pay3_at]
    exact congrArg _ (Finset.sum_congr rfl fun r _ => pay14_real (holds m c t r H) i)
  · rw [outsAt0_B m c t h]; frame_out
    rw [pay5_at]
    exact congrArg _ (Finset.sum_congr rfl fun r _ => pay14_real (holds m c t r H) i)

/-! ## The results -/

theorem resultA_at (s : Fin 4096) : resultA m c (ix2 s n) = ((A.at s).da n : EReal) := by
  obtain ⟨t, r, rfl⟩ := row_of s
  refine (read6 t r n (resultA m c)).symm.trans ((congrFun (blocks6 m c t (flush0_6 t)) _).trans ?_)
  rw [flushed6]
  exact out6 m c t r n H
theorem resultZ_at (s : Fin 4096) : resultZ m c (ix2 s n) = ((A.at s).dz n : EReal) := by
  obtain ⟨t, r, rfl⟩ := row_of s
  refine (read7 t r n (resultZ m c)).symm.trans ((congrFun (blocks7 m c t (flush0_7 t)) _).trans ?_)
  rw [flushed7]
  exact out7 m c t r n H
theorem resultG_at : resultG m c (ix2 0 n) = ∑ s, ((A.at s).dl n : EReal) * ((A.at s).xh n : EReal) := by
  refine (read8 last n (resultG m c)).symm.trans ((congrFun ((dats m 0 c).read_blk_arrAt_eq_flushed 8
    (fun t t' h h' hne => absurd (last_inj t t' ((flush0_8 t).mp h) ((flush0_8 t').mp h')) hne) cfg0.N last last.isLt ((flush0_8 last).mpr rfl)) _).trans ?_)
  rw [flushed8]
  exact out8 m c last n H rfl
theorem resultB_at : resultB m c (ix2 0 n) = ∑ s, ((A.at s).dl n : EReal) := by
  refine (read9 last n (resultB m c)).symm.trans ((congrFun ((dats m 0 c).read_blk_arrAt_eq_flushed 9
    (fun t t' h h' hne => absurd (last_inj t t' ((flush0_9 t).mp h) ((flush0_9 t').mp h')) hne) cfg0.N last last.isLt ((flush0_9 last).mpr rfl)) _).trans ?_)
  rw [flushed9]
  exact out9 m c last n H rfl

end Cert.LnGate

end
-- ==== Proof.LnGateRef.lean ====
/-
  The gated layer norm's gradient: what the reference computes where the arguments are real numbers, and the equations.
-/
module

public import proofs.«01_k».proof.Proof.Gen.Reference9Ideal.Read
public import proofs.«01_k».proof.Proof.LnGate

@[expose] public section

noncomputable section

namespace Cert.LnGate

open Idealize.ShloMosaic Idealize.ShloMosaic.TcCoe Idealize.ShloMosaic.Pointwise
open Cert.Reference9Ideal Cert.Reference9Ideal.Read Cert.Reals

section
variable {x0 x1 x2 : S4096x1024.Idx → EReal} {x3 : S1024x1024.Idx → EReal} {x4 x5 : S1x1024.Idx → EReal} {A : Args}
  (H : Real x0 x1 x2 x3 x4 x5 A) (s : Fin 4096) (n : Fin 1024)
include H

theorem v5_real : val_main_v5 (F := Ideal) x0 (ix2 s n) = ((A.at s).x n : EReal) := by
  pointwise [val_main_v5, val_main_v4, val_main_v3, val_main_v2, val_main_v1, val_main_v0, val_main_cst, val_main_cst_0]
  simp only [H.a, sum_real, div1024, ← EReal.coe_sub]
  rfl
theorem v14_real : val_main_v14 (F := Ideal) x0 (ix2 s n) = ((A.at s).x n : EReal) := v5_real H s n
theorem v16_real : val_main_v16 (F := Ideal) x0 (ix2 s 0) = ((A.at s).v : EReal) := by
  pointwise [val_main_v16, val_main_v15, val_main_v12, val_main_v11, val_main_v10, val_main_v9, val_main_v6, val_main_cst_2, val_main_cst_3, val_main_cst_4]
  simp only [v5_real H, sum_real, div1024, cEps, ← EReal.coe_mul, ← EReal.coe_add]
  rfl
theorem v17_real : val_main_v17 (F := Ideal) x0 (ix2 s 0) = ((A.at s).s : EReal) := by
  pointwise [val_main_v17]
  rw [v16_real H]
  exact rsqrt_real (A.at s).v_pos
theorem v20_real : val_main_v20 (F := Ideal) x0 (ix2 s 0) = ((-(1 / 2) * ((A.at s).s / (A.at s).v) : ℝ) : EReal) := by
  pointwise [val_main_v20, val_main_v19, val_main_v18, val_main_cst_5]
  rw [v16_real H, v17_real H, cHalf, div_real _ (A.at s).v_ne, EReal.coe_mul]
theorem v22_real : val_main_v22 (F := Ideal) x0 (ix2 s n) = ((A.at s).xh n : EReal) := by
  pointwise [val_main_v22, val_main_v21]
  rw [v14_real H, v17_real H, ← EReal.coe_mul]
  rfl
theorem v26_real : val_main_v26 (F := Ideal) x0 x4 x5 (ix2 s n) = ((A.at s).l n : EReal) := by
  pointwise [val_main_v26, val_main_v25, val_main_v24, val_main_v23]
  rw [v22_real H, H.g, H.b, ← EReal.coe_mul, ← EReal.coe_add]
  rfl
theorem sigL_real : val_main_v27_2 (F := Ideal) x0 x4 x5 (ix2 s n) = (sg ((A.at s).l n) : EReal) := by
  pointwise [val_main_v27_2, val_main_call0_v4, val_main_call0_v3, val_main_call0_v2, val_main_call0_v1, val_main_call0_v0, val_main_call0_cst, val_main_call0_cst_0]
  rw [v26_real H, sg_neg]
theorem sigZ_real : val_main_v29_2 (F := Ideal) x1 (ix2 s n) = (sg ((A.at s).z n) : EReal) := by
  pointwise [val_main_v29_2, val_main_call1_v4, val_main_call1_v3, val_main_call1_v2, val_main_call1_v1, val_main_call1_v0, val_main_call1_cst, val_main_call1_cst_0, val_main_v28]
  rw [H.z, sg_neg]
  rfl
theorem v34_real : val_main_v34 (F := Ideal) x2 x3 (ix2 s n) = ((A.at s).d n : EReal) := by
  pointwise [val_main_v34, val_main_v33, val_main_v31]
  simp only [H.y, H.w, ← EReal.coe_mul, sum_real]
  rfl
theorem v38_real : val_main_v38 (F := Ideal) x0 x1 x2 x3 x4 x5 (ix2 s n) = ((A.at s).rz n : EReal) := by
  pointwise [val_main_v38, val_main_v37, val_main_call2_v2, val_main_call2_v1, val_main_call2_v0, val_main_v35, val_main_v29_1, val_main_call1_v7, val_main_call1_v6,
    val_main_call1_cst_1, val_main_v27_0, val_main_v28]
  simp only [v26_real H, sigL_real H, sigZ_real H, v34_real H, H.z]
  simp only [← EReal.coe_one, ← EReal.coe_mul, ← EReal.coe_sub, ← EReal.coe_add]
  rfl
theorem v39_real : val_main_v39 (F := Ideal) x0 x1 x2 x3 x4 x5 (ix2 s n) = ((A.at s).rl n : EReal) := by
  pointwise [val_main_v39, val_main_call3_v2, val_main_call3_v1, val_main_call3_v0, val_main_v36, val_main_v27_1, val_main_call0_v7, val_main_call0_v6,
    val_main_call0_cst_1, val_main_v29_0, val_main_v28]
  simp only [v26_real H, sigL_real H, sigZ_real H, v34_real H, H.z]
  simp only [← EReal.coe_one, ← EReal.coe_mul, ← EReal.coe_sub, ← EReal.coe_add]
  rfl
theorem v51_real : val_main_v51 (F := Ideal) x0 x1 x2 x3 x4 x5 (ix2 s n) = ((A.at s).t n : EReal) := by
  pointwise [val_main_v51, val_main_v50, val_main_v46, val_main_v45]
  simp only [v39_real H, H.g, v17_real H, ← EReal.coe_mul]
  rfl
theorem v60_real : val_main_v60 (F := Ideal) x0 x1 x2 x3 x4 x5 (ix2 s n) = ((A.at s).u n : EReal) := by
  pointwise [val_main_v60, val_main_v59, val_main_v58, val_main_v57, val_main_v56, val_main_v52, val_main_v49, val_main_v48, val_main_v47, val_main_v46, val_main_v45,
    val_main_v8, val_main_v7, val_main_cst_1, val_main_cst_8, val_main_cst_10, val_main_cst_11]
  simp only [v39_real H, H.g, v14_real H, v5_real H, Fin.sum_univ_one, v20_real H, c2, ← EReal.coe_mul, sum_real, div1024]
  rfl
theorem v70_real : val_main_v70 (F := Ideal) x0 x1 x2 x3 x4 x5 (ix2 s n) = ((A.at s).ra n : EReal) := by
  pointwise [val_main_v70, val_main_v69, val_main_v68, val_main_v67, val_main_v66, val_main_v65, val_main_v64, val_main_v63, val_main_v62, val_main_v61, val_main_v55,
    val_main_v54, val_main_v53, val_main_cst_9, val_main_cst_12, val_main_cst_13, val_main_cst_14]
  simp only [v51_real H, v60_real H, Fin.sum_univ_one, ← EReal.coe_neg, sum_real, ← EReal.coe_add, div1024]
  rfl
theorem v44_real : val_main_v44 (F := Ideal) x0 x1 x2 x3 x4 x5 (ix2 0 n) = ∑ s, ((A.at s).xh n : EReal) * ((A.at s).rl n : EReal) := by
  pointwise [val_main_v44, val_main_v43, val_main_v42, val_main_cst_7]
  simp only [v22_real H, v39_real H]
theorem v41_real : val_main_v41 (F := Ideal) x0 x1 x2 x3 x4 x5 (ix2 0 n) = ∑ s, ((A.at s).rl n : EReal) := by
  pointwise [val_main_v41, val_main_v40, val_main_cst_6]
  simp only [v39_real H]
end

/-! ## The equations -/

variable (m : (ℓ : Loc Cert.Kernel9Ideal.nD Cert.Kernel9Ideal.τ Cert.Kernel9Ideal.sig) → Buf (Elt Ideal) ℓ) (c : Dev Cert.Kernel9Ideal.nD)
  {A : Args} (H : Real (argA m c) (argZ m c) (argY m c) (argW m c) (argG m c) (argB m c) A)
include H

theorem equalA : resultA m c = val_main_v70 (F := Ideal) (argA m c) (argZ m c) (argY m c) (argW m c) (argG m c) (argB m c) := by
  funext i
  have e : i = ix2 (i 0) (i 1) := by funext a; fin_cases a <;> rfl
  rw [e]
  refine (resultA_at m c (i 1) H (i 0)).trans (Eq.trans ?_ (v70_real H (i 0) (i 1)).symm)
  exact congrArg _ ((A.at (i 0)).ra_eq (i 1)).symm
theorem equalZ : resultZ m c = val_main_v38 (F := Ideal) (argA m c) (argZ m c) (argY m c) (argW m c) (argG m c) (argB m c) := by
  funext i
  have e : i = ix2 (i 0) (i 1) := by funext a; fin_cases a <;> rfl
  rw [e]
  refine (resultZ_at m c (i 1) H (i 0)).trans (Eq.trans ?_ (v38_real H (i 0) (i 1)).symm)
  exact congrArg _ ((A.at (i 0)).rz_eq (i 1)).symm
theorem equalG : resultG m c = val_main_v44 (F := Ideal) (argA m c) (argZ m c) (argY m c) (argW m c) (argG m c) (argB m c) := by
  funext i
  have e : i = ix2 0 (i 1) := by funext a; fin_cases a; exact Subsingleton.elim (α := Fin 1) _ _; rfl
  rw [e]
  refine (resultG_at m c (i 1) H).trans (Eq.trans ?_ (v44_real H (i 1)).symm)
  exact Finset.sum_congr rfl fun s _ => (mul_comm _ _).trans (congrArg (fun l : ℝ => _ * (l : EReal)) ((A.at s).rl_eq (i 1)).symm)
theorem equalB : resultB m c = val_main_v41 (F := Ideal) (argA m c) (argZ m c) (argY m c) (argW m c) (argG m c) (argB m c) := by
  funext i
  have e : i = ix2 0 (i 1) := by funext a; fin_cases a; exact Subsingleton.elim (α := Fin 1) _ _; rfl
  rw [e]
  refine (resultB_at m c (i 1) H).trans (Eq.trans ?_ (v41_real H (i 1)).symm)
  exact Finset.sum_congr rfl fun s _ => congrArg _ ((A.at s).rl_eq (i 1)).symm

end Cert.LnGate

end
-- ==== Proof.LnGateFinite.lean ====
/-
  The gated layer norm's precondition: where it holds, every element of the arguments is a real number.
-/
module

public import proofs.«01_k».proof.Defs
public import proofs.«01_k».proof.Proof.Finite
public import proofs.«01_k».proof.Proof.LnGate

@[expose] public section

noncomputable section

namespace Cert.LnGate

open Idealize.ShloMosaic Idealize.ShloMosaic.Pointwise Cert.Pre_finite9

/-- The shape facts the precondition's text states. -/
instance facts : Facts where
  bcast_S_S4096x1024 := by decide
  reducesTo_S4096x1024_S_d0_1 := by decide
  h_S_ := by decide
  bitsLt_bf16_f32 := by decide
  bcast_S_S1024x1024 := by decide
  reducesTo_S1024x1024_S_d0_1 := by decide
  bcast_S_S1x1024 := by decide
  reducesTo_S1x1024_S_d0_1 := by decide

/-- The arguments' real numbers. -/
def reals (x0 : FVec Ideal S4096x1024 .f32) (x1 x2 : FVec Ideal S4096x1024 .bf16) (x3 : FVec Ideal S1024x1024 .bf16) (x4 x5 : FVec Ideal S1x1024 .f32) :
    Args where
  a s n := EReal.toReal (x0 (ix2 s n))
  z s n := EReal.toReal (x1 (ix2 s n))
  y s n := EReal.toReal (x2 (ix2 s n))
  w s n := EReal.toReal (x3 (ix2 s n))
  g n := EReal.toReal (x4 (ix2 0 n))
  b n := EReal.toReal (x5 (ix2 0 n))

theorem real_of_finite (x0 : FVec Ideal S4096x1024 .f32) (x1 x2 : FVec Ideal S4096x1024 .bf16) (x3 : FVec Ideal S1024x1024 .bf16)
    (x4 x5 : FVec Ideal S1x1024 .f32) (h : fn (F := Ideal) x0 x1 x2 x3 x4 x5 = fun _ => 1#1) : Real x0 x1 x2 x3 x4 x5 (reals x0 x1 x2 x3 x4 x5) := by
  have j : S_.Idx := fun k => k.elim0
  have e := congrFun h j
  obtain ⟨e, h5⟩ := IntOp.andi_eq_one.mp e
  obtain ⟨e, h4⟩ := IntOp.andi_eq_one.mp e
  obtain ⟨e, h3⟩ := IntOp.andi_eq_one.mp e
  obtain ⟨e, h2⟩ := IntOp.andi_eq_one.mp e
  obtain ⟨h0, h1⟩ := IntOp.andi_eq_one.mp e
  exact ⟨fun s n => Cert.Pre_finite.all_real x0 _ _ j h0 _, fun s n => Cert.Pre_finite.all_real (extf .f32 x1 Facts.bitsLt_bf16_f32) _ _ j h1 (ix2 s n),
    fun s n => Cert.Pre_finite.all_real (extf .f32 x2 Facts.bitsLt_bf16_f32) _ _ j h2 (ix2 s n),
    fun s n => Cert.Pre_finite.all_real (extf .f32 x3 Facts.bitsLt_bf16_f32) _ _ j h3 (ix2 s n),
    fun n => Cert.Pre_finite.all_real x4 _ _ j h4 _, fun n => Cert.Pre_finite.all_real x5 _ _ j h5 _⟩

end Cert.LnGate

end
-- ==== Proof.HeadRow.lean ====
/-
  The recurrent branch's norm and gate at one head of one token, over the real numbers: the gradients as the kernel
  computes them and as the reference does.
-/
module

public import proofs.«01_k».proof.Proof.Reals

@[expose] public section

noncomputable section

namespace Cert.HeadNorm

open Cert.Reals

/-- A head's row: the scan's output, the gate's input, the gradient of the gated output, the norm's scale. -/
structure Head where
  o : Fin 256 → ℝ
  r : Fin 256 → ℝ
  d : Fin 256 → ℝ
  g : Fin 256 → ℝ

namespace Head
variable (R : Head) (n : Fin 256)

/-- The mean square (with the small constant), the norm's factor, the normed row. -/
def v : ℝ := (∑ k, R.o k * R.o k) / 256 + eps
def s : ℝ := (Real.sqrt R.v)⁻¹
def xh : ℝ := R.o n * R.s

/-- The gradients of the scaled row and of the normed one. -/
def dn : ℝ := R.d n * (R.r n * sg (R.r n))
def t : ℝ := R.dn n * R.g n

/-- The kernel's gradients of the gate's input and of the row. -/
def dr : ℝ := R.d n * R.xh n * R.g n * (sg (R.r n) * (1 + R.r n * (1 - sg (R.r n))))
def dO : ℝ := R.s * (R.t n - R.xh n * ((∑ k, R.t k * R.xh k) / 256))

/-- The reference's, the latter by way of the norm's factor and of the mean square. -/
def w : ℝ := R.xh n * R.g n * R.d n
def rr : ℝ := R.w n * sg (R.r n) + R.r n * R.w n * (sg (R.r n) * (1 - sg (R.r n)))
def q : ℝ := (∑ k, R.o k * R.t k) * (-(1 / 2) * (R.s / R.v)) / 256
def rO : ℝ := R.t n * R.s + R.o n * R.q + R.q * R.o n

theorem v_pos : 0 < R.v := by
  have h : 0 ≤ (∑ k, R.o k * R.o k) / 256 := div_nonneg (Finset.sum_nonneg fun k _ => mul_self_nonneg _) (by norm_num)
  have := eps_pos
  unfold v; linarith

theorem v_ne : R.v ≠ 0 := R.v_pos.ne'

theorem s_div_v : R.s / R.v = R.s * R.s * R.s := by
  have h : Real.sqrt R.v ≠ 0 := (Real.sqrt_pos.mpr R.v_pos).ne'
  have e : R.v = Real.sqrt R.v * Real.sqrt R.v := (Real.mul_self_sqrt R.v_pos.le).symm
  unfold s
  rw [show (Real.sqrt R.v)⁻¹ / R.v = (Real.sqrt R.v)⁻¹ / (Real.sqrt R.v * Real.sqrt R.v) from congrArg _ e]
  field_simp

theorem rr_eq : R.rr n = R.dr n := by unfold rr dr w; ring

theorem rO_eq : R.rO n = R.dO n := by
  have e : ∑ k, R.t k * R.xh k = (∑ k, R.o k * R.t k) * R.s := by
    rw [Finset.sum_mul]
    exact Finset.sum_congr rfl fun k _ => by unfold xh; ring
  unfold rO dO q
  rw [e, s_div_v]
  unfold xh
  ring

end Head

end Cert.HeadNorm

end
-- ==== Proof.Head.lean ====
/-
  The recurrent branch's norm and gate (kernel `gla_out_bwd`): what the kernel writes, where the arguments are real numbers.
-/
module

public import proofs.«01_k».proof.Proof.Gen.Kernel10Ideal.Value
public import proofs.«01_k».proof.Proof.HeadRow

@[expose] public section

noncomputable section

namespace Cert.HeadNorm

open Cert.Kernel10Ideal Cert.Kernel10Ideal.Gen Cert.Kernel10Ideal.Value Idealize.ShloMosaic Idealize.ShloMosaic.TcCoe Idealize.ShloMosaic.Pointwise
open Cert.Reals

/-! ## One head's tile -/

section
variable (x y : FVec Ideal S1x256x256 .f32) (z : FVec Ideal S256x256 .bf16) (d : FVec Ideal S256x256 .f32) (g p : FVec Ideal S1x256 .f32)

/-- What the kernel computes from a head's tiles: the gradients of the gate's input and of the scan's output, and the
    scale's gradient added to what is there. -/
def tileR : FVec Ideal S256x256 .bf16 := k0_pay11 (k0_pay7 z) (k0_pay10 x y d) g
def tileO : FVec Ideal S1x256x256 .f32 := k0_pay16 (k0_pay8 x y) (k0_pay9 x y) (k0_pay14 (k0_pay7 z) d g) (k0_pay15 (k0_pay7 z) d (k0_pay9 x y) g)
def tileG : FVec Ideal S1x256 .f32 := k0_pay13 (k0_pay7 z) d (k0_pay9 x y) p

/-- The later heads' text says the same of their tiles. -/
theorem tileR1 : k0_pay23 (k0_pay18 z) (k0_pay21 x y d g) (k0_pay22 z) (Scalar.ofBits .f32 0x3F800000#32) = tileR x y z d g := rfl
theorem tileR2 : k0_pay34 (k0_pay32 x y d g) (k0_pay33 z) = tileR x y z d g := rfl
theorem tileR3 : k0_pay43 (k0_pay38 x) y z d g = tileR x y z d g := rfl
theorem tileO1 : k0_pay27 (k0_pay26 (k0_pay18 z) d (k0_pay19 x y) (k0_pay20 x y) g) = tileO x y z d g := rfl
theorem tileO2 : k0_pay37 (k0_pay29 z) d (k0_pay30 x y) (k0_pay31 x y) g = tileO x y z d g := rfl
theorem tileO3 : k0_pay3 (k0_pay40 z) d (k0_pay41 (k0_pay38 x) y) (k0_pay42 (k0_pay38 x) y) (k0_pay44 z) g = tileO x y z d g := rfl
theorem tileG1 : k0_pay25 (k0_pay18 z) d (k0_pay20 x y) p = tileG x y z d p := rfl
theorem tileG2 : k0_pay36 (k0_pay29 z) d (k0_pay31 x y) p = tileG x y z d p := rfl
theorem tileG3 : k0_pay2 (k0_pay40 z) d (k0_pay42 (k0_pay38 x) y) (k0_pay44 z) p = tileG x y z d p := rfl

/-- Row `r` of the tiles holds these real numbers. -/
structure Holds (r : Fin 256) (R : Head) : Prop where
  o : ∀ n : Fin 256, (x (ix3 0 r n) + y (ix3 0 r n) : EReal) = (R.o n : EReal)
  z : ∀ n : Fin 256, z (ix2 r n) = (R.r n : EReal)
  d : ∀ n : Fin 256, d (ix2 r n) = (R.d n : EReal)
  g : ∀ n : Fin 256, g (ix2 0 n) = (R.g n : EReal)

variable {x y z d g} {r : Fin 256} {R : Head} (H : Holds x y z d g r R) (n : Fin 256)
include H

theorem pay6_real : k0_pay6 (F := Ideal) x y (ix2 r n) = (R.o n : EReal) := by
  pointwise [k0_pay6]
  exact H.o n
theorem pay7_real : k0_pay7 (F := Ideal) z (ix2 r n) = (R.r n : EReal) := by
  pointwise [k0_pay7]
  exact H.z n
theorem pay8_real : k0_pay8 (F := Ideal) x y (ix2 r 0) = (R.s : EReal) := by
  pointwise [k0_pay8]
  simp only [pay6_real H, sum_real, div256, cEps, ← EReal.coe_mul, ← EReal.coe_add]
  exact rsqrt_real R.v_pos
theorem pay9_real : k0_pay9 (F := Ideal) x y (ix2 r n) = (R.xh n : EReal) := by
  pointwise [k0_pay9]
  simp only [pay6_real H, pay8_real H, ← EReal.coe_mul]
  rfl
theorem pay10_real : k0_pay10 (F := Ideal) x y d (ix2 r n) = ((R.d n * R.xh n : ℝ) : EReal) := by
  pointwise [k0_pay10]
  simp only [pay9_real H, H.d, ← EReal.coe_mul]
theorem pay12_real : k0_pay12 (F := Ideal) (k0_pay7 z) d (ix2 r n) = (R.dn n : EReal) := by
  pointwise [k0_pay12]
  simp only [pay7_real H, H.d, sg_sub, ← EReal.coe_mul]
  rfl
theorem pay14_real : k0_pay14 (F := Ideal) (k0_pay7 z) d g (ix2 r n) = (R.t n : EReal) := by
  pointwise [k0_pay14]
  simp only [pay12_real H, H.g, ← EReal.coe_mul]
  rfl
theorem pay15_real : k0_pay15 (F := Ideal) (k0_pay7 z) d (k0_pay9 x y) g (ix2 r 0) = ((∑ k, R.t k * R.xh k : ℝ) : EReal) := by
  pointwise [k0_pay15]
  simp only [pay14_real H, pay9_real H, ← EReal.coe_mul, sum_real]
theorem tileR_real : tileR x y z d g (ix2 r n) = (R.dr n : EReal) := by
  pointwise [tileR, k0_pay11]
  simp only [pay10_real H, pay7_real H, H.g, sg_sub]
  simp only [← EReal.coe_one, ← EReal.coe_mul, ← EReal.coe_sub, ← EReal.coe_add]
  rfl
theorem tileO_real : tileO x y z d g (ix3 0 r n) = (R.dO n : EReal) := by
  pointwise [tileO, k0_pay16]
  simp only [pay15_real H, pay14_real H, pay9_real H, pay8_real H, div256, ← EReal.coe_mul, ← EReal.coe_sub]
  rfl
end

/-- The scale's gradient from a tile: what is there, and each row's contribution. -/
theorem tileG_at (x y : FVec Ideal S1x256x256 .f32) (z : FVec Ideal S256x256 .bf16) (d : FVec Ideal S256x256 .f32) (g p : FVec Ideal S1x256 .f32)
    (R : Fin 256 → Head) (H : ∀ r, Holds x y z d g r (R r)) (n : Fin 256) :
    tileG x y z d p (ix2 0 n) = (p (ix2 0 n) + ∑ r, ((R r).dn n : EReal) * ((R r).xh n : EReal) : EReal) := by
  pointwise [tileG, k0_pay13]
  exact congrArg _ (Finset.sum_congr rfl fun r _ => congrArg₂ _ (pay12_real (H r) n) (pay9_real (H r) n))
theorem pay4_at (n : Fin 256) : k0_pay4 (F := Ideal) (ix2 0 n) = (0 : EReal) := by
  pointwise [k0_pay4]
theorem pay5_at (x : Vec Ideal S256x1024 .bf16) (w : Vec Ideal S1024x1024 .bf16) (r : Fin 256) (n : Fin 1024) :
    k0_pay5 x w (ix2 r n) = (∑ k : Fin 1024, x (ix2 r k) * w (ix2 n k) : EReal) := by
  pointwise [k0_pay5]

/-! ## A block's four heads -/

/-- The column of a head's lane. -/
def col (j : Fin 4) (n : Fin 256) : Fin 1024 := ⟨j.val * 256 + n.val, by omega⟩

section
variable {Val : EltTy → Type} {e : EltTy} (o : Nat) (j : Fin 4) (ho : o = j.val * 256) (r n : Fin 256)
  (h2 : ∀ a, ![0, o] a + ![256, 256] a ≤ S256x1024.size a) (h3 : ∀ a, ![0, 0, o] a + ![1, 256, 256] a ≤ S1x256x1024.size a)
include ho

theorem idx2 : (Rect.unit (s := S256x1024) ![0, o] ![256, 256] h2).idx (ix2 r n) = ix2 r (col j n) := by
  funext a; apply Fin.ext; rw [Rect.idx_unit_val]
  fin_cases a
  · exact Nat.zero_add _
  · exact congrArg (· + n.val) ho
theorem idx3 : (Rect.unit (s := S1x256x1024) ![0, 0, o] ![1, 256, 256] h3).idx (ix3 0 r n) = ix3 0 r (col j n) := by
  funext a; apply Fin.ext; rw [Rect.idx_unit_val]
  fin_cases a
  · rfl
  · exact Nat.zero_add _
  · exact congrArg (· + n.val) ho
theorem ld2 (X : S256x1024.Idx → Val e) : View.ld X (Rect.unit (s := S256x1024) ![0, o] ![256, 256] h2) (ix2 r n) = X (ix2 r (col j n)) :=
  congrArg X (idx2 o j ho r n h2)
theorem ld3 (X : S1x256x1024.Idx → Val e) : View.ld X (Rect.unit (s := S1x256x1024) ![0, 0, o] ![1, 256, 256] h3) (ix3 0 r n) = X (ix3 0 r (col j n)) :=
  congrArg X (idx3 o j ho r n h3)
end

/-- A head's part of the scratch tile, read back. -/
theorem readCov_part {Val : EltTy → Type} [∀ e, Nonempty (Val e)] {e : EltTy} {sig : RefSig} {κ : Kind} {sp : Space} (v : View sig κ sp S256x1024 e) (o : Nat)
    (hz : ∀ a, ![0, 0] a + ![256, 1024] a ≤ S256x1024.size a) (h2 : ∀ a, ![0, o] a + ![256, 256] a ≤ S256x1024.size a) (w : S256x1024.Idx → Val e) :
    v.readCov [⟨Rect.unit (s := S256x1024) ![0, 0] ![256, 1024] hz, w⟩] (Rect.unit (s := S256x1024) ![0, o] ![256, 256] h2).toLoadRect
      = View.ld w (Rect.unit (s := S256x1024) ![0, o] ![256, 256] h2) := by
  rw [View.readCov_eq_canon']
  funext j
  exact congrFun (View.canon_cons_unit_lit (S := S256x1024) hz w [] (by decide)) _

/-- The four heads' stores, read at a head's column. -/
theorem canon2 {Val : EltTy → Type} [∀ e, Nonempty (Val e)] {e : EltTy} (w : Fin 4 → S256x256.Idx → Val e)
    (h0 : ∀ a, ![0, 0] a + ![256, 256] a ≤ S256x1024.size a) (h1 : ∀ a, ![0, 256] a + ![256, 256] a ≤ S256x1024.size a)
    (h2 : ∀ a, ![0, 512] a + ![256, 256] a ≤ S256x1024.size a) (h3 : ∀ a, ![0, 768] a + ![256, 256] a ≤ S256x1024.size a) (j : Fin 4) (r n : Fin 256) :
    View.canon [⟨Rect.unit (s := S256x1024) ![0, 768] ![256, 256] h3, w 3⟩, ⟨Rect.unit (s := S256x1024) ![0, 512] ![256, 256] h2, w 2⟩,
      ⟨Rect.unit (s := S256x1024) ![0, 256] ![256, 256] h1, w 1⟩, ⟨Rect.unit (s := S256x1024) ![0, 0] ![256, 256] h0, w 0⟩] (ix2 r (col j n))
      = w j (ix2 r n) := by
  have skip : ∀ (o : Nat) (h : ∀ a, ![0, o] a + ![256, 256] a ≤ S256x1024.size a), j.val * 256 + n.val < o →
      (ix2 r (col j n) : S256x1024.Idx) ∉ (Rect.unit (s := S256x1024) ![0, o] ![256, 256] h).set := fun o h hlt hm => by
    have h1 : o ≤ j.val * 256 + n.val := ((Rect.mem_set_unit (inb := h)).1 hm 1).1
    omega
  have hn := n.isLt
  fin_cases j
  · refine (View.canon_cons_of_not_mem _ _ (by exact skip 768 h3 (by simp; omega))).trans ?_
    refine (View.canon_cons_of_not_mem _ _ (by exact skip 512 h2 (by simp; omega))).trans ?_
    refine (View.canon_cons_of_not_mem _ _ (by exact skip 256 h1 (by simp))).trans ?_
    exact (congrArg _ (idx2 0 0 rfl r n h0).symm).trans (View.canon_cons_emb (Rect.unit (s := S256x1024) ![0, 0] ![256, 256] h0) (w 0) _ (ix2 r n))
  · refine (View.canon_cons_of_not_mem _ _ (by exact skip 768 h3 (by simp; omega))).trans ?_
    refine (View.canon_cons_of_not_mem _ _ (by exact skip 512 h2 (by simp; omega))).trans ?_
    exact (congrArg _ (idx2 256 1 rfl r n h1).symm).trans (View.canon_cons_emb (Rect.unit (s := S256x1024) ![0, 256] ![256, 256] h1) (w 1) _ (ix2 r n))
  · refine (View.canon_cons_of_not_mem _ _ (by exact skip 768 h3 (by simp; omega))).trans ?_
    exact (congrArg _ (idx2 512 2 rfl r n h2).symm).trans (View.canon_cons_emb (Rect.unit (s := S256x1024) ![0, 512] ![256, 256] h2) (w 2) _ (ix2 r n))
  · exact (congrArg _ (idx2 768 3 rfl r n h3).symm).trans (View.canon_cons_emb (Rect.unit (s := S256x1024) ![0, 768] ![256, 256] h3) (w 3) _ (ix2 r n))

theorem canon3 {Val : EltTy → Type} [∀ e, Nonempty (Val e)] {e : EltTy} (w : Fin 4 → S1x256x256.Idx → Val e)
    (h0 : ∀ a, ![0, 0, 0] a + ![1, 256, 256] a ≤ S1x256x1024.size a) (h1 : ∀ a, ![0, 0, 256] a + ![1, 256, 256] a ≤ S1x256x1024.size a)
    (h2 : ∀ a, ![0, 0, 512] a + ![1, 256, 256] a ≤ S1x256x1024.size a) (h3 : ∀ a, ![0, 0, 768] a + ![1, 256, 256] a ≤ S1x256x1024.size a) (j : Fin 4)
    (r n : Fin 256) :
    View.canon [⟨Rect.unit (s := S1x256x1024) ![0, 0, 768] ![1, 256, 256] h3, w 3⟩, ⟨Rect.unit (s := S1x256x1024) ![0, 0, 512] ![1, 256, 256] h2, w 2⟩,
      ⟨Rect.unit (s := S1x256x1024) ![0, 0, 256] ![1, 256, 256] h1, w 1⟩, ⟨Rect.unit (s := S1x256x1024) ![0, 0, 0] ![1, 256, 256] h0, w 0⟩]
      (ix3 0 r (col j n)) = w j (ix3 0 r n) := by
  have skip : ∀ (o : Nat) (h : ∀ a, ![0, 0, o] a + ![1, 256, 256] a ≤ S1x256x1024.size a), j.val * 256 + n.val < o →
      (ix3 0 r (col j n) : S1x256x1024.Idx) ∉ (Rect.unit (s := S1x256x1024) ![0, 0, o] ![1, 256, 256] h).set := fun o h hlt hm => by
    have h1 : o ≤ j.val * 256 + n.val := ((Rect.mem_set_unit (inb := h)).1 hm 2).1
    omega
  have hn := n.isLt
  fin_cases j
  · refine (View.canon_cons_of_not_mem _ _ (by exact skip 768 h3 (by simp; omega))).trans ?_
    refine (View.canon_cons_of_not_mem _ _ (by exact skip 512 h2 (by simp; omega))).trans ?_
    refine (View.canon_cons_of_not_mem _ _ (by exact skip 256 h1 (by simp))).trans ?_
    exact (congrArg _ (idx3 0 0 rfl r n h0).symm).trans (View.canon_cons_emb (Rect.unit (s := S1x256x1024) ![0, 0, 0] ![1, 256, 256] h0) (w 0) _ (ix3 0 r n))
  · refine (View.canon_cons_of_not_mem _ _ (by exact skip 768 h3 (by simp; omega))).trans ?_
    refine (View.canon_cons_of_not_mem _ _ (by exact skip 512 h2 (by simp; omega))).trans ?_
    exact (congrArg _ (idx3 256 1 rfl r n h1).symm).trans (View.canon_cons_emb (Rect.unit (s := S1x256x1024) ![0, 0, 256] ![1, 256, 256] h1) (w 1) _ (ix3 0 r n))
  · refine (View.canon_cons_of_not_mem _ _ (by exact skip 768 h3 (by simp; omega))).trans ?_
    exact (congrArg _ (idx3 512 2 rfl r n h2).symm).trans (View.canon_cons_emb (Rect.unit (s := S1x256x1024) ![0, 0, 512] ![1, 256, 256] h2) (w 2) _ (ix3 0 r n))
  · exact (congrArg _ (idx3 768 3 rfl r n h3).symm).trans (View.canon_cons_emb (Rect.unit (s := S1x256x1024) ![0, 0, 768] ![1, 256, 256] h3) (w 3) _ (ix3 0 r n))

end Cert.HeadNorm

end
-- ==== Proof.HeadPoints.lean ====
/-
  The recurrent branch's norm and gate: the points' blocks, and the kernel's results.
-/
module

public import proofs.«01_k».proof.Proof.Head

@[expose] public section

noncomputable section

namespace Cert.HeadNorm

open Cert.Kernel10Ideal Cert.Kernel10Ideal.Gen Cert.Kernel10Ideal.Value Idealize.ShloMosaic Idealize.ShloMosaic.TcCoe Idealize.ShloMosaic.Pointwise
open Cert.Reals

/-- Row `r` of the point's tile, and a token's sequence and position. -/
def row (t : Fin cfg0.N) (r : Fin 256) : Fin 4096 := ⟨t.val * 256 + r.val, by have := Nat.lt_of_lt_of_eq t.isLt N_0; omega⟩
def bat (s : Fin 4096) : Fin 2 := ⟨s.val / 2048, by omega⟩
def pos (s : Fin 4096) : Fin 2048 := ⟨s.val % 2048, by omega⟩

theorem idx : ∀ t : Fin cfg0.N, win0_0.index t = ![t.val / 8, t.val % 8, 0] ∧ win0_1.index t = ![t.val / 8, t.val % 8, 0] ∧ win0_2.index t = ![t.val, 0]
    ∧ win0_3.index t = ![t.val, 0] ∧ win0_4.index t = ![0, 0] ∧ win0_5.index t = ![0, 0]
    ∧ win0_6.index t = ![t.val / 8, t.val % 8, 0] ∧ win0_7.index t = ![t.val, 0] ∧ win0_8.index t = ![0, 0] := by
  decide +kernel

theorem last_inj : ∀ t t' : Fin cfg0.N, t.val % 16 = 15 → t'.val % 16 = 15 → t = t' := by
  decide +kernel

/-- The arguments' real numbers. -/
structure Args where
  f : Fin 2 → Fin 2048 → Fin 1024 → ℝ
  b : Fin 2 → Fin 2048 → Fin 1024 → ℝ
  r : Fin 4096 → Fin 1024 → ℝ
  y : Fin 4096 → Fin 1024 → ℝ
  w : Fin 1024 → Fin 1024 → ℝ
  g : Fin 256 → ℝ

/-- A head's row of a token. -/
def Args.at (A : Args) (s : Fin 4096) (j : Fin 4) : Head :=
  ⟨fun n => A.f (bat s) (pos s) (col j n) + A.b (bat s) (pos s) (col j n), fun n => A.r s (col j n), fun n => ∑ k, A.y s k * A.w (col j n) k, A.g⟩

/-- The arguments hold these real numbers. -/
structure Real (x0 x1 : S2x2048x1024.Idx → EReal) (x2 x3 : S4096x1024.Idx → EReal) (x4 : S1024x1024.Idx → EReal) (x5 : S1x256.Idx → EReal) (A : Args) : Prop where
  f : ∀ b l n, x0 (ix3 b l n) = (A.f b l n : EReal)
  b : ∀ b l n, x1 (ix3 b l n) = (A.b b l n : EReal)
  r : ∀ s n, x2 (ix2 s n) = (A.r s n : EReal)
  y : ∀ s n, x3 (ix2 s n) = (A.y s n : EReal)
  w : ∀ k n, x4 (ix2 k n) = (A.w k n : EReal)
  g : ∀ n, x5 (ix2 0 n) = (A.g n : EReal)

variable (m : (ℓ : Loc nD τ sig) → Buf (Elt Ideal) ℓ) (c : Dev nD) (t : Fin cfg0.N) (r : Fin 256) (n k : Fin 1024) (l : Fin 256)

theorem bat_row : (bat (row t r)).val = t.val / 8 := by
  have := r.isLt
  show (t.val * 256 + r.val) / 2048 = _; omega
theorem pos_row : (pos (row t r)).val = t.val % 8 * 256 + r.val := by
  have := r.isLt
  show (t.val * 256 + r.val) % 2048 = _; omega

theorem iblk0 : iblk m c 0 t (ix3 0 r n) = m ((c : Thread nD τ).loc main_arg0) (ix3 (bat (row t r)) (pos (row t r)) n) := by
  have e := bat_row t r
  have e' := pos_row t r
  blk_ext [iblk, V_main_arg0, idx t]
theorem iblk1 : iblk m c 1 t (ix3 0 r n) = m ((c : Thread nD τ).loc main_arg1) (ix3 (bat (row t r)) (pos (row t r)) n) := by
  have e := bat_row t r
  have e' := pos_row t r
  blk_ext [iblk, V_main_arg1, idx t]
theorem iblk2 : iblk m c 2 t (ix2 r n) = m ((c : Thread nD τ).loc main_arg2) (ix2 (row t r) n) := by
  have e : (row t r).val = t.val * 256 + r.val := rfl
  blk_ext [iblk, V_main_arg2, idx t]
theorem iblk3 : iblk m c 3 t (ix2 r n) = m ((c : Thread nD τ).loc main_arg3) (ix2 (row t r) n) := by
  have e : (row t r).val = t.val * 256 + r.val := rfl
  blk_ext [iblk, V_main_arg3, idx t]
theorem iblk4 : iblk m c 4 t (ix2 k n) = m ((c : Thread nD τ).loc main_arg4) (ix2 k n) := by
  blk_ext [iblk, V_main_arg4, idx t]
theorem iblk5 : iblk m c 5 t (ix2 0 l) = m ((c : Thread nD τ).loc main_arg5) (ix2 0 l) := by
  blk_ext [iblk, V_main_arg5, idx t]

theorem read6 (X : Vec Ideal S2x2048x1024 .f32) :
    ((cfg0.win 6).blk t).view.read (Elt Ideal) X (ix3 0 r n) = X (ix3 (bat (row t r)) (pos (row t r)) n) := by
  have e := bat_row t r
  have e' := pos_row t r
  blk_ext [idx t]
theorem read7 (X : Vec Ideal S4096x1024 .bf16) : ((cfg0.win 7).blk t).view.read (Elt Ideal) X (ix2 r n) = X (ix2 (row t r) n) := by
  have e : (row t r).val = t.val * 256 + r.val := rfl
  blk_ext [idx t]
theorem read8 (X : Vec Ideal S1x256 .f32) : ((cfg0.win 8).blk t).view.read (Elt Ideal) X (ix2 0 l) = X (ix2 0 l) := by
  blk_ext [idx t]

abbrev argF : S2x2048x1024.Idx → EReal := m ((c : Thread nD τ).loc main_arg0)
abbrev argB : S2x2048x1024.Idx → EReal := m ((c : Thread nD τ).loc main_arg1)
abbrev argR : S4096x1024.Idx → EReal := m ((c : Thread nD τ).loc main_arg2)
abbrev argY : S4096x1024.Idx → EReal := m ((c : Thread nD τ).loc main_arg3)
abbrev argW : S1024x1024.Idx → EReal := m ((c : Thread nD τ).loc main_arg4)
abbrev argG : S1x256.Idx → EReal := m ((c : Thread nD τ).loc main_arg5)
/-- The kernel's results after all points: of the scan's output, of the gate, of the scale. -/
abbrev resultO : Vec Ideal S2x2048x1024 .f32 := (dats m 0 c).arrAt 6 cfg0.N
abbrev resultR : Vec Ideal S4096x1024 .bf16 := (dats m 0 c).arrAt 7 cfg0.N
abbrev resultG : Vec Ideal S1x256 .f32 := (dats m 0 c).arrAt 8 cfg0.N

/-- The tokens of the sixteen points are all the tokens. -/
theorem tokens (f : Fin 4096 → EReal) (h : t.val % 16 = 16 - 1) :
    (∑ s : Fin 16, ∑ r : Fin 256, f (row ⟨16 * (t.val / 16) + s.val, Pipeline.run_point_lt_of_flush t h s⟩ r)) = ∑ s : Fin 4096, f s := by
  have hN : cfg0.N = 16 := N_0
  refine Fin.sum_mul_add_congr fun s r hl => congrArg f (Fin.ext ?_)
  show (16 * (t.val / 16) + s.val) * 256 + r.val = s.val * 256 + r.val
  have := t.isLt
  omega

/-- Every row is one of a point's. -/
theorem row_of (s : Fin 4096) : ∃ t r, row t r = s := by
  have hN : cfg0.N = 16 := N_0
  exact ⟨⟨s.val / 256, by omega⟩, ⟨s.val % 256, Nat.mod_lt _ (by decide)⟩, Fin.ext (by show s.val / 256 * 256 + s.val % 256 = _; omega)⟩
/-- The last point. -/
def last : Fin cfg0.N := ⟨15, by have : cfg0.N = 16 := N_0; omega⟩

variable {A : Args} (H : Real (argF m c) (argB m c) (argR m c) (argY m c) (argW m c) (argG m c) A)
include H

/-- The rows a point sees of a head. -/
theorem holds (o : Nat) (j : Fin 4) (ho : o = j.val * 256) (hz : ∀ a, ![0, 0] a + ![256, 1024] a ≤ S256x1024.size a)
    (h2 : ∀ a, ![0, o] a + ![256, 256] a ≤ S256x1024.size a) (h3 : ∀ a, ![0, 0, o] a + ![1, 256, 256] a ≤ S1x256x1024.size a) (r : Fin 256) :
    Holds (View.ld (iblk m c 0 t) (Rect.unit (s := S1x256x1024) ![0, 0, o] ![1, 256, 256] h3))
      (View.ld (iblk m c 1 t) (Rect.unit (s := S1x256x1024) ![0, 0, o] ![1, 256, 256] h3))
      (View.ld (iblk m c 2 t) (Rect.unit (s := S256x1024) ![0, o] ![256, 256] h2))
      ((View.whole cc0_scratch0).readCov (Val := Elt Ideal) [⟨Rect.unit (s := S256x1024) ![0, 0] ![256, 1024] hz, k0_pay5 (iblk m c 3 t) (iblk m c 4 t)⟩]
        (Rect.unit (s := S256x1024) ![0, o] ![256, 256] h2).toLoadRect)
      (iblk m c 5 t) r (A.at (row t r) j) where
  o n := by
    rw [ld3 o j ho r n h3, ld3 o j ho r n h3, iblk0, iblk1]
    exact (congrArg₂ (fun a b : EReal => a + b) (H.f _ _ _) (H.b _ _ _)).trans (EReal.coe_add _ _).symm
  z n := ((ld2 o j ho r n h2 _).trans (iblk2 m c t r (col j n))).trans (H.r _ _)
  d n := by
    rw [readCov_part _ o hz h2, ld2 o j ho r n h2, pay5_at]
    simp only [iblk3, iblk4]
    refine (Finset.sum_congr rfl fun k _ => ?_).trans (sum_real Finset.univ fun k => A.y (row t r) k * A.w (col j n) k)
    rw [EReal.coe_mul]
    exact congrArg₂ _ (H.y _ _) (H.w _ _)
  g n := (iblk5 m c t n).trans (H.g n)

theorem out6 (j : Fin 4) : (outsAt0 m c t.val t.isLt).1 (ix3 0 r (col j l)) = ((A.at (row t r) j).dO l : EReal) := by
  by_cases h : t.val % 16 = 0
  · rw [outsAt0_A m c t h]; frame_out
    rw [tileO1, tileO2, tileO3]
    refine (canon3 ![_, _, _, _] _ _ _ _ j r l).trans ?_
    fin_cases j
    · exact tileO_real (holds m c t H 0 0 rfl _ _ _ r) l
    · exact tileO_real (holds m c t H 256 1 rfl _ _ _ r) l
    · exact tileO_real (holds m c t H 512 2 rfl _ _ _ r) l
    · exact tileO_real (holds m c t H 768 3 rfl _ _ _ r) l
  · rw [outsAt0_B m c t h]; frame_out
    rw [tileO1, tileO2, tileO3]
    refine (canon3 ![_, _, _, _] _ _ _ _ j r l).trans ?_
    fin_cases j
    · exact tileO_real (holds m c t H 0 0 rfl _ _ _ r) l
    · exact tileO_real (holds m c t H 256 1 rfl _ _ _ r) l
    · exact tileO_real (holds m c t H 512 2 rfl _ _ _ r) l
    · exact tileO_real (holds m c t H 768 3 rfl _ _ _ r) l

theorem out7 (j : Fin 4) : (outsAt0 m c t.val t.isLt).2.1 (ix2 r (col j l)) = ((A.at (row t r) j).dr l : EReal) := by
  by_cases h : t.val % 16 = 0
  · rw [outsAt0_A m c t h]; frame_out
    rw [tileR1, tileR2, tileR3]
    refine (canon2 ![_, _, _, _] _ _ _ _ j r l).trans ?_
    fin_cases j
    · exact tileR_real (holds m c t H 0 0 rfl _ _ _ r) l
    · exact tileR_real (holds m c t H 256 1 rfl _ _ _ r) l
    · exact tileR_real (holds m c t H 512 2 rfl _ _ _ r) l
    · exact tileR_real (holds m c t H 768 3 rfl _ _ _ r) l
  · rw [outsAt0_B m c t h]; frame_out
    rw [tileR1, tileR2, tileR3]
    refine (canon2 ![_, _, _, _] _ _ _ _ j r l).trans ?_
    fin_cases j
    · exact tileR_real (holds m c t H 0 0 rfl _ _ _ r) l
    · exact tileR_real (holds m c t H 256 1 rfl _ _ _ r) l
    · exact tileR_real (holds m c t H 512 2 rfl _ _ _ r) l
    · exact tileR_real (holds m c t H 768 3 rfl _ _ _ r) l

/-- A token's contribution to the scale's gradient. -/
def part (A : Args) (i : Fin 256) (s : Fin 4096) : EReal := ∑ j, ((A.at s j).dn i : EReal) * ((A.at s j).xh i : EReal)

omit H in
/-- The four heads' contributions of a tile, in the kernel's order. -/
theorem four_at {x0 x1 x2 x3 y0 y1 y2 y3 : FVec Ideal S1x256x256 .f32} {z0 z1 z2 z3 : FVec Ideal S256x256 .bf16} {d0 d1 d2 d3 : FVec Ideal S256x256 .f32}
    {g : FVec Ideal S1x256 .f32} (p : FVec Ideal S1x256 .f32) {R : Fin 256 → Fin 4 → Head} (H0 : ∀ r, Holds x0 y0 z0 d0 g r (R r 0))
    (H1 : ∀ r, Holds x1 y1 z1 d1 g r (R r 1)) (H2 : ∀ r, Holds x2 y2 z2 d2 g r (R r 2)) (H3 : ∀ r, Holds x3 y3 z3 d3 g r (R r 3)) (i : Fin 256) :
    tileG x3 y3 z3 d3 (tileG x2 y2 z2 d2 (tileG x1 y1 z1 d1 (tileG x0 y0 z0 d0 p))) (ix2 0 i)
      = p (ix2 0 i) + ∑ r, ∑ j, ((R r j).dn i : EReal) * ((R r j).xh i : EReal) := by
  rw [tileG_at _ _ _ _ _ _ _ H3, tileG_at _ _ _ _ _ _ _ H2, tileG_at _ _ _ _ _ _ _ H1, tileG_at _ _ _ _ _ _ _ H0, Finset.sum_comm, Fin.sum_univ_four]
  simp only [add_assoc]

theorem out8 (h : t.val % 16 = 15) : (outsAt0 m c t.val t.isLt).2.2 (ix2 0 l) = ∑ s, part A l s := by
  rw [← tokens t (part A l) h]
  refine (Pipeline.eq_sum_fin_of_reset_step_apply_of_flush (fun n h => (fun i : Fin 256 => (outsAt0 m c n h).2.2 (ix2 0 i))) 16 (fun _ => (0 : EReal))
    (fun t i => ∑ r : Fin 256, part A i (row t r)) (fun t h i => ?_) (fun t h i => ?_) t h l).trans (zero_add _)
  · rw [outsAt0_A m c t h]; frame_out
    rw [tileG3, tileG2, tileG1]
    refine (four_at k0_pay4 (R := fun r j => A.at (row t r) j) (holds m c t H 0 0 rfl _ _ _) (holds m c t H 256 1 rfl _ _ _)
      (holds m c t H 512 2 rfl _ _ _) (holds m c t H 768 3 rfl _ _ _) i).trans ?_
    rw [pay4_at]
    rfl
  · rw [outsAt0_B m c t h]; frame_out
    rw [tileG3, tileG2, tileG1]
    exact four_at _ (R := fun r j => A.at (row t r) j) (holds m c t H 0 0 rfl _ _ _) (holds m c t H 256 1 rfl _ _ _)
      (holds m c t H 512 2 rfl _ _ _) (holds m c t H 768 3 rfl _ _ _) i

/-! ## The results -/

theorem resultO_at (s : Fin 4096) (j : Fin 4) : resultO m c (ix3 (bat s) (pos s) (col j l)) = ((A.at s j).dO l : EReal) := by
  obtain ⟨t, r, rfl⟩ := row_of s
  refine (read6 t r (col j l) (resultO m c)).symm.trans ((congrFun (blocks6 m c t (flush0_6 t)) _).trans ?_)
  rw [flushed6]
  exact out6 m c t r l H j
theorem resultR_at (s : Fin 4096) (j : Fin 4) : resultR m c (ix2 s (col j l)) = ((A.at s j).dr l : EReal) := by
  obtain ⟨t, r, rfl⟩ := row_of s
  refine (read7 t r (col j l) (resultR m c)).symm.trans ((congrFun (blocks7 m c t (flush0_7 t)) _).trans ?_)
  rw [flushed7]
  exact out7 m c t r l H j
theorem resultG_at : resultG m c (ix2 0 l) = ∑ s, part A l s := by
  refine (read8 last l (resultG m c)).symm.trans ((congrFun ((dats m 0 c).read_blk_arrAt_eq_flushed 8
    (fun t t' h h' hne => absurd (last_inj t t' ((flush0_8 t).mp h) ((flush0_8 t').mp h')) hne) cfg0.N last last.isLt ((flush0_8 last).mpr rfl)) _).trans ?_)
  rw [flushed8]
  exact out8 m c last l H rfl

end Cert.HeadNorm

end
-- ==== Proof.HeadRef.lean ====
/-
  The recurrent branch's norm and gate: what the reference computes where the arguments are real numbers, and the equations.
-/
module

public import proofs.«01_k».proof.Proof.Gen.Reference10Ideal.Read
public import proofs.«01_k».proof.Proof.HeadPoints

@[expose] public section

noncomputable section

namespace Cert.HeadNorm

open Idealize.ShloMosaic Idealize.ShloMosaic.TcCoe Idealize.ShloMosaic.Pointwise
open Cert.Reference10Ideal Cert.Reference10Ideal.Read Cert.Reals

/-- A host sum over the two leading axes, at an index. -/
theorem reduce_two {n0 n1 n2 : Nat} (h : (⟨3, ![n0, n1, n2]⟩ : Shape).ReducesTo [0, 1] ⟨1, ![n2]⟩) (v : (⟨3, ![n0, n1, n2]⟩ : Shape).Idx → EReal) (init : EReal)
    (k : Fin n2) : Ideal.hostReduceAdd h v init (ix1 k) = init + ∑ a, ∑ b, v (ix3 a b k) := by
  refine congrArg (init + ·) ((Finset.sum_filter_eq_sum_of_fiber _ (fun p : Fin n0 × Fin n1 => ix3 p.1 p.2 k) ?_ ?_ v).trans (Fintype.sum_prod_type _))
  · intro p q e
    exact Prod.ext (congrFun e 0) (congrFun e 1)
  · intro i
    constructor
    · intro e
      refine ⟨(i 0, i 1), ?_⟩
      have e2 : (i 2).val = k.val := congrArg Fin.val (congrFun e 0)
      funext a
      apply Fin.ext
      match a with
      | ⟨0, _⟩ => rfl
      | ⟨1, _⟩ => rfl
      | ⟨2, _⟩ => exact e2.symm
    · rintro ⟨p, rfl⟩
      funext a
      match a with
      | ⟨0, _⟩ => rfl

/-! ## The re-layouts' indices -/

variable (s : Fin 4096) (j : Fin 4) (n : Fin 256)

theorem idx_v1 : idx_main_v1 (ix3 s j n) = ix3 (bat s) (pos s) (col j n) := by
  funext a
  have := s.isLt
  have := j.isLt
  have := n.isLt
  apply Fin.ext
  match a with
  | ⟨0, _⟩ => show ((s.val * 4 + j.val) * 256 + n.val) / 2097152 = s.val / 2048; omega
  | ⟨1, _⟩ => show ((s.val * 4 + j.val) * 256 + n.val) / 1024 % 2048 = s.val % 2048; omega
  | ⟨2, _⟩ => show ((s.val * 4 + j.val) * 256 + n.val) % 1024 = j.val * 256 + n.val; omega
theorem idx_v18 : idx_main_v18 (ix2 s (col j n)) = ix3 s j n := by
  funext a
  have := s.isLt
  have := j.isLt
  have := n.isLt
  apply Fin.ext
  match a with
  | ⟨0, _⟩ => show (s.val * 1024 + (j.val * 256 + n.val)) / 1024 = s.val; omega
  | ⟨1, _⟩ => show (s.val * 1024 + (j.val * 256 + n.val)) / 256 % 4 = j.val; omega
  | ⟨2, _⟩ => show (s.val * 1024 + (j.val * 256 + n.val)) % 256 = n.val; omega
theorem idx_v30 : idx_main_v30 (ix3 s j n) = ix2 s (col j n) := by
  funext a
  have := s.isLt
  have := j.isLt
  have := n.isLt
  apply Fin.ext
  match a with
  | ⟨0, _⟩ => show ((s.val * 4 + j.val) * 256 + n.val) / 1024 = s.val; omega
  | ⟨1, _⟩ => show ((s.val * 4 + j.val) * 256 + n.val) % 1024 = j.val * 256 + n.val; omega
theorem idx_v52 : idx_main_v52 (ix3 (bat s) (pos s) (col j n)) = ix3 s j n := by
  funext a
  have := s.isLt
  have := j.isLt
  have := n.isLt
  apply Fin.ext
  match a with
  | ⟨0, _⟩ => show ((s.val / 2048 * 2048 + s.val % 2048) * 1024 + (j.val * 256 + n.val)) / 1024 = s.val; omega
  | ⟨1, _⟩ => show ((s.val / 2048 * 2048 + s.val % 2048) * 1024 + (j.val * 256 + n.val)) / 256 % 4 = j.val; omega
  | ⟨2, _⟩ => show ((s.val / 2048 * 2048 + s.val % 2048) * 1024 + (j.val * 256 + n.val)) % 256 = n.val; omega

section
variable {x0 x1 : S2x2048x1024.Idx → EReal} {x2 x3 : S4096x1024.Idx → EReal} {x4 : S1024x1024.Idx → EReal} {x5 : S1x256.Idx → EReal} {A : Args}
  (H : Real x0 x1 x2 x3 x4 x5 A)
include H

theorem v1_real : val_main_v1 (F := Ideal) x0 x1 (ix3 s j n) = ((A.at s j).o n : EReal) := by
  rw [val_main_v1_apply, idx_v1]
  pointwise [val_main_v0]
  rw [H.f, H.b, ← EReal.coe_add]
  rfl
theorem v8_real : val_main_v8 (F := Ideal) x0 x1 (ix3 s j 0) = ((A.at s j).v : EReal) := by
  pointwise [val_main_v8, val_main_v7, val_main_v6, val_main_v5, val_main_v4, val_main_v3, val_main_v2, val_main_cst, val_main_cst_0, val_main_cst_1]
  simp only [v1_real _ _ _ H, cEps, ← EReal.coe_mul, sum_real, div256, ← EReal.coe_add]
  rfl
theorem v9_real : val_main_v9 (F := Ideal) x0 x1 (ix3 s j 0) = ((A.at s j).s : EReal) := by
  pointwise [val_main_v9]
  rw [v8_real _ _ H]
  exact rsqrt_real (A.at s j).v_pos
theorem v12_real : val_main_v12 (F := Ideal) x0 x1 (ix3 s j 0) = ((-(1 / 2) * ((A.at s j).s / (A.at s j).v) : ℝ) : EReal) := by
  pointwise [val_main_v12, val_main_v11, val_main_v10, val_main_cst_2]
  rw [v8_real _ _ H, v9_real _ _ H, cHalf, div_real _ (A.at s j).v_ne, EReal.coe_mul]
theorem v14_real : val_main_v14 (F := Ideal) x0 x1 (ix3 s j n) = ((A.at s j).xh n : EReal) := by
  pointwise [val_main_v14, val_main_v13]
  rw [v1_real _ _ _ H, v9_real _ _ H, ← EReal.coe_mul]
  rfl
theorem v18_real : val_main_v18 (F := Ideal) x0 x1 x5 (ix2 s (col j n)) = (((A.at s j).xh n * (A.at s j).g n : ℝ) : EReal) := by
  rw [val_main_v18_apply, idx_v18]
  pointwise [val_main_v17, val_main_v16, val_main_v15]
  rw [v14_real _ _ _ H, H.g, ← EReal.coe_mul]
  rfl
theorem sig_real : val_main_v20_2 (F := Ideal) x2 (ix2 s (col j n)) = (sg ((A.at s j).r n) : EReal) := by
  pointwise [val_main_v20_2, val_main_call0_v4, val_main_call0_v3, val_main_call0_v2, val_main_call0_v1, val_main_call0_v0, val_main_call0_cst, val_main_call0_cst_0, val_main_v19]
  rw [H.r, sg_neg]
  rfl
theorem v25_real : val_main_v25 (F := Ideal) x3 x4 (ix2 s (col j n)) = ((A.at s j).d n : EReal) := by
  pointwise [val_main_v25, val_main_v24, val_main_v22]
  simp only [H.y, H.w, ← EReal.coe_mul, sum_real]
  rfl
theorem v29_real : val_main_v29 (F := Ideal) x0 x1 x2 x3 x4 x5 (ix2 s (col j n)) = ((A.at s j).rr n : EReal) := by
  pointwise [val_main_v29, val_main_v28, val_main_call1_v2, val_main_call1_v1, val_main_call1_v0, val_main_v26, val_main_v20_1, val_main_call0_v7, val_main_call0_v6,
    val_main_call0_cst_1, val_main_v19]
  simp only [v18_real _ _ _ H, sig_real _ _ _ H, v25_real _ _ _ H, H.r]
  simp only [← EReal.coe_one, ← EReal.coe_mul, ← EReal.coe_sub, ← EReal.coe_add]
  rfl
theorem v30_real : val_main_v30 (F := Ideal) x2 x3 x4 (ix3 s j n) = ((A.at s j).dn n : EReal) := by
  rw [val_main_v30_apply, idx_v30]
  pointwise [val_main_v27, val_main_v20_0, val_main_v19]
  simp only [sig_real _ _ _ H, v25_real _ _ _ H, H.r, ← EReal.coe_mul]
  rfl
theorem v35_real : val_main_v35 (F := Ideal) x2 x3 x4 x5 (ix3 s j n) = ((A.at s j).t n : EReal) := by
  pointwise [val_main_v35, val_main_v34, val_main_v15]
  rw [v30_real _ _ _ H, H.g, ← EReal.coe_mul]
  rfl
theorem v47_real : val_main_v47 (F := Ideal) x0 x1 x2 x3 x4 x5 (ix3 s j n) = ((A.at s j).q : EReal) := by
  pointwise [val_main_v47, val_main_v46, val_main_v45, val_main_v44, val_main_v43, val_main_v40, val_main_v39, val_main_v38, val_main_cst_5, val_main_cst_6, val_main_cst_7]
  simp only [v1_real _ _ _ H, v35_real _ _ _ H, Fin.sum_univ_one, v12_real _ _ H, ← EReal.coe_mul, sum_real, div256]
  rfl
theorem v52_real : val_main_v52 (F := Ideal) x0 x1 x2 x3 x4 x5 (ix3 (bat s) (pos s) (col j n)) = ((A.at s j).rO n : EReal) := by
  rw [val_main_v52_apply, idx_v52]
  pointwise [val_main_v51, val_main_v50, val_main_v49, val_main_v48, val_main_v42, val_main_v41]
  simp only [v1_real _ _ _ H, v35_real _ _ _ H, v47_real _ _ _ H, v9_real _ _ H, ← EReal.coe_mul, ← EReal.coe_add]
  rfl

omit H in
theorem zero_bits : val_main_cst_3 (F := Ideal) (fun k => k.elim0) = (0 : EReal) := by
  pointwise [val_main_cst_3]

theorem v32_real : val_main_v32 (F := Ideal) x0 x1 x2 x3 x4 (ix1 n) = ∑ s, ∑ j, ((A.at s j).xh n : EReal) * ((A.at s j).dn n : EReal) := by
  unfold val_main_v32
  rw [Host.reduceAdd_apply, Ideal.hostReduceAdd_def, reduce_two]
  pointwise [val_main_cst_3, val_main_v31]
  simp only [v14_real _ _ _ H, v30_real _ _ _ H]
theorem v37_real : val_main_v37 (F := Ideal) x0 x1 x2 x3 x4 (ix2 0 n) = ∑ s, ∑ j, ((A.at s j).xh n : EReal) * ((A.at s j).dn n : EReal) := by
  rw [val_main_v37_apply]
  have e : idx_main_v37 (ix2 0 n) = ix1 n := by funext a; fin_cases a; rfl
  rw [e]
  unfold val_main_v36
  rw [Host.reduceAdd_apply, Ideal.hostReduceAdd_def, reduce_two]
  have e1 : idx_main_v33 (ix3 0 0 n) = ix1 n := by
    funext a; fin_cases a
    exact Fin.ext (by show (0 * 1 + 0) * 256 + n.val = n.val; omega)
  pointwise [val_main_cst_4]
  simp only [Fin.sum_univ_one]
  rw [val_main_v33_apply, e1, v32_real _ H]
end

/-! ## The equations -/

/-- Every column is one of a head's. -/
theorem col_of (n : Fin 1024) : ∃ j k, col j k = n :=
  ⟨⟨n.val / 256, by omega⟩, ⟨n.val % 256, Nat.mod_lt _ (by decide)⟩, Fin.ext (by show n.val / 256 * 256 + n.val % 256 = n.val; omega)⟩
/-- Every position is a token's. -/
theorem tok_of (b : Fin 2) (l : Fin 2048) : ∃ s, bat s = b ∧ pos s = l :=
  ⟨⟨b.val * 2048 + l.val, by omega⟩, Fin.ext (by show (b.val * 2048 + l.val) / 2048 = b.val; omega), Fin.ext (by show (b.val * 2048 + l.val) % 2048 = l.val; omega)⟩

variable (m : (ℓ : Loc Cert.Kernel10Ideal.nD Cert.Kernel10Ideal.τ Cert.Kernel10Ideal.sig) → Buf (Elt Ideal) ℓ) (c : Dev Cert.Kernel10Ideal.nD)
  {A : Args} (H : Real (argF m c) (argB m c) (argR m c) (argY m c) (argW m c) (argG m c) A)
include H

theorem equalO : resultO m c = val_main_v52 (F := Ideal) (argF m c) (argB m c) (argR m c) (argY m c) (argW m c) (argG m c) := by
  funext i
  obtain ⟨s, hb, hl⟩ := tok_of (i 0) (i 1)
  obtain ⟨j, n, hc⟩ := col_of (i 2)
  have e : i = ix3 (bat s) (pos s) (col j n) := by rw [hb, hl, hc]; funext a; fin_cases a <;> rfl
  rw [e, resultO_at m c n H s j, v52_real s j n H, (A.at s j).rO_eq n]
theorem equalR : resultR m c = val_main_v29 (F := Ideal) (argF m c) (argB m c) (argR m c) (argY m c) (argW m c) (argG m c) := by
  funext i
  obtain ⟨j, n, hc⟩ := col_of (i 1)
  have e : i = ix2 (i 0) (col j n) := by rw [hc]; funext a; fin_cases a <;> rfl
  rw [e]
  refine (resultR_at m c n H (i 0) j).trans (Eq.trans ?_ (v29_real (i 0) j n H).symm)
  exact congrArg _ ((A.at (i 0) j).rr_eq n).symm
theorem equalG : resultG m c = val_main_v37 (F := Ideal) (argF m c) (argB m c) (argR m c) (argY m c) (argW m c) := by
  funext i
  have e : i = ix2 0 (i 1) := by funext a; fin_cases a; exact Subsingleton.elim (α := Fin 1) _ _; rfl
  rw [e]
  refine (resultG_at m c (i 1) H).trans (Eq.trans ?_ (v37_real (i 1) H).symm)
  exact Finset.sum_congr rfl fun s _ => Finset.sum_congr rfl fun j _ => mul_comm _ _

end Cert.HeadNorm

end
-- ==== Proof.HeadFinite.lean ====
/-
  The recurrent branch's norm and gate: where the precondition holds, every element of the arguments is a real number.
-/
module

public import proofs.«01_k».proof.Defs
public import proofs.«01_k».proof.Proof.Finite
public import proofs.«01_k».proof.Proof.HeadPoints

@[expose] public section

noncomputable section

namespace Cert.HeadNorm

open Idealize.ShloMosaic Idealize.ShloMosaic.Pointwise Cert.Pre_finite10

/-- The shape facts the precondition's text states. -/
instance facts : Facts where
  bcast_S_S2x2048x1024 := by decide
  reducesTo_S2x2048x1024_S_d0_1_2 := by decide
  h_S_ := by decide
  bitsLt_bf16_f32 := by decide
  bcast_S_S4096x1024 := by decide
  reducesTo_S4096x1024_S_d0_1 := by decide
  bcast_S_S1024x1024 := by decide
  reducesTo_S1024x1024_S_d0_1 := by decide
  bcast_S_S1x256 := by decide
  reducesTo_S1x256_S_d0_1 := by decide

/-- The arguments' real numbers. -/
def reals (x0 x1 : FVec Ideal S2x2048x1024 .f32) (x2 x3 : FVec Ideal S4096x1024 .bf16) (x4 : FVec Ideal S1024x1024 .bf16) (x5 : FVec Ideal S1x256 .f32) :
    Args where
  f b l n := EReal.toReal (x0 (ix3 b l n))
  b b l n := EReal.toReal (x1 (ix3 b l n))
  r s n := EReal.toReal (x2 (ix2 s n))
  y s n := EReal.toReal (x3 (ix2 s n))
  w s n := EReal.toReal (x4 (ix2 s n))
  g n := EReal.toReal (x5 (ix2 0 n))

theorem real_of_finite (x0 x1 : FVec Ideal S2x2048x1024 .f32) (x2 x3 : FVec Ideal S4096x1024 .bf16) (x4 : FVec Ideal S1024x1024 .bf16)
    (x5 : FVec Ideal S1x256 .f32) (h : fn (F := Ideal) x0 x1 x2 x3 x4 x5 = fun _ => 1#1) : Real x0 x1 x2 x3 x4 x5 (reals x0 x1 x2 x3 x4 x5) := by
  have j : S_.Idx := fun k => k.elim0
  have e := congrFun h j
  obtain ⟨e, h5⟩ := IntOp.andi_eq_one.mp e
  obtain ⟨e, h4⟩ := IntOp.andi_eq_one.mp e
  obtain ⟨e, h3⟩ := IntOp.andi_eq_one.mp e
  obtain ⟨e, h2⟩ := IntOp.andi_eq_one.mp e
  obtain ⟨h0, h1⟩ := IntOp.andi_eq_one.mp e
  exact ⟨fun b l n => Cert.Pre_finite.all_real x0 _ _ j h0 _, fun b l n => Cert.Pre_finite.all_real x1 _ _ j h1 _,
    fun s n => Cert.Pre_finite.all_real (extf .f32 x2 Facts.bitsLt_bf16_f32) _ _ j h2 (ix2 s n),
    fun s n => Cert.Pre_finite.all_real (extf .f32 x3 Facts.bitsLt_bf16_f32) _ _ j h3 (ix2 s n),
    fun s n => Cert.Pre_finite.all_real (extf .f32 x4 Facts.bitsLt_bf16_f32) _ _ j h4 (ix2 s n), fun n => Cert.Pre_finite.all_real x5 _ _ j h5 _⟩

end Cert.HeadNorm

end
-- ==== Proof.MergeRow.lean ====
/-
  The final norm and the loss at one token, over the real numbers: the gradients as the kernel computes them and as
  the reference does.
-/
module

public import proofs.«01_k».proof.Proof.Reals

@[expose] public section

noncomputable section

namespace Cert.Merge

open Cert.Reals

/-- The merge of the two branches: each times the logistic function of its gate. -/
def mrg (p y q z : ℝ) : ℝ := sg p * y + sg q * z

/-- A token's row: the residual, the output projection, its gate, the norm's scale, the target. -/
structure Row where
  x : Fin 1024 → ℝ
  o : Fin 1024 → ℝ
  u : Fin 1024 → ℝ
  g : Fin 1024 → ℝ
  a : Fin 1024 → ℝ

namespace Row
variable (R : Row) (n : Fin 1024)

/-- The normed row's argument, its mean square (with the small constant), the norm's factor, the normed row, the error. -/
def h : ℝ := R.x n + R.u n * R.o n
def v : ℝ := (∑ k, R.h k * R.h k) / 1024 + eps
def s : ℝ := (Real.sqrt R.v)⁻¹
def nh : ℝ := R.h n * R.s
def er : ℝ := R.nh n * R.g n - R.a n

/-- The token's part of the loss. -/
def loss : ℝ := 1 / 2048 * ∑ k, R.er k * R.er k

/-- The kernel's gradients of the scaled row, of the normed one, of the row. -/
def dy : ℝ := R.er n * (1 / 1024)
def dn : ℝ := R.dy n * R.g n
def dh : ℝ := R.s * (R.dn n - R.nh n * ((∑ k, R.dn k * R.nh k) / 1024))

/-- The reference's, the last by way of the norm's factor and of the mean square. -/
def ry : ℝ := 1 / 2 * 1 / 1024 * (2 * R.er n)
def rt : ℝ := R.ry n * R.g n
def q : ℝ := (∑ k, R.h k * R.rt k) * (-(1 / 2) * (R.s / R.v)) / 1024
def rh : ℝ := R.rt n * R.s + R.h n * R.q + R.q * R.h n

theorem v_pos : 0 < R.v := by
  have h : 0 ≤ (∑ k, R.h k * R.h k) / 1024 := div_nonneg (Finset.sum_nonneg fun k _ => mul_self_nonneg _) (by norm_num)
  have := eps_pos
  unfold v; linarith

theorem v_ne : R.v ≠ 0 := R.v_pos.ne'

theorem s_div_v : R.s / R.v = R.s * R.s * R.s := by
  have h : Real.sqrt R.v ≠ 0 := (Real.sqrt_pos.mpr R.v_pos).ne'
  have e : R.v = Real.sqrt R.v * Real.sqrt R.v := (Real.mul_self_sqrt R.v_pos.le).symm
  unfold s
  rw [show (Real.sqrt R.v)⁻¹ / R.v = (Real.sqrt R.v)⁻¹ / (Real.sqrt R.v * Real.sqrt R.v) from congrArg _ e]
  field_simp

theorem ry_eq : R.ry n = R.dy n := by unfold ry dy; ring
theorem rt_eq : R.rt n = R.dn n := by unfold rt dn; rw [ry_eq]

theorem rh_eq : R.rh n = R.dh n := by
  have e : ∑ k, R.dn k * R.nh k = (∑ k, R.h k * R.rt k) * R.s := by
    rw [Finset.sum_mul]
    exact Finset.sum_congr rfl fun k _ => by unfold nh; rw [rt_eq]; ring
  unfold rh dh q
  rw [e, s_div_v, rt_eq]
  unfold nh
  ring

end Row

end Cert.Merge

end
-- ==== Proof.Merge.lean ====
/-
  The merge, the output projection, the final norm and the loss (kernel `merge_out_final`): one point's block, a row at
  a time.
-/
module

public import proofs.«01_k».proof.Proof.Gen.Kernel11Ideal.Value
public import proofs.«01_k».proof.Proof.MergeRow

@[expose] public section

noncomputable section

namespace Cert.Merge

open Cert.Kernel11Ideal Cert.Kernel11Ideal.Gen Cert.Kernel11Ideal.Value Idealize.ShloMosaic Idealize.ShloMosaic.TcCoe Idealize.ShloMosaic.Pointwise
open Cert.Reals

theorem c1k : Ideal.ofBits .f32 0x3A800000#32 = ((1 / 1024 : ℝ) : EReal) := by
  simp [Ideal.ofBits, Ideal.ieee]
  rw [← EReal.coe_mul, EReal.coe_eq_coe_iff]; norm_num
theorem c2k : Ideal.ofBits .f32 0x3A000000#32 = ((1 / 2048 : ℝ) : EReal) := by
  simp [Ideal.ofBits, Ideal.ieee]
  rw [← EReal.coe_mul, EReal.coe_eq_coe_iff]; norm_num
theorem cHalfPos : Ideal.ofBits .f32 0x3F000000#32 = ((1 / 2 : ℝ) : EReal) := by
  simp [Ideal.ofBits, Ideal.ieee]
  rw [← EReal.coe_mul, EReal.coe_eq_coe_iff]; norm_num

/-- The merge at an element. -/
theorem pay1_at (x0 x1 x2 x3 : Vec Ideal S512x1024 .bf16) (r : Fin 512) (n : Fin 1024) {p y q z : ℝ} (hp : x0 (ix2 r n) = (p : EReal))
    (hy : x1 (ix2 r n) = (y : EReal)) (hq : x2 (ix2 r n) = (q : EReal)) (hz : x3 (ix2 r n) = (z : EReal)) :
    k0_pay1 x0 x1 x2 x3 (ix2 r n) = (mrg p y q z : EReal) := by
  pointwise [k0_pay1]
  simp only [hp, hy, hq, hz, sg_sub, ← EReal.coe_mul, ← EReal.coe_add]
  rfl

/-- The output projection at an element. -/
theorem pay2_at (x0 x1 x2 x3 : Vec Ideal S512x1024 .bf16) (w : Vec Ideal S1024x1024 .bf16) (r : Fin 512) (n : Fin 1024) :
    k0_pay2 x0 x1 x2 x3 w (ix2 r n) = (∑ k : Fin 1024, k0_pay1 x0 x1 x2 x3 (ix2 r k) * w (ix2 k n) : EReal) := by
  pointwise [k0_pay2]

theorem pay3_at (x : Vec Ideal S1x1x1024 .f32) (r : Fin 512) (n : Fin 1024) : k0_pay3 x (ix2 r n) = x (ix3 0 0 n) := by
  pointwise [k0_pay3]

section
variable (x0 x1 x2 : FVec Ideal S512x1024 .f32) (x3 : Vec Ideal S1x1024 .f32) (x4 : Vec Ideal S512x1024 .f32) (x5 : Vec Ideal S1x1x1024 .f32)

/-- Row `r` of the blocks holds these real numbers. -/
structure Holds (r : Fin 512) (R : Row) : Prop where
  o : ∀ n : Fin 1024, x0 (ix2 r n) = (R.o n : EReal)
  x : ∀ n : Fin 1024, x1 (ix2 r n) = (R.x n : EReal)
  u : ∀ n : Fin 1024, x2 (ix2 r n) = (R.u n : EReal)
  g : ∀ n : Fin 1024, x3 (ix2 0 n) = (R.g n : EReal)
  a : ∀ n : Fin 1024, x4 (ix2 r n) = (R.a n : EReal)

variable {x0 x1 x2 x3 x4} {r : Fin 512} {R : Row} (H : Holds x0 x1 x2 x3 x4 r R) (n : Fin 1024)
include H

theorem pay4_real : k0_pay4 x0 x1 x2 (ix2 r n) = (R.h n : EReal) := by
  pointwise [k0_pay4]
  simp only [H.o, H.x, H.u, ← EReal.coe_mul, ← EReal.coe_add]
  rfl
theorem pay5_real : k0_pay5 x0 x1 x2 (ix2 r 0) = (R.s : EReal) := by
  pointwise [k0_pay5]
  simp only [pay4_real H, sum_real, div1024, cEps, ← EReal.coe_mul, ← EReal.coe_add]
  exact rsqrt_real R.v_pos
theorem pay6_real : k0_pay6 x0 x1 x2 (ix2 r n) = (R.nh n : EReal) := by
  pointwise [k0_pay6]
  simp only [pay4_real H, pay5_real H, ← EReal.coe_mul]
  rfl
theorem pay7_real : k0_pay7 x0 x1 x2 x3 x4 (ix2 r n) = (R.er n : EReal) := by
  pointwise [k0_pay7]
  simp only [pay6_real H, H.g, H.a, ← EReal.coe_mul, ← EReal.coe_sub]
  rfl
theorem pay8_real : k0_pay8 x0 x1 x2 x3 x4 (ix2 r n) = (R.dy n : EReal) := by
  pointwise [k0_pay8]
  simp only [pay7_real H, c1k, ← EReal.coe_mul]
  rfl
theorem pay9_real : k0_pay9 x0 x1 x2 x3 x4 x3 (ix2 r n) = (R.dh n : EReal) := by
  pointwise [k0_pay9]
  simp only [pay8_real H, pay6_real H, pay5_real H, H.g, sum_real, div1024, ← EReal.coe_mul, ← EReal.coe_sub]
  rfl
theorem pay10_real (hu : x5 (ix3 0 0 n) = (R.u n : EReal)) : k0_pay10 x0 x1 x2 x3 x4 x3 x5 (ix2 r n) = ((R.dh n * R.u n : ℝ) : EReal) := by
  pointwise [k0_pay10]
  rw [pay9_real H, hu, ← EReal.coe_mul]
end

/-- The points' contributions to the gate's and the scale's gradients and to the loss, added to what is there. -/
theorem pay14_at (x y : FVec Ideal S512x1024 .f32) (p : FVec Ideal S1x1x1024 .f32) (n : Fin 1024) :
    k0_pay14 x y p (ix3 0 0 n) = (p (ix3 0 0 n) + ∑ r : Fin 512, y (ix2 r n) * x (ix2 r n) : EReal) := by
  pointwise [k0_pay14]
theorem pay15_at (x y : FVec Ideal S512x1024 .f32) (p : FVec Ideal S1x1024 .f32) (n : Fin 1024) :
    k0_pay15 x y p (ix2 0 n) = (p (ix2 0 n) + ∑ r : Fin 512, y (ix2 r n) * x (ix2 r n) : EReal) := by
  pointwise [k0_pay15]
theorem pay16_at (x : FVec Ideal S512x1024 .f32) (p : FVec Ideal S8x128 .f32) (i : Fin 8) (l : Fin 128) :
    k0_pay16 x p (ix2 i l) = (p (ix2 i l) + Ideal.ofBits .f32 0x3A000000#32 * ∑ r : Fin 512, ∑ k : Fin 1024, x (ix2 r k) * x (ix2 r k) : EReal) := by
  pointwise [k0_pay16]
theorem pay11_at (n : Fin 1024) : k0_pay11 (F := Ideal) (ix3 0 0 n) = (0 : EReal) := by
  pointwise [k0_pay11]
theorem pay12_at (n : Fin 1024) : k0_pay12 (F := Ideal) (ix2 0 n) = (0 : EReal) := by
  pointwise [k0_pay12]
theorem pay13_at (i : Fin 8) (l : Fin 128) : k0_pay13 (F := Ideal) (ix2 i l) = (0 : EReal) := by
  pointwise [k0_pay13]

end Cert.Merge

end
-- ==== Proof.MergePoints.lean ====
/-
  The merge, the output projection, the final norm and the loss: the points' blocks, and the kernel's results.
-/
module

public import proofs.«01_k».proof.Proof.Merge

@[expose] public section

noncomputable section

namespace Cert.Merge

open Cert.Kernel11Ideal Cert.Kernel11Ideal.Gen Cert.Kernel11Ideal.Value Idealize.ShloMosaic Idealize.ShloMosaic.TcCoe Idealize.ShloMosaic.Pointwise
open Cert.Reals

/-- Row `r` of the point's tile, a token's sequence and position, and the two halves of the gates' columns. -/
def row (t : Fin cfg0.N) (r : Fin 512) : Fin 4096 := ⟨t.val * 512 + r.val, by have := Nat.lt_of_lt_of_eq t.isLt N_0; omega⟩
def tok (b : Fin 2) (l : Fin 2048) : Fin 4096 := ⟨b.val * 2048 + l.val, by omega⟩
def bat (s : Fin 4096) : Fin 2 := ⟨s.val / 2048, by omega⟩
def lo (n : Fin 1024) : Fin 2048 := ⟨n.val, by omega⟩
def hi (n : Fin 1024) : Fin 2048 := ⟨1024 + n.val, by omega⟩

theorem idx : ∀ t : Fin cfg0.N, win0_0.index t = ![t.val, 0] ∧ win0_1.index t = ![t.val, 1] ∧ win0_2.index t = ![t.val, 0]
    ∧ win0_3.index t = ![t.val, 0] ∧ win0_4.index t = ![0, 0] ∧ win0_5.index t = ![t.val, 0] ∧ win0_6.index t = ![t.val / 4, 0, 0]
    ∧ win0_7.index t = ![0, 0] ∧ win0_8.index t = ![t.val, 0] ∧ win0_9.index t = ![t.val, 0] ∧ win0_10.index t = ![t.val, 0]
    ∧ win0_11.index t = ![t.val, 0] ∧ win0_12.index t = ![t.val / 4, 0, 0] ∧ win0_13.index t = ![0, 0] ∧ win0_14.index t = ![0, 0] := by
  decide +kernel

theorem last_inj : ∀ t t' : Fin cfg0.N, t.val % 8 = 7 → t'.val % 8 = 7 → t = t' := by
  decide +kernel

/-- The arguments' real numbers. -/
structure Args where
  p : Fin 4096 → Fin 2048 → ℝ
  y : Fin 4096 → Fin 1024 → ℝ
  z : Fin 4096 → Fin 1024 → ℝ
  w : Fin 1024 → Fin 1024 → ℝ
  x : Fin 4096 → Fin 1024 → ℝ
  u : Fin 2 → Fin 1024 → ℝ
  g : Fin 1024 → ℝ
  a : Fin 4096 → Fin 1024 → ℝ

/-- The merge, and a token's row. -/
def Args.m (A : Args) (s : Fin 4096) (n : Fin 1024) : ℝ := mrg (A.p s (lo n)) (A.y s n) (A.p s (hi n)) (A.z s n)
def Args.at (A : Args) (s : Fin 4096) : Row := ⟨A.x s, fun n => ∑ k, A.m s k * A.w k n, A.u (bat s), A.g, A.a s⟩

/-- The arguments hold these real numbers. -/
structure Real (x0 : S4096x2048.Idx → EReal) (x1 x2 : S4096x1024.Idx → EReal) (x3 : S1024x1024.Idx → EReal) (x4 : S4096x1024.Idx → EReal)
    (x5 : S2x1x1024.Idx → EReal) (x6 : S1x1024.Idx → EReal) (x7 : S4096x1024.Idx → EReal) (A : Args) : Prop where
  p : ∀ s n, x0 (ix2 s n) = (A.p s n : EReal)
  y : ∀ s n, x1 (ix2 s n) = (A.y s n : EReal)
  z : ∀ s n, x2 (ix2 s n) = (A.z s n : EReal)
  w : ∀ k n, x3 (ix2 k n) = (A.w k n : EReal)
  x : ∀ s n, x4 (ix2 s n) = (A.x s n : EReal)
  u : ∀ b n, x5 (ix3 b 0 n) = (A.u b n : EReal)
  g : ∀ n, x6 (ix2 0 n) = (A.g n : EReal)
  a : ∀ s n, x7 (ix2 s n) = (A.a s n : EReal)

variable (m : (ℓ : Loc nD τ sig) → Buf (Elt Ideal) ℓ) (c : Dev nD) (t : Fin cfg0.N) (r : Fin 512) (n k : Fin 1024)

theorem bat_row : (bat (row t r)).val = t.val / 4 := by
  have := r.isLt
  show (t.val * 512 + r.val) / 2048 = _; omega

theorem iblk0 : iblk m c 0 t (ix2 r n) = m ((c : Thread nD τ).loc main_arg0) (ix2 (row t r) (lo n)) := by
  have e : (row t r).val = t.val * 512 + r.val := rfl
  have e' : (lo n).val = n.val := rfl
  blk_ext [iblk, V_main_arg0, idx t]
theorem iblk1 : iblk m c 1 t (ix2 r n) = m ((c : Thread nD τ).loc main_arg0) (ix2 (row t r) (hi n)) := by
  have e : (row t r).val = t.val * 512 + r.val := rfl
  have e' : (hi n).val = 1024 + n.val := rfl
  blk_ext [iblk, V_main_arg0, idx t]
theorem iblk2 : iblk m c 2 t (ix2 r n) = m ((c : Thread nD τ).loc main_arg1) (ix2 (row t r) n) := by
  have e : (row t r).val = t.val * 512 + r.val := rfl
  blk_ext [iblk, V_main_arg1, idx t]
theorem iblk3 : iblk m c 3 t (ix2 r n) = m ((c : Thread nD τ).loc main_arg2) (ix2 (row t r) n) := by
  have e : (row t r).val = t.val * 512 + r.val := rfl
  blk_ext [iblk, V_main_arg2, idx t]
theorem iblk4 : iblk m c 4 t (ix2 k n) = m ((c : Thread nD τ).loc main_arg3) (ix2 k n) := by
  blk_ext [iblk, V_main_arg3, idx t]
theorem iblk5 : iblk m c 5 t (ix2 r n) = m ((c : Thread nD τ).loc main_arg4) (ix2 (row t r) n) := by
  have e : (row t r).val = t.val * 512 + r.val := rfl
  blk_ext [iblk, V_main_arg4, idx t]
theorem iblk6 : iblk m c 6 t (ix3 0 0 n) = m ((c : Thread nD τ).loc main_arg5) (ix3 (bat (row t r)) 0 n) := by
  have e := bat_row t r
  blk_ext [iblk, V_main_arg5, idx t]
theorem iblk7 : iblk m c 7 t (ix2 0 n) = m ((c : Thread nD τ).loc main_arg6) (ix2 0 n) := by
  blk_ext [iblk, V_main_arg6, idx t]
theorem iblk8 : iblk m c 8 t (ix2 r n) = m ((c : Thread nD τ).loc main_arg7) (ix2 (row t r) n) := by
  have e : (row t r).val = t.val * 512 + r.val := rfl
  blk_ext [iblk, V_main_arg7, idx t]

theorem read9 (X : Vec Ideal S4096x1024 .bf16) : ((cfg0.win 9).blk t).view.read (Elt Ideal) X (ix2 r n) = X (ix2 (row t r) n) := by
  have e : (row t r).val = t.val * 512 + r.val := rfl
  blk_ext [idx t]
theorem read10 (X : Vec Ideal S4096x1024 .f32) : ((cfg0.win 10).blk t).view.read (Elt Ideal) X (ix2 r n) = X (ix2 (row t r) n) := by
  have e : (row t r).val = t.val * 512 + r.val := rfl
  blk_ext [idx t]
theorem read11 (X : Vec Ideal S4096x1024 .bf16) : ((cfg0.win 11).blk t).view.read (Elt Ideal) X (ix2 r n) = X (ix2 (row t r) n) := by
  have e : (row t r).val = t.val * 512 + r.val := rfl
  blk_ext [idx t]
theorem read12 (b : Fin 2) (hb : t.val / 4 = b.val) (X : Vec Ideal S2x1x1024 .f32) :
    ((cfg0.win 12).blk t).view.read (Elt Ideal) X (ix3 0 0 n) = X (ix3 b 0 n) := by
  blk_ext [idx t]
theorem read13 (X : Vec Ideal S1x1024 .f32) : ((cfg0.win 13).blk t).view.read (Elt Ideal) X (ix2 0 n) = X (ix2 0 n) := by
  blk_ext [idx t]
theorem read14 (i : Fin 8) (l : Fin 128) (X : Vec Ideal S8x128 .f32) : ((cfg0.win 14).blk t).view.read (Elt Ideal) X (ix2 i l) = X (ix2 i l) := by
  blk_ext [idx t]

abbrev argP : S4096x2048.Idx → EReal := m ((c : Thread nD τ).loc main_arg0)
abbrev argY : S4096x1024.Idx → EReal := m ((c : Thread nD τ).loc main_arg1)
abbrev argZ : S4096x1024.Idx → EReal := m ((c : Thread nD τ).loc main_arg2)
abbrev argW : S1024x1024.Idx → EReal := m ((c : Thread nD τ).loc main_arg3)
abbrev argX : S4096x1024.Idx → EReal := m ((c : Thread nD τ).loc main_arg4)
abbrev argU : S2x1x1024.Idx → EReal := m ((c : Thread nD τ).loc main_arg5)
abbrev argG : S1x1024.Idx → EReal := m ((c : Thread nD τ).loc main_arg6)
abbrev argT : S4096x1024.Idx → EReal := m ((c : Thread nD τ).loc main_arg7)
/-- The kernel's results after all points: the merge, the gradients of the row, of the projection, of its gate and of the
    norm's scale, and the loss. -/
abbrev resultM : Vec Ideal S4096x1024 .bf16 := (dats m 0 c).arrAt 9 cfg0.N
abbrev resultH : Vec Ideal S4096x1024 .f32 := (dats m 0 c).arrAt 10 cfg0.N
abbrev resultO : Vec Ideal S4096x1024 .bf16 := (dats m 0 c).arrAt 11 cfg0.N
abbrev resultU : Vec Ideal S2x1x1024 .f32 := (dats m 0 c).arrAt 12 cfg0.N
abbrev resultG : Vec Ideal S1x1024 .f32 := (dats m 0 c).arrAt 13 cfg0.N
abbrev resultL : Vec Ideal S8x128 .f32 := (dats m 0 c).arrAt 14 cfg0.N

/-- The tokens of the eight points are all the tokens, -/
theorem tokens (f : Fin 4096 → EReal) (h : t.val % 8 = 8 - 1) :
    (∑ s : Fin 8, ∑ r : Fin 512, f (row ⟨8 * (t.val / 8) + s.val, Pipeline.run_point_lt_of_flush t h s⟩ r)) = ∑ s : Fin 4096, f s := by
  have hN : cfg0.N = 8 := N_0
  refine Fin.sum_mul_add_congr fun s r hl => congrArg f (Fin.ext ?_)
  show (8 * (t.val / 8) + s.val) * 512 + r.val = s.val * 512 + r.val
  have := t.isLt
  omega
/-- and those of four are a sequence's. -/
theorem tokens_of (b : Fin 2) (hb : t.val / 4 = b.val) (f : Fin 4096 → EReal) (h : t.val % 4 = 4 - 1) :
    (∑ s : Fin 4, ∑ r : Fin 512, f (row ⟨4 * (t.val / 4) + s.val, Pipeline.run_point_lt_of_flush t h s⟩ r)) = ∑ l : Fin 2048, f (tok b l) := by
  refine Fin.sum_mul_add_congr fun s r hl => congrArg f (Fin.ext ?_)
  show (4 * (t.val / 4) + s.val) * 512 + r.val = b.val * 2048 + (s.val * 512 + r.val)
  omega

/-- Every row is one of a point's. -/
theorem row_of (s : Fin 4096) : ∃ t r, row t r = s := by
  have hN : cfg0.N = 8 := N_0
  exact ⟨⟨s.val / 512, by omega⟩, ⟨s.val % 512, Nat.mod_lt _ (by decide)⟩, Fin.ext (by show s.val / 512 * 512 + s.val % 512 = _; omega)⟩
/-- The last point, and a sequence's last. -/
def last : Fin cfg0.N := ⟨7, by have : cfg0.N = 8 := N_0; omega⟩
def end_ (b : Fin 2) : Fin cfg0.N := ⟨b.val * 4 + 3, by have : cfg0.N = 8 := N_0; omega⟩

theorem end_disj : ∀ t t' : Fin cfg0.N, t.val % 4 = 3 → t'.val % 4 = 3 → t ≠ t' → win0_12.index t ≠ win0_12.index t' := by
  decide +kernel

variable {A : Args} (H : Real (argP m c) (argY m c) (argZ m c) (argW m c) (argX m c) (argU m c) (argG m c) (argT m c) A)
include H

theorem merge : k0_pay1 (iblk m c 0 t) (iblk m c 2 t) (iblk m c 1 t) (iblk m c 3 t) (ix2 r n) = (A.m (row t r) n : EReal) :=
  pay1_at _ _ _ _ r n ((iblk0 m c t r n).trans (H.p _ _)) ((iblk2 m c t r n).trans (H.y _ _)) ((iblk1 m c t r n).trans (H.p _ _))
    ((iblk3 m c t r n).trans (H.z _ _))

/-- The rows a point sees. -/
theorem holds : Holds (k0_pay2 (iblk m c 0 t) (iblk m c 2 t) (iblk m c 1 t) (iblk m c 3 t) (iblk m c 4 t)) (iblk m c 5 t) (k0_pay3 (iblk m c 6 t))
    (iblk m c 7 t) (iblk m c 8 t) r (A.at (row t r)) where
  o n := by
    rw [pay2_at]
    refine (Finset.sum_congr rfl fun k _ => ?_).trans (sum_real Finset.univ fun k => A.m (row t r) k * A.w k n)
    rw [EReal.coe_mul, merge m c t r k H, iblk4]
    exact congrArg _ (H.w _ _)
  x n := (iblk5 m c t r n).trans (H.x _ _)
  u n := (pay3_at _ r n).trans ((iblk6 m c t r n).trans (H.u _ _))
  g n := (iblk7 m c t n).trans (H.g n)
  a n := (iblk8 m c t r n).trans (H.a _ _)

theorem out9 : (outsAt0 m c t.val t.isLt).1 (ix2 r n) = (A.m (row t r) n : EReal) := by
  by_cases h : t.val % 4 = 0
  · by_cases h' : t.val % 8 = 0
    · rw [outsAt0_A m c t h h']; frame_out
      exact merge m c t r n H
    · rw [outsAt0_C m c t h h']; frame_out
      exact merge m c t r n H
  · rw [outsAt0_B m c t h (by omega)]; frame_out
    exact merge m c t r n H

theorem out10 : (outsAt0 m c t.val t.isLt).2.1 (ix2 r n) = ((A.at (row t r)).dh n : EReal) := by
  by_cases h : t.val % 4 = 0
  · by_cases h' : t.val % 8 = 0
    · rw [outsAt0_A m c t h h']; frame_out
      exact pay9_real (holds m c t r H) n
    · rw [outsAt0_C m c t h h']; frame_out
      exact pay9_real (holds m c t r H) n
  · rw [outsAt0_B m c t h (by omega)]; frame_out
    exact pay9_real (holds m c t r H) n

theorem out11 : (outsAt0 m c t.val t.isLt).2.2.1 (ix2 r n) = (((A.at (row t r)).dh n * (A.at (row t r)).u n : ℝ) : EReal) := by
  by_cases h : t.val % 4 = 0
  · by_cases h' : t.val % 8 = 0
    · rw [outsAt0_A m c t h h']; frame_out
      exact pay10_real (iblk m c 6 t) (holds m c t r H) n ((iblk6 m c t r n).trans (H.u _ _))
    · rw [outsAt0_C m c t h h']; frame_out
      exact pay10_real (iblk m c 6 t) (holds m c t r H) n ((iblk6 m c t r n).trans (H.u _ _))
  · rw [outsAt0_B m c t h (by omega)]; frame_out
    exact pay10_real (iblk m c 6 t) (holds m c t r H) n ((iblk6 m c t r n).trans (H.u _ _))

theorem out12 (b : Fin 2) (hb : t.val / 4 = b.val) (h : t.val % 4 = 3) :
    (outsAt0 m c t.val t.isLt).2.2.2.1 (ix3 0 0 n) = ∑ l, ((A.at (tok b l)).dh n : EReal) * ((A.at (tok b l)).o n : EReal) := by
  rw [← tokens_of t b hb (fun s => ((A.at s).dh n : EReal) * ((A.at s).o n : EReal)) h]
  refine (Pipeline.eq_sum_fin_of_reset_step_apply_of_flush (fun n h => (fun i : Fin 1024 => (outsAt0 m c n h).2.2.2.1 (ix3 0 0 i))) 4 (fun _ => (0 : EReal))
    (fun t i => ∑ r : Fin 512, ((A.at (row t r)).dh i : EReal) * ((A.at (row t r)).o i : EReal)) (fun t h i => ?_) (fun t h i => ?_) t h n).trans (zero_add _)
  · by_cases h' : t.val % 8 = 0
    · rw [outsAt0_A m c t h h']; frame_out
      rw [pay14_at, pay11_at]
      exact congrArg _ (Finset.sum_congr rfl fun r _ => congrArg₂ _ (pay9_real (holds m c t r H) i) ((holds m c t r H).o i))
    · rw [outsAt0_C m c t h h']; frame_out
      rw [pay14_at, pay11_at]
      exact congrArg _ (Finset.sum_congr rfl fun r _ => congrArg₂ _ (pay9_real (holds m c t r H) i) ((holds m c t r H).o i))
  · rw [outsAt0_B m c t h (by omega)]; frame_out
    rw [pay14_at]
    exact congrArg _ (Finset.sum_congr rfl fun r _ => congrArg₂ _ (pay9_real (holds m c t r H) i) ((holds m c t r H).o i))

theorem out13 (h : t.val % 8 = 7) : (outsAt0 m c t.val t.isLt).2.2.2.2.1 (ix2 0 n) = ∑ s, ((A.at s).dy n : EReal) * ((A.at s).nh n : EReal) := by
  rw [← tokens t (fun s => ((A.at s).dy n : EReal) * ((A.at s).nh n : EReal)) h]
  refine (Pipeline.eq_sum_fin_of_reset_step_apply_of_flush (fun n h => (fun i : Fin 1024 => (outsAt0 m c n h).2.2.2.2.1 (ix2 0 i))) 8 (fun _ => (0 : EReal))
    (fun t i => ∑ r : Fin 512, ((A.at (row t r)).dy i : EReal) * ((A.at (row t r)).nh i : EReal)) (fun t h i => ?_) (fun t h i => ?_) t h n).trans (zero_add _)
  · rw [outsAt0_A m c t (by omega) h]; frame_out
    rw [pay15_at, pay12_at]
    exact congrArg _ (Finset.sum_congr rfl fun r _ => congrArg₂ _ (pay8_real (holds m c t r H) i) (pay6_real (holds m c t r H) i))
  · by_cases h' : t.val % 4 = 0
    · rw [outsAt0_C m c t h' h]; frame_out
      rw [pay15_at]
      exact congrArg _ (Finset.sum_congr rfl fun r _ => congrArg₂ _ (pay8_real (holds m c t r H) i) (pay6_real (holds m c t r H) i))
    · rw [outsAt0_B m c t h' h]; frame_out
      rw [pay15_at]
      exact congrArg _ (Finset.sum_congr rfl fun r _ => congrArg₂ _ (pay8_real (holds m c t r H) i) (pay6_real (holds m c t r H) i))

/-- A tile's part of the loss. -/
theorem tile_loss : Ideal.ofBits .f32 0x3A000000#32 * (∑ r : Fin 512, ∑ k : Fin 1024,
      k0_pay7 (k0_pay2 (iblk m c 0 t) (iblk m c 2 t) (iblk m c 1 t) (iblk m c 3 t) (iblk m c 4 t)) (iblk m c 5 t) (k0_pay3 (iblk m c 6 t)) (iblk m c 7 t)
        (iblk m c 8 t) (ix2 r k)
      * k0_pay7 (k0_pay2 (iblk m c 0 t) (iblk m c 2 t) (iblk m c 1 t) (iblk m c 3 t) (iblk m c 4 t)) (iblk m c 5 t) (k0_pay3 (iblk m c 6 t)) (iblk m c 7 t)
        (iblk m c 8 t) (ix2 r k) : EReal)
    = ∑ r : Fin 512, ((A.at (row t r)).loss : EReal) := by
  have e : ∀ r k, k0_pay7 (k0_pay2 (iblk m c 0 t) (iblk m c 2 t) (iblk m c 1 t) (iblk m c 3 t) (iblk m c 4 t)) (iblk m c 5 t) (k0_pay3 (iblk m c 6 t))
      (iblk m c 7 t) (iblk m c 8 t) (ix2 r k) = ((A.at (row t r)).er k : EReal) := fun r k => pay7_real (holds m c t r H) k
  simp only [e, c2k, ← EReal.coe_mul, sum_real]
  exact congrArg _ (Finset.mul_sum _ _ _)

theorem out14 (i : Fin 8) (l : Fin 128) (h : t.val % 8 = 7) : (outsAt0 m c t.val t.isLt).2.2.2.2.2 (ix2 i l) = ∑ s, ((A.at s).loss : EReal) := by
  rw [← tokens t (fun s => ((A.at s).loss : EReal)) h]
  refine (Pipeline.eq_sum_fin_of_reset_step_apply_of_flush (fun n h => (fun _ : Unit => (outsAt0 m c n h).2.2.2.2.2 (ix2 i l))) 8 (fun _ => (0 : EReal))
    (fun t _ => ∑ r : Fin 512, ((A.at (row t r)).loss : EReal)) (fun t h _ => ?_) (fun t h _ => ?_) t h ()).trans (zero_add _)
  · rw [outsAt0_A m c t (by omega) h]; frame_out
    rw [pay16_at, pay13_at]
    exact congrArg _ (tile_loss m c t H)
  · by_cases h' : t.val % 4 = 0
    · rw [outsAt0_C m c t h' h]; frame_out
      rw [pay16_at]
      exact congrArg _ (tile_loss m c t H)
    · rw [outsAt0_B m c t h' h]; frame_out
      rw [pay16_at]
      exact congrArg _ (tile_loss m c t H)

/-! ## The results -/

theorem resultM_at (s : Fin 4096) : resultM m c (ix2 s n) = (A.m s n : EReal) := by
  obtain ⟨t, r, rfl⟩ := row_of s
  refine (read9 t r n (resultM m c)).symm.trans ((congrFun (blocks9 m c t (flush0_9 t)) _).trans ?_)
  rw [flushed9]
  exact out9 m c t r n H
theorem resultH_at (s : Fin 4096) : resultH m c (ix2 s n) = ((A.at s).dh n : EReal) := by
  obtain ⟨t, r, rfl⟩ := row_of s
  refine (read10 t r n (resultH m c)).symm.trans ((congrFun (blocks10 m c t (flush0_10 t)) _).trans ?_)
  rw [flushed10]
  exact out10 m c t r n H
theorem resultO_at (s : Fin 4096) : resultO m c (ix2 s n) = (((A.at s).dh n * (A.at s).u n : ℝ) : EReal) := by
  obtain ⟨t, r, rfl⟩ := row_of s
  refine (read11 t r n (resultO m c)).symm.trans ((congrFun (blocks11 m c t (flush0_11 t)) _).trans ?_)
  rw [flushed11]
  exact out11 m c t r n H
theorem resultU_at (b : Fin 2) : resultU m c (ix3 b 0 n) = ∑ l, ((A.at (tok b l)).dh n : EReal) * ((A.at (tok b l)).o n : EReal) := by
  have hb : (end_ b).val / 4 = b.val := by show (b.val * 4 + 3) / 4 = _; omega
  have hm : (end_ b).val % 4 = 3 := by show (b.val * 4 + 3) % 4 = _; omega
  refine (read12 (end_ b) n b hb (resultU m c)).symm.trans ((congrFun ((dats m 0 c).read_blk_arrAt_eq_flushed 12
    (fun t t' h h' hne => (cfg0.win 12).disjoint_blk (end_disj t t' ((flush0_12 t).mp h) ((flush0_12 t').mp h') hne)) cfg0.N (end_ b) (end_ b).isLt
      ((flush0_12 _).mpr hm)) _).trans ?_)
  rw [flushed12]
  exact out12 m c (end_ b) n H b hb hm
theorem resultG_at : resultG m c (ix2 0 n) = ∑ s, ((A.at s).dy n : EReal) * ((A.at s).nh n : EReal) := by
  refine (read13 last n (resultG m c)).symm.trans ((congrFun ((dats m 0 c).read_blk_arrAt_eq_flushed 13
    (fun t t' h h' hne => absurd (last_inj t t' ((flush0_13 t).mp h) ((flush0_13 t').mp h')) hne) cfg0.N last last.isLt ((flush0_13 last).mpr rfl)) _).trans ?_)
  rw [flushed13]
  exact out13 m c last n H rfl
theorem resultL_at (i : Fin 8) (l : Fin 128) : resultL m c (ix2 i l) = ∑ s, ((A.at s).loss : EReal) := by
  refine (read14 last i l (resultL m c)).symm.trans ((congrFun ((dats m 0 c).read_blk_arrAt_eq_flushed 14
    (fun t t' h h' hne => absurd (last_inj t t' ((flush0_14 t).mp h) ((flush0_14 t').mp h')) hne) cfg0.N last last.isLt ((flush0_14 last).mpr rfl)) _).trans ?_)
  rw [flushed14]
  exact out14 m c last H i l rfl

end Cert.Merge

end
-- ==== Proof.MergeRef.lean ====
/-
  The merge, the output projection, the final norm and the loss: what the reference computes where the arguments are
  real numbers, and the equations.
-/
module

public import proofs.«01_k».proof.Proof.Gen.Reference11Ideal.Read
public import proofs.«01_k».proof.Proof.MergePoints
public import proofs.«01_k».proof.Proof.HeadRef

@[expose] public section

noncomputable section

namespace Cert.Merge

open Idealize.ShloMosaic Idealize.ShloMosaic.TcCoe Idealize.ShloMosaic.Pointwise
open Cert.Reference11Ideal Cert.Reference11Ideal.Read Cert.Reals
open Cert.HeadNorm (reduce_two)

/-- A host sum over all of a matrix. -/
theorem reduce_all {n0 n1 : Nat} (h : (⟨2, ![n0, n1]⟩ : Shape).ReducesTo [0, 1] ⟨0, ![]⟩) (v : (⟨2, ![n0, n1]⟩ : Shape).Idx → EReal) (init : EReal)
    (k : (⟨0, ![]⟩ : Shape).Idx) : Ideal.hostReduceAdd h v init k = init + ∑ a, ∑ b, v (ix2 a b) := by
  refine congrArg (init + ·) ((Finset.sum_filter_eq_sum_of_fiber _ (fun p : Fin n0 × Fin n1 => ix2 p.1 p.2) ?_ ?_ v).trans (Fintype.sum_prod_type _))
  · intro p q e
    exact Prod.ext (congrFun e 0) (congrFun e 1)
  · intro i
    constructor
    · intro e
      refine ⟨(i 0, i 1), ?_⟩
      funext a
      apply Fin.ext
      match a with
      | ⟨0, _⟩ => rfl
      | ⟨1, _⟩ => rfl
    · intro e
      funext a
      exact a.elim0

/-- The sums over the tokens, a sequence at a time. -/
theorem sum_tok (f : Fin 4096 → EReal) : ∑ b : Fin 2, ∑ l : Fin 2048, f (tok b l) = ∑ s, f s :=
  Fin.sum_mul_add_congr fun _ _ _ => rfl
theorem bat_tok (b : Fin 2) (l : Fin 2048) : bat (tok b l) = b := Fin.ext (by show (b.val * 2048 + l.val) / 2048 = b.val; omega)
/-- Every token is a sequence's. -/
theorem tok_of (s : Fin 4096) : ∃ b l, tok b l = s :=
  ⟨⟨s.val / 2048, by omega⟩, ⟨s.val % 2048, Nat.mod_lt _ (by decide)⟩, Fin.ext (by show s.val / 2048 * 2048 + s.val % 2048 = s.val; omega)⟩

variable (b : Fin 2) (l : Fin 2048) (s : Fin 4096) (n : Fin 1024)

theorem idx_v1 : idx_main_v1 (ix2 s n) = ix2 s (lo n) := by
  funext a; fin_cases a <;> rfl
theorem idx_v2 : idx_main_v2 (ix2 s n) = ix2 s (hi n) := by
  funext a; fin_cases a <;> rfl
theorem idx_v24 : idx_main_v24 (ix3 b l n) = ix2 (tok b l) n := by
  funext a
  have := n.isLt
  apply Fin.ext
  match a with
  | ⟨0, _⟩ => show ((b.val * 2048 + l.val) * 1024 + n.val) / 1024 = b.val * 2048 + l.val; omega
  | ⟨1, _⟩ => show ((b.val * 2048 + l.val) * 1024 + n.val) % 1024 = n.val; omega
theorem idx_v25 : idx_main_v25 (ix3 b l n) = ix2 (tok b l) n := idx_v24 b l n
theorem idx_v45 : idx_main_v45 (ix3 b l n) = ix2 (tok b l) n := idx_v24 b l n
theorem idx_v87 : idx_main_v87 (ix2 (tok b l) n) = ix3 b l n := by
  funext a
  have := b.isLt
  have := l.isLt
  have := n.isLt
  apply Fin.ext
  match a with
  | ⟨0, _⟩ => show ((b.val * 2048 + l.val) * 1024 + n.val) / 2097152 = b.val; omega
  | ⟨1, _⟩ => show ((b.val * 2048 + l.val) * 1024 + n.val) / 1024 % 2048 = l.val; omega
  | ⟨2, _⟩ => show ((b.val * 2048 + l.val) * 1024 + n.val) % 1024 = n.val; omega
theorem idx_v88 : idx_main_v88 (ix2 (tok b l) n) = ix3 b l n := idx_v87 b l n

section
variable {x0 : S4096x2048.Idx → EReal} {x1 x2 : S4096x1024.Idx → EReal} {x3 : S1024x1024.Idx → EReal} {x4 : S4096x1024.Idx → EReal}
  {x5 : S2x1x1024.Idx → EReal} {x6 : S1x1024.Idx → EReal} {x7 : S4096x1024.Idx → EReal} {A : Args} (H : Real x0 x1 x2 x3 x4 x5 x6 x7 A)
include H

theorem v8_real : val_main_v8 (F := Ideal) x0 (ix2 s n) = (sg (A.p s (lo n)) : EReal) := by
  pointwise [val_main_v8, val_main_v7, val_main_v6, val_main_v5, val_main_v4, val_main_v3, val_main_cst, val_main_cst_0]
  rw [val_main_v1_apply, idx_v1]
  pointwise [val_main_v0]
  rw [H.p, sg_neg]
theorem v16_real : val_main_v16 (F := Ideal) x0 (ix2 s n) = (sg (A.p s (hi n)) : EReal) := by
  pointwise [val_main_v16, val_main_v15, val_main_v14, val_main_v13, val_main_v12, val_main_v11, val_main_cst_1, val_main_cst_2]
  rw [val_main_v2_apply, idx_v2]
  pointwise [val_main_v0]
  rw [H.p, sg_neg]
theorem v20_real : val_main_v20 (F := Ideal) x0 x1 x2 (ix2 s n) = (A.m s n : EReal) := by
  pointwise [val_main_v20, val_main_v19, val_main_v18, val_main_v17, val_main_v10, val_main_v9]
  rw [v8_real _ _ H, v16_real _ _ H, H.y, H.z, ← EReal.coe_mul, ← EReal.coe_mul, ← EReal.coe_add]
  rfl
theorem v23_real : val_main_v23 (F := Ideal) x0 x1 x2 x3 (ix2 s n) = ((A.at s).o n : EReal) := by
  pointwise [val_main_v23, val_main_v22, val_main_v21]
  simp only [v20_real _ _ H, H.w, ← EReal.coe_mul, sum_real]
  rfl
theorem v25_real : val_main_v25 (F := Ideal) x0 x1 x2 x3 (ix3 b l n) = ((A.at (tok b l)).o n : EReal) := by
  rw [val_main_v25_apply, idx_v25, v23_real _ _ H]
theorem v28_real : val_main_v28 (F := Ideal) x0 x1 x2 x3 x4 x5 (ix3 b l n) = ((A.at (tok b l)).h n : EReal) := by
  pointwise [val_main_v28, val_main_v27, val_main_v26]
  rw [v25_real _ _ _ H, val_main_v24_apply, idx_v24, H.x, H.u, ← EReal.coe_mul, ← EReal.coe_add]
  unfold Row.h Args.at
  rw [bat_tok]
theorem v35_real : val_main_v35 (F := Ideal) x0 x1 x2 x3 x4 x5 (ix3 b l 0) = ((A.at (tok b l)).v : EReal) := by
  pointwise [val_main_v35, val_main_v34, val_main_v33, val_main_v32, val_main_v31, val_main_v30, val_main_v29, val_main_cst_3, val_main_cst_4, val_main_cst_5]
  simp only [v28_real _ _ _ H, cEps, ← EReal.coe_mul, sum_real, div1024, ← EReal.coe_add]
  rfl
theorem v36_real : val_main_v36 (F := Ideal) x0 x1 x2 x3 x4 x5 (ix3 b l 0) = ((A.at (tok b l)).s : EReal) := by
  pointwise [val_main_v36]
  rw [v35_real _ _ H]
  exact rsqrt_real (A.at (tok b l)).v_pos
theorem v39_real : val_main_v39 (F := Ideal) x0 x1 x2 x3 x4 x5 (ix3 b l 0) = ((-(1 / 2) * ((A.at (tok b l)).s / (A.at (tok b l)).v) : ℝ) : EReal) := by
  pointwise [val_main_v39, val_main_v38, val_main_v37, val_main_cst_6]
  rw [v35_real _ _ H, v36_real _ _ H, cHalf, div_real _ (A.at (tok b l)).v_ne, EReal.coe_mul]
theorem v41_real : val_main_v41 (F := Ideal) x0 x1 x2 x3 x4 x5 (ix3 b l n) = ((A.at (tok b l)).nh n : EReal) := by
  pointwise [val_main_v41, val_main_v40]
  rw [v28_real _ _ _ H, v36_real _ _ H, ← EReal.coe_mul]
  rfl
theorem v46_real : val_main_v46 (F := Ideal) x0 x1 x2 x3 x4 x5 x6 x7 (ix3 b l n) = ((A.at (tok b l)).er n : EReal) := by
  pointwise [val_main_v46, val_main_v44, val_main_v43, val_main_v42]
  rw [v41_real _ _ _ H, val_main_v45_apply, idx_v45, H.g, H.a, ← EReal.coe_mul, ← EReal.coe_sub]
  rfl
theorem v52_real : val_main_v52 (F := Ideal) x0 x1 x2 x3 x4 x5 x6 x7 (ix2 b l)
    = (((∑ k, (A.at (tok b l)).er k * (A.at (tok b l)).er k) / 1024 : ℝ) : EReal) := by
  pointwise [val_main_v52, val_main_v51, val_main_v50, val_main_v47, val_main_cst_8, val_main_cst_9]
  simp only [v46_real _ _ _ H, ← EReal.coe_mul, sum_real, div1024]
theorem v54_real (j : S_.Idx) : val_main_v54 (F := Ideal) x0 x1 x2 x3 x4 x5 x6 x7 j = ∑ s, ((A.at s).loss : EReal) := by
  rw [← sum_tok fun s => ((A.at s).loss : EReal)]
  pointwise [val_main_v54, val_main_cst_11]
  unfold val_main_v53
  rw [Host.reduceAdd_apply, Ideal.hostReduceAdd_def, reduce_all]
  pointwise [val_main_cst_10]
  simp only [v52_real _ _ H, sum_real, cHalfPos, ← EReal.coe_mul, Finset.mul_sum]
  refine congrArg _ (Finset.sum_congr rfl fun b _ => Finset.sum_congr rfl fun l _ => ?_)
  unfold Row.loss
  ring
theorem v60_real : val_main_v60 (F := Ideal) x0 x1 x2 x3 x4 x5 x6 x7 (ix3 b l n) = ((A.at (tok b l)).ry n : EReal) := by
  pointwise [val_main_v60, val_main_v59, val_main_v58, val_main_v57, val_main_v56, val_main_v55, val_main_v49, val_main_v48, val_main_cst_7, val_main_cst_12,
    val_main_cst_13, val_main_cst_14]
  simp only [v46_real _ _ _ H, c2, cHalfPos]
  simp only [← EReal.coe_one, ← EReal.coe_mul, div1024]
  refine congrArg _ ?_
  unfold Row.ry
  ring
theorem v65_real : val_main_v65 (F := Ideal) x0 x1 x2 x3 x4 x5 x6 x7 (ix3 b l n) = ((A.at (tok b l)).rt n : EReal) := by
  pointwise [val_main_v65, val_main_v64, val_main_v42]
  rw [v60_real _ _ _ H, H.g, ← EReal.coe_mul]
  rfl
theorem v75_real : val_main_v75 (F := Ideal) x0 x1 x2 x3 x4 x5 x6 x7 (ix3 b l 0) = ((A.at (tok b l)).q : EReal) := by
  have e : idx_main_v70 (ix3 b l 0) = ix2 b l := by
    funext a
    have := l.isLt
    apply Fin.ext
    match a with
    | ⟨0, _⟩ => show ((b.val * 2048 + l.val) * 1 + 0) / 2048 = b.val; omega
    | ⟨1, _⟩ => show ((b.val * 2048 + l.val) * 1 + 0) % 2048 = l.val; omega
  pointwise [val_main_v75, val_main_v74, val_main_v73, val_main_cst_18]
  rw [val_main_v70_apply, e]
  pointwise [val_main_v69, val_main_v68, val_main_cst_17]
  simp only [v28_real _ _ _ H, v65_real _ _ _ H, v39_real _ _ H, ← EReal.coe_mul, sum_real, div1024]
  rfl
theorem v81_real : val_main_v81 (F := Ideal) x0 x1 x2 x3 x4 x5 x6 x7 (ix3 b l n) = ((A.at (tok b l)).rh n : EReal) := by
  pointwise [val_main_v81, val_main_v80, val_main_v79, val_main_v78, val_main_v77, val_main_v76, val_main_v72, val_main_v71, val_main_cst_19]
  simp only [Fin.sum_univ_one, v28_real _ _ _ H, v65_real _ _ _ H, v75_real _ _ H, v36_real _ _ H, ← EReal.coe_mul, ← EReal.coe_add]
  rfl
theorem v88_real : val_main_v88 (F := Ideal) x0 x1 x2 x3 x4 x5 x6 x7 (ix2 (tok b l) n) = ((A.at (tok b l)).rh n : EReal) := by
  rw [val_main_v88_apply, idx_v88, v81_real _ _ _ H]
theorem v89_real : val_main_v89 (F := Ideal) x0 x1 x2 x3 x4 x5 x6 x7 (ix2 (tok b l) n)
    = (((A.at (tok b l)).u n * (A.at (tok b l)).rh n : ℝ) : EReal) := by
  pointwise [val_main_v89]
  rw [val_main_v87_apply, idx_v87]
  pointwise [val_main_v83, val_main_v82]
  rw [v81_real _ _ _ H, H.u, ← EReal.coe_mul]
  unfold Args.at
  rw [bat_tok]
theorem v86_real : val_main_v86 (F := Ideal) x0 x1 x2 x3 x4 x5 x6 x7 (ix3 b 0 n)
    = ∑ l, ((A.at (tok b l)).rh n : EReal) * ((A.at (tok b l)).o n : EReal) := by
  have e : idx_main_v86 (ix3 b 0 n) = ix2 b n := by
    funext a
    have := n.isLt
    apply Fin.ext
    match a with
    | ⟨0, _⟩ => show ((b.val * 1 + 0) * 1024 + n.val) / 1024 = b.val; omega
    | ⟨1, _⟩ => show ((b.val * 1 + 0) * 1024 + n.val) % 1024 = n.val; omega
  rw [val_main_v86_apply, e]
  pointwise [val_main_v85, val_main_v84, val_main_cst_20]
  simp only [v81_real _ _ _ H, v25_real _ _ _ H]
theorem v62_real : val_main_v62 (F := Ideal) x0 x1 x2 x3 x4 x5 x6 x7 (ix1 n) = ∑ s, ((A.at s).nh n : EReal) * ((A.at s).ry n : EReal) := by
  unfold val_main_v62
  rw [Host.reduceAdd_apply, Ideal.hostReduceAdd_def, reduce_two]
  pointwise [val_main_cst_15, val_main_v61]
  simp only [v41_real _ _ _ H, v60_real _ _ _ H]
  exact sum_tok fun s => ((A.at s).nh n : EReal) * ((A.at s).ry n : EReal)
theorem v67_real : val_main_v67 (F := Ideal) x0 x1 x2 x3 x4 x5 x6 x7 (ix2 0 n) = ∑ s, ((A.at s).nh n : EReal) * ((A.at s).ry n : EReal) := by
  rw [val_main_v67_apply]
  have e : idx_main_v67 (ix2 0 n) = ix1 n := by funext a; fin_cases a; rfl
  rw [e]
  unfold val_main_v66
  rw [Host.reduceAdd_apply, Ideal.hostReduceAdd_def, reduce_two]
  have e1 : idx_main_v63 (ix3 0 0 n) = ix1 n := by
    funext a; fin_cases a
    exact Fin.ext (by show (0 * 1 + 0) * 1024 + n.val = n.val; omega)
  pointwise [val_main_cst_16]
  simp only [Fin.sum_univ_one]
  rw [val_main_v63_apply, e1, v62_real _ H]
end

/-! ## The equations -/

variable (m : (ℓ : Loc Cert.Kernel11Ideal.nD Cert.Kernel11Ideal.τ Cert.Kernel11Ideal.sig) → Buf (Elt Ideal) ℓ) (c : Dev Cert.Kernel11Ideal.nD)
  {A : Args} (H : Real (argP m c) (argY m c) (argZ m c) (argW m c) (argX m c) (argU m c) (argG m c) (argT m c) A)
include H

theorem equalM : resultM m c = val_main_v20 (F := Ideal) (argP m c) (argY m c) (argZ m c) := by
  funext i
  have e : i = ix2 (i 0) (i 1) := by funext a; fin_cases a <;> rfl
  rw [e]
  exact (resultM_at m c (i 1) H (i 0)).trans (v20_real (i 0) (i 1) H).symm
theorem equalH : resultH m c = val_main_v88 (F := Ideal) (argP m c) (argY m c) (argZ m c) (argW m c) (argX m c) (argU m c) (argG m c) (argT m c) := by
  funext i
  obtain ⟨b, l, hs⟩ := tok_of (i 0)
  have e : i = ix2 (tok b l) (i 1) := by rw [hs]; funext a; fin_cases a <;> rfl
  rw [e]
  refine (resultH_at m c (i 1) H (tok b l)).trans (Eq.trans ?_ (v88_real b l (i 1) H).symm)
  exact congrArg _ ((A.at (tok b l)).rh_eq (i 1)).symm
theorem equalO : resultO m c = val_main_v89 (F := Ideal) (argP m c) (argY m c) (argZ m c) (argW m c) (argX m c) (argU m c) (argG m c) (argT m c) := by
  funext i
  obtain ⟨b, l, hs⟩ := tok_of (i 0)
  have e : i = ix2 (tok b l) (i 1) := by rw [hs]; funext a; fin_cases a <;> rfl
  rw [e]
  refine (resultO_at m c (i 1) H (tok b l)).trans (Eq.trans ?_ (v89_real b l (i 1) H).symm)
  exact congrArg _ ((mul_comm _ _).trans (congrArg _ ((A.at (tok b l)).rh_eq (i 1)).symm))
theorem equalU : resultU m c = val_main_v86 (F := Ideal) (argP m c) (argY m c) (argZ m c) (argW m c) (argX m c) (argU m c) (argG m c) (argT m c) := by
  funext i
  have e : i = ix3 (i 0) 0 (i 2) := by funext a; fin_cases a; rfl; exact Subsingleton.elim (α := Fin 1) _ _; rfl
  rw [e]
  refine (resultU_at m c (i 2) H (i 0)).trans (Eq.trans ?_ (v86_real (i 0) (i 2) H).symm)
  exact Finset.sum_congr rfl fun l _ => congrArg (fun z : ℝ => (z : EReal) * _) ((A.at (tok (i 0) l)).rh_eq (i 2)).symm
theorem equalG : resultG m c = val_main_v67 (F := Ideal) (argP m c) (argY m c) (argZ m c) (argW m c) (argX m c) (argU m c) (argG m c) (argT m c) := by
  funext i
  have e : i = ix2 0 (i 1) := by funext a; fin_cases a; exact Subsingleton.elim (α := Fin 1) _ _; rfl
  rw [e]
  refine (resultG_at m c (i 1) H).trans (Eq.trans ?_ (v67_real (i 1) H).symm)
  exact Finset.sum_congr rfl fun s _ => (mul_comm _ _).trans (congrArg (fun z : ℝ => _ * (z : EReal)) ((A.at s).ry_eq (i 1)).symm)
theorem equalL : resultL m c = val_main_v90 (F := Ideal) (argP m c) (argY m c) (argZ m c) (argW m c) (argX m c) (argU m c) (argG m c) (argT m c) := by
  funext i
  have e : i = ix2 (i 0) (i 1) := by funext a; fin_cases a <;> rfl
  rw [val_main_v90_apply, v54_real H, e]
  exact resultL_at m c H (i 0) (i 1)

end Cert.Merge

end
-- ==== Proof.MergeFinite.lean ====
/-
  The merge's precondition: where it holds, every element of the arguments is a real number.
-/
module

public import proofs.«01_k».proof.Defs
public import proofs.«01_k».proof.Proof.Finite
public import proofs.«01_k».proof.Proof.MergePoints

@[expose] public section

noncomputable section

namespace Cert.Merge

open Idealize.ShloMosaic Idealize.ShloMosaic.Pointwise Cert.Pre_finite11

/-- The shape facts the precondition's text states. -/
instance facts : Facts where
  bitsLt_bf16_f32 := by decide
  bcast_S_S4096x2048 := by decide
  reducesTo_S4096x2048_S_d0_1 := by decide
  h_S_ := by decide
  bcast_S_S4096x1024 := by decide
  reducesTo_S4096x1024_S_d0_1 := by decide
  bcast_S_S1024x1024 := by decide
  reducesTo_S1024x1024_S_d0_1 := by decide
  bcast_S_S2x1x1024 := by decide
  reducesTo_S2x1x1024_S_d0_1_2 := by decide
  bcast_S_S1x1024 := by decide
  reducesTo_S1x1024_S_d0_1 := by decide

variable (x0 : FVec Ideal S4096x2048 .bf16) (x1 x2 : FVec Ideal S4096x1024 .bf16) (x3 : FVec Ideal S1024x1024 .bf16) (x4 : FVec Ideal S4096x1024 .f32)
  (x5 : FVec Ideal S2x1x1024 .f32) (x6 : FVec Ideal S1x1024 .f32) (x7 : FVec Ideal S4096x1024 .f32)

/-- The arguments' real numbers. -/
def reals : Args where
  p s n := EReal.toReal (x0 (ix2 s n))
  y s n := EReal.toReal (x1 (ix2 s n))
  z s n := EReal.toReal (x2 (ix2 s n))
  w s n := EReal.toReal (x3 (ix2 s n))
  x s n := EReal.toReal (x4 (ix2 s n))
  u b n := EReal.toReal (x5 (ix3 b 0 n))
  g n := EReal.toReal (x6 (ix2 0 n))
  a s n := EReal.toReal (x7 (ix2 s n))

theorem real_of_finite (h : fn (F := Ideal) x0 x1 x2 x3 x4 x5 x6 x7 = fun _ => 1#1) :
    Real x0 x1 x2 x3 x4 x5 x6 x7 (reals x0 x1 x2 x3 x4 x5 x6 x7) := by
  have j : S_.Idx := fun k => k.elim0
  have e := congrFun h j
  obtain ⟨e, h7⟩ := IntOp.andi_eq_one.mp e
  obtain ⟨e, h6⟩ := IntOp.andi_eq_one.mp e
  obtain ⟨e, h5⟩ := IntOp.andi_eq_one.mp e
  obtain ⟨e, h4⟩ := IntOp.andi_eq_one.mp e
  obtain ⟨e, h3⟩ := IntOp.andi_eq_one.mp e
  obtain ⟨e, h2⟩ := IntOp.andi_eq_one.mp e
  obtain ⟨h0, h1⟩ := IntOp.andi_eq_one.mp e
  exact ⟨fun s n => Cert.Pre_finite.all_real (extf .f32 x0 Facts.bitsLt_bf16_f32) _ _ j h0 (ix2 s n),
    fun s n => Cert.Pre_finite.all_real (extf .f32 x1 Facts.bitsLt_bf16_f32) _ _ j h1 (ix2 s n),
    fun s n => Cert.Pre_finite.all_real (extf .f32 x2 Facts.bitsLt_bf16_f32) _ _ j h2 (ix2 s n),
    fun s n => Cert.Pre_finite.all_real (extf .f32 x3 Facts.bitsLt_bf16_f32) _ _ j h3 (ix2 s n),
    fun s n => Cert.Pre_finite.all_real x4 _ _ j h4 _, fun b n => Cert.Pre_finite.all_real x5 _ _ j h5 _, fun n => Cert.Pre_finite.all_real x6 _ _ j h6 _,
    fun s n => Cert.Pre_finite.all_real x7 _ _ j h7 _⟩

end Cert.Merge

end
-- ==== Proof.AdamW.lean ====
/-
  The AdamW updates: the three arrays the kernel writes — the step, the first and the second moment — are the reference's,
  element by element, at each of the three shapes.
-/
module

public import proofs.«01_k».proof.Proof.Gen.Kernel12Ideal.Value
public import proofs.«01_k».proof.Proof.Gen.Reference12Ideal.Read
public import proofs.«01_k».proof.Proof.Gen.Kernel13Ideal.Value
public import proofs.«01_k».proof.Proof.Gen.Reference13Ideal.Read
public import proofs.«01_k».proof.Proof.Gen.Kernel14Ideal.Value
public import proofs.«01_k».proof.Proof.Gen.Reference14Ideal.Read
public import Idealize.ShloMosaic.Lib.Pipeline.ValueKit

@[expose] public section

noncomputable section

open Idealize.ShloMosaic Idealize.ShloMosaic.TcCoe Idealize.ShloMosaic.Pointwise

/-! ## At the shape of the input weights (transposed) -/

namespace Cert.AdamW.WIn

open Cert.Kernel12Ideal Cert.Kernel12Ideal.Value Cert.Reference12Ideal.Read

variable (w g m v : S1x2056x1024.Idx → EReal)

theorem step : (G4 (F := Ideal) w g m v : S1x2056x1024.Idx → EReal) = val_main_v23 (F := Ideal) w g m v := rfl

theorem first : (G5 (F := Ideal) g m : S1x2056x1024.Idx → EReal) = val_main_v4 (F := Ideal) g m := rfl

theorem second : (G6 (F := Ideal) g v : S1x2056x1024.Idx → EReal) = val_main_v10 (F := Ideal) g v := rfl

end Cert.AdamW.WIn

/-! ## At the shape of the modulation weights -/

namespace Cert.AdamW.AdaW

open Cert.Kernel13Ideal Cert.Kernel13Ideal.Value Cert.Reference13Ideal.Read

variable (w g m v : S1x1024x768.Idx → EReal)

theorem step : (G4 (F := Ideal) w g m v : S1x1024x768.Idx → EReal) = val_main_v23 (F := Ideal) w g m v := rfl

theorem first : (G5 (F := Ideal) g m : S1x1024x768.Idx → EReal) = val_main_v4 (F := Ideal) g m := rfl

theorem second : (G6 (F := Ideal) g v : S1x1024x768.Idx → EReal) = val_main_v10 (F := Ideal) g v := rfl

end Cert.AdamW.AdaW

/-! ## At the shape of the square projections -/

namespace Cert.AdamW.ConvProj

open Cert.Kernel14Ideal Cert.Kernel14Ideal.Value Cert.Reference14Ideal.Read

variable (w g m v : S1x256x1024.Idx → EReal)

theorem step : (G4 (F := Ideal) w g m v : S1x256x1024.Idx → EReal) = val_main_v23 (F := Ideal) w g m v := rfl

theorem first : (G5 (F := Ideal) g m : S1x256x1024.Idx → EReal) = val_main_v4 (F := Ideal) g m := rfl

theorem second : (G6 (F := Ideal) g v : S1x256x1024.Idx → EReal) = val_main_v10 (F := Ideal) g v := rfl

end Cert.AdamW.ConvProj

end
-- ==== Proof.Modulation.lean ====
/-
  The modulation's gradients: of its weight, the kernel adds the noise rows' product and the context row's to the reference's one product;
  of its bias and of the context row the two sum the same terms.
-/
module

public import proofs.«01_k».proof.Proof.Gen.Kernel16Ideal.Value
public import proofs.«01_k».proof.Proof.Gen.Reference16Ideal.Read
public import Idealize.ShloMosaic.Lib.Pipeline.ValueKit

@[expose] public section

noncomputable section

namespace Cert.Modulation

open Cert.Kernel16Ideal Cert.Kernel16Ideal.Gen Cert.Kernel16Ideal.Value Idealize.ShloMosaic Idealize.ShloMosaic.TcCoe Idealize.ShloMosaic.Pointwise
open Cert.Reference16Ideal.Read

variable (x0 : S64x1024.Idx → EReal) (x1 : S8x1024.Idx → EReal) (x2 : S72x768.Idx → EReal) (x3 : S72x3072.Idx → EReal) (x4 : S1024x768.Idx → EReal)

/-- The activation. -/
def act (x : EReal) : EReal := x * Ideal.div 1 (1 + Ideal.exp (-x))

/-- The reference's rows: the noise's, -/
theorem v1_left (s : Fin 64) (k : Fin 1024) : val_main_v1 (F := Ideal) x0 x1 (ix2 (Fin.castAdd 8 s) k) = act (x0 (ix2 s k)) := by
  have e : val_main_v0 (F := Ideal) x0 x1 (ix2 (Fin.castAdd 8 s) k) = x0 (ix2 s k) := by
    unfold val_main_v0
    refine (concatenate_pair_apply _ _ _ _ _).trans ((dif_pos (show s.val < 64 from s.isLt)).trans ?_)
    congr 1; funext a; fin_cases a <;> rfl
  pointwise [val_main_v1, val_main_call0_v5, val_main_call0_v4, val_main_call0_v3, val_main_call0_v2, val_main_call0_v1, val_main_call0_v0, val_main_call0_cst,
    val_main_call0_cst_0]
  rw [e]
  rfl
/-- and the context's. -/
theorem v1_right (s : Fin 8) (k : Fin 1024) : val_main_v1 (F := Ideal) x0 x1 (ix2 (Fin.natAdd 64 s) k) = act (x1 (ix2 s k)) := by
  have e : val_main_v0 (F := Ideal) x0 x1 (ix2 (Fin.natAdd 64 s) k) = x1 (ix2 s k) := by
    unfold val_main_v0
    refine (concatenate_pair_apply _ _ _ _ _).trans ((dif_neg (show ¬ 64 + s.val < 64 by omega)).trans ?_)
    congr 1; funext a
    apply Fin.ext
    match a with
    | ⟨0, _⟩ => show 64 + s.val - 64 = s.val; omega
    | ⟨1, _⟩ => rfl
  pointwise [val_main_v1, val_main_call0_v5, val_main_call0_v4, val_main_call0_v3, val_main_call0_v2, val_main_call0_v1, val_main_call0_v0, val_main_call0_cst,
    val_main_call0_cst_0]
  rw [e]
  rfl

variable (k : Fin 1024) (n : Fin 768) (l : Fin 3072) (r : Fin 8)

theorem equalW_at : G5 (F := Ideal) x0 x1 x2 x3 x4 (ix2 k n) = val_main_v6 (F := Ideal) x0 x1 x2 (ix2 k n) := by
  have e : idx_main_v6 (ix2 k n) = ix2 n k := by funext a; fin_cases a <;> rfl
  rw [val_main_v6_apply, e]
  pointwise [G5, k0_pay2, val_main_v5]
  refine Eq.trans ?_ (Fin.sum_univ_add (a := 64) (b := 8) (fun s => x2 (ix2 s n) * val_main_v1 (F := Ideal) x0 x1 (ix2 s k))).symm
  simp only [v1_left, v1_right, zero_sub]
  refine congrArg₂ (· + ·) (Finset.sum_congr rfl fun s _ => ?_) (Finset.sum_congr rfl fun s _ => ?_)
  · exact mul_comm _ _
  · exact mul_comm _ _
theorem equalB_at : G6 (F := Ideal) x0 x1 x2 x3 x4 (ix2 0 l) = val_main_v13 (F := Ideal) x3 (ix2 0 l) := by
  have e : idx_main_v13 (ix2 0 l) = ix1 l := by
    funext a; fin_cases a
    exact Fin.ext (by show 0 * 3072 + l.val = l.val; omega)
  rw [val_main_v13_apply, e]
  pointwise [G6, k0_pay3, val_main_v12, val_main_cst_2]
theorem equalC_at : G7 (F := Ideal) x0 x1 x2 x3 x4 (ix2 r k) = val_main_v21 (F := Ideal) x2 x4 (ix2 r k) := by
  pointwise [G7, k0_pay1, k0_pay4, k0_pay5, val_main_v21, val_main_v20, val_main_v19, val_main_v18, val_main_v17, val_main_cst_4]

theorem equalW : (G5 (F := Ideal) x0 x1 x2 x3 x4 : S1024x768.Idx → EReal) = val_main_v6 (F := Ideal) x0 x1 x2 := by
  funext i
  have e : i = ix2 (i 0) (i 1) := by funext a; fin_cases a <;> rfl
  rw [e]
  exact equalW_at x0 x1 x2 x3 x4 (i 0) (i 1)
theorem equalB : (G6 (F := Ideal) x0 x1 x2 x3 x4 : S1x3072.Idx → EReal) = val_main_v13 (F := Ideal) x3 := by
  funext i
  have e : i = ix2 0 (i 1) := by funext a; fin_cases a; exact Subsingleton.elim (α := Fin 1) _ _; rfl
  rw [e]
  exact equalB_at x0 x1 x2 x3 x4 (i 1)
theorem equalC : (G7 (F := Ideal) x0 x1 x2 x3 x4 : S8x1024.Idx → EReal) = val_main_v21 (F := Ideal) x2 x4 := by
  funext i
  have e : i = ix2 (i 0) (i 1) := by funext a; fin_cases a <;> rfl
  rw [e]
  exact equalC_at x0 x1 x2 x3 x4 (i 1) (i 0)

end Cert.Modulation

end
-- ==== Proof.ContextGrad.lean ====
/-
  The gradient of the context row: the kernel adds the four devices' partial gradients one after another and takes the activation's derivative as
  `σ · (1 + x · (1 − σ))`; the reference's derivative is the same where the arguments are finite.
-/
module

public import proofs.«01_k».proof.Defs
public import proofs.«01_k».proof.Proof.Gen.Kernel17Ideal.Value
public import proofs.«01_k».proof.Proof.Gen.Reference17Ideal.Read
public import proofs.«01_k».proof.Proof.Reals
public import proofs.«01_k».proof.Proof.Finite

@[expose] public section

noncomputable section

namespace Cert.ContextGrad

open Idealize.ShloMosaic Idealize.ShloMosaic.TcCoe Idealize.ShloMosaic.Pointwise Cert.Reals

/-- The shape facts the precondition's text states. -/
instance facts : Cert.Pre_finite17.Facts where
  bcast_S_S4x8x1024 := by decide
  reducesTo_S4x8x1024_S_d0_1_2 := by decide
  h_S_ := by decide
  bcast_S_S8x1024 := by decide
  reducesTo_S8x1024_S_d0_1 := by decide

open Cert.Kernel17Ideal Cert.Kernel17Ideal.Gen Cert.Kernel17Ideal.Value
open Cert.Reference17Ideal.Read

/-- The arguments hold real numbers. -/
structure Real (x : S4x8x1024.Idx → EReal) (y : S8x1024.Idx → EReal) (p : Fin 4 → Fin 8 → Fin 1024 → ℝ) (c : Fin 8 → Fin 1024 → ℝ) : Prop where
  p : ∀ d r n, x (ix3 d r n) = (p d r n : EReal)
  c : ∀ r n, y (ix2 r n) = (c r n : EReal)

theorem real_of_finite (x : FVec Ideal S4x8x1024 .f32) (y : FVec Ideal S8x1024 .f32) (h : Cert.Pre_finite17.fn (F := Ideal) x y = fun _ => 1#1) :
    Real x y (fun d r n => EReal.toReal (x (ix3 d r n))) (fun r n => EReal.toReal (y (ix2 r n))) := by
  have j : Cert.Pre_finite17.S_.Idx := fun k => k.elim0
  obtain ⟨h0, h1⟩ := IntOp.andi_eq_one.mp (congrFun h j)
  exact ⟨fun d r n => Cert.Pre_finite.all_real x _ _ j h0 _, fun r n => Cert.Pre_finite.all_real y _ _ j h1 _⟩

variable (x : S4x8x1024.Idx → EReal) (y : S8x1024.Idx → EReal) {p : Fin 4 → Fin 8 → Fin 1024 → ℝ} {c : Fin 8 → Fin 1024 → ℝ} (H : Real x y p c)
  (r : Fin 8) (n : Fin 1024)
include H

theorem kernel_at : G2 (F := Ideal) x y (ix2 r n) = (((∑ d, p d r n) * (sg (c r n) * (1 + c r n * (1 - sg (c r n)))) : ℝ) : EReal) := by
  pointwise [G2, k0_pay1]
  simp only [H.p, H.c, sg_sub]
  simp only [← EReal.coe_one, ← EReal.coe_sub, ← EReal.coe_mul, ← EReal.coe_add]
  rw [Fin.sum_univ_four]
theorem reference_at : val_main_v2 (F := Ideal) x y (ix2 r n)
    = (((∑ d, p d r n) * sg (c r n) + c r n * (∑ d, p d r n) * (sg (c r n) * (1 - sg (c r n))) : ℝ) : EReal) := by
  pointwise [val_main_v2, val_main_call1_v2, val_main_call1_v1, val_main_call1_v0, val_main_v1, val_main_v0_1, val_main_v0_2, val_main_call0_v7, val_main_call0_v6,
    val_main_call0_v4, val_main_call0_v3, val_main_call0_v2, val_main_call0_v1, val_main_call0_v0, val_main_call0_cst, val_main_call0_cst_0,
    val_main_call0_cst_1, val_main_cst]
  simp only [H.p, H.c, sg_neg, sum_real]
  simp only [← EReal.coe_one, ← EReal.coe_sub, ← EReal.coe_mul, ← EReal.coe_add]

theorem equal : (G2 (F := Ideal) x y : S8x1024.Idx → EReal) = val_main_v2 (F := Ideal) x y := by
  funext i
  have e : i = ix2 (i 0) (i 1) := by funext a; fin_cases a <;> rfl
  rw [e]
  refine (kernel_at x y H (i 0) (i 1)).trans (Eq.trans ?_ (reference_at x y H (i 0) (i 1)).symm)
  congr 1
  ring

end Cert.ContextGrad

end
-- ==== Proof.DeviceSums.lean ====
/-
  The sums over the devices: the kernel adds the eight (or, for the context's gradient, four) arrays one after another to the reference's sum.
-/
module

public import proofs.«01_k».proof.Proof.Gen.Kernel18Ideal.Value
public import proofs.«01_k».proof.Proof.Gen.Reference18Ideal.Read
public import proofs.«01_k».proof.Proof.Gen.Kernel19Ideal.Value
public import proofs.«01_k».proof.Proof.Gen.Reference19Ideal.Read
public import Idealize.ShloMosaic.Lib.Pipeline.ValueKit

@[expose] public section

noncomputable section

open Idealize.ShloMosaic Idealize.ShloMosaic.TcCoe Idealize.ShloMosaic.Pointwise

/-! ## The early gradients -/

namespace Cert.SumEarly

open Cert.Kernel18Ideal Cert.Kernel18Ideal.Gen Cert.Kernel18Ideal.Value Cert.Reference18Ideal.Read

variable (x : S8x64x1024.Idx → EReal)

theorem equal : (G1 (F := Ideal) x : S64x1024.Idx → EReal) = val_main_v0 (F := Ideal) x := by
  funext i
  have e : i = ix2 (i 0) (i 1) := by funext a; fin_cases a <;> rfl
  rw [e]
  pointwise [G1, k0_pay1, val_main_v0, val_main_cst]
  rw [Fin.sum_univ_eight]

end Cert.SumEarly

/-! ## The late gradients -/

namespace Cert.SumLate

open Cert.Kernel19Ideal Cert.Kernel19Ideal.Gen Cert.Kernel19Ideal.Value Cert.Reference19Ideal.Read

variable (x : S8x16x1024.Idx → EReal)

theorem equal : (G1 (F := Ideal) x : S16x1024.Idx → EReal) = val_main_v0 (F := Ideal) x := by
  funext i
  have e : i = ix2 (i 0) (i 1) := by funext a; fin_cases a <;> rfl
  rw [e]
  pointwise [G1, k0_pay1, val_main_v0, val_main_cst]
  rw [Fin.sum_univ_eight]

end Cert.SumLate

end
-- ==== Proof.lean ====
/- The frames of the calls, and their results against the references': the gradient of the gated-linear-attention scan first, then the products and their gradients, the norms
  and gates, the optimiser, the modulation and the sums over the devices. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Equal
public import proofs.«01_k».proof.Proof.Gen.Kernel2
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.MergeBwd
public import proofs.«01_k».proof.Proof.WInGrad1
public import proofs.«01_k».proof.Proof.WInGrad2
public import proofs.«01_k».proof.Proof.WOutGrad
public import proofs.«01_k».proof.Proof.ProjConv
public import proofs.«01_k».proof.Proof.ProjZ
public import proofs.«01_k».proof.Proof.ConvProj
public import proofs.«01_k».proof.Proof.Gen.Kernel9
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel16
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.LnGateRef
public import proofs.«01_k».proof.Proof.LnGateFinite
public import proofs.«01_k».proof.Proof.HeadRef
public import proofs.«01_k».proof.Proof.HeadFinite
public import proofs.«01_k».proof.Proof.MergeRef
public import proofs.«01_k».proof.Proof.MergeFinite
public import proofs.«01_k».proof.Proof.AdamW
public import proofs.«01_k».proof.Proof.Modulation
public import proofs.«01_k».proof.Proof.ContextGrad
public import proofs.«01_k».proof.Proof.DeviceSums
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference ends with its arguments unchanged and every counter at zero. -/
theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- From the same finite arguments the two programs end with the same four gradients. -/
theorem equal : Cert.algebraic_KernelIdeal_ReferenceIdeal_pre_finite := by
  intro m g m' g' hpre hm
  have H := fun c => Cert.Pre_finite.holds_of_finite _ _ _ _ _ (hpre c)
  refine ⟨fun c => Cert.KernelIdeal.Scan.arrQ m c, fun c => Cert.KernelIdeal.Scan.arrK m c, fun c => Cert.KernelIdeal.Scan.arrV m c,
    fun c => Cert.KernelIdeal.Scan.arrC m c, Cert.KernelIdeal.Value.run_blocks (F := Ideal) m g, ?_⟩
  refine (θ_run Cert.ReferenceIdeal.defs _ _).mono (fun r h c => ?_) (Cert.ReferenceIdeal.Value.run (F := Ideal) m' g')
  obtain ⟨h0, h1, h2, h3, kept⟩ := h c
  obtain ⟨e0, e1, e2, e3, e4⟩ := hm c
  refine ⟨h0.trans ?_, h1.trans ?_, h2.trans ?_, h3.trans ?_, kept⟩
  · rw [Cert.ReferenceIdeal.Read.val_main_v116_eq, e1, e2, e3, e4]
    exact (Cert.KernelIdeal.Scan.equal_dq m c (H c)).symm
  · rw [Cert.ReferenceIdeal.Read.val_main_v114_eq, e0, e2, e3, e4]
    exact (Cert.KernelIdeal.Scan.equal_dk m c (H c)).symm
  · rw [Cert.ReferenceIdeal.Read.val_main_v112_eq, e0, e1, e3, e4]
    exact (Cert.KernelIdeal.Scan.equal_dv m c (H c)).symm
  · rw [Cert.ReferenceIdeal.Read.val_main_v110_eq, e0, e1, e2, e3, e4]
    exact (Cert.KernelIdeal.Scan.equal_dc m c (H c)).symm

/-! ## The products and their gradients -/

theorem frame_reference2 : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)

/-- The same of the output projection's and the merge gates' gradients. -/
theorem equal2 : Cert.algebraic_Kernel2Ideal_Reference2Ideal := by
  intro m g m' g' _ hm
  refine ⟨fun c => Cert.MergeBwd.resultC m c, fun c => Cert.MergeBwd.resultG m c, fun c => Cert.MergeBwd.resultP m c, Cert.Kernel2Ideal.Value.run_blocks (F := Ideal) m g, ?_⟩
  refine (θ_run Cert.Reference2Ideal.defs _ _).mono (fun r h c => ?_) (Cert.Reference2Ideal.Value.run (F := Ideal) m' g')
  obtain ⟨h0, h1, h2, kept⟩ := h c
  obtain ⟨e0, e1, e2, e3, e4⟩ := hm c
  refine ⟨h0.trans ?_, h1.trans ?_, h2.trans ?_, kept⟩
  · rw [Cert.Reference2Ideal.Read.val_main_v36_eq, e0, e3, e4]
    exact (Cert.MergeBwd.equalC m c).symm
  · rw [Cert.Reference2Ideal.Read.val_main_v32_eq, e0, e3, e4]
    exact (Cert.MergeBwd.equalG m c).symm
  · rw [Cert.Reference2Ideal.Read.val_main_v39_eq, e0, e1, e2, e3, e4]
    exact (Cert.MergeBwd.equalP m c).symm

theorem frame_reference3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- The same of the input projection's gradients of the weight and of the bias. -/
theorem equal3 : Cert.algebraic_Kernel3Ideal_Reference3Ideal := by
  intro m g m' g' _ hm
  refine ⟨fun c => Cert.WInGrad1.resultW m c, fun c => Cert.WInGrad1.resultB m c, Cert.Kernel3Ideal.Value.run_blocks (F := Ideal) m g, ?_⟩
  refine (θ_run Cert.Reference3Ideal.defs _ _).mono (fun r h c => ?_) (Cert.Reference3Ideal.Value.run (F := Ideal) m' g')
  obtain ⟨h0, h1, kept⟩ := h c
  obtain ⟨e0, e1⟩ := hm c
  refine ⟨h0.trans ?_, h1.trans ?_, kept⟩
  · rw [Cert.Reference3Ideal.Read.val_main_v11_eq, e0, e1]
    exact (Cert.WInGrad1.equalW m c).symm
  · rw [Cert.Reference3Ideal.Read.val_main_v9_eq, e1]
    exact (Cert.WInGrad1.equalB m c).symm

theorem frame_reference4 : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- The same of the narrower input projection's gradients. -/
theorem equal4 : Cert.algebraic_Kernel4Ideal_Reference4Ideal := by
  intro m g m' g' _ hm
  refine ⟨fun c => Cert.WInGrad2.resultW m c, fun c => Cert.WInGrad2.resultB m c, Cert.Kernel4Ideal.Value.run_blocks (F := Ideal) m g, ?_⟩
  refine (θ_run Cert.Reference4Ideal.defs _ _).mono (fun r h c => ?_) (Cert.Reference4Ideal.Value.run (F := Ideal) m' g')
  obtain ⟨h0, h1, kept⟩ := h c
  obtain ⟨e0, e1⟩ := hm c
  refine ⟨h0.trans ?_, h1.trans ?_, kept⟩
  · rw [Cert.Reference4Ideal.Read.val_main_v11_eq, e0, e1]
    exact (Cert.WInGrad2.equalW m c).symm
  · rw [Cert.Reference4Ideal.Read.val_main_v9_eq, e1]
    exact (Cert.WInGrad2.equalB m c).symm

theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The same of the output projection's gradient. -/
theorem equal5 : Cert.algebraic_Kernel5Ideal_Reference5Ideal := by
  intro m g m' g' _ hm
  refine ⟨fun c => Cert.WOutGrad.result m c, Cert.Kernel5Ideal.Value.run_blocks (F := Ideal) m g, ?_⟩
  refine (θ_run Cert.Reference5Ideal.defs _ _).mono (fun r h c => ?_) (Cert.Reference5Ideal.Value.run (F := Ideal) m' g')
  obtain ⟨h0, kept⟩ := h c
  obtain ⟨e0, e1⟩ := hm c
  refine ⟨h0.trans ?_, kept⟩
  · rw [Cert.Reference5Ideal.Read.val_main_v5_eq, e0, e1]
    exact (Cert.WOutGrad.equal m c).symm

theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The same of an input projection. -/
theorem equal6 : Cert.algebraic_Kernel6Ideal_Reference6Ideal := by
  intro m g m' g' _ hm
  refine ⟨fun c => Cert.ProjConv.result m c, Cert.Kernel6Ideal.Value.run_blocks (F := Ideal) m g, ?_⟩
  refine (θ_run Cert.Reference6Ideal.defs _ _).mono (fun r h c => ?_) (Cert.Reference6Ideal.Value.run (F := Ideal) m' g')
  obtain ⟨h0, kept⟩ := h c
  obtain ⟨e0, e1, e2⟩ := hm c
  refine ⟨h0.trans ?_, kept⟩
  · rw [Cert.Reference6Ideal.Read.val_main_v6_eq, e0, e1, e2]
    exact (Cert.ProjConv.equal m c).symm

theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The same of a narrower input projection. -/
theorem equal7 : Cert.algebraic_Kernel7Ideal_Reference7Ideal := by
  intro m g m' g' _ hm
  refine ⟨fun c => Cert.ProjZ.result m c, Cert.Kernel7Ideal.Value.run_blocks (F := Ideal) m g, ?_⟩
  refine (θ_run Cert.Reference7Ideal.defs _ _).mono (fun r h c => ?_) (Cert.Reference7Ideal.Value.run (F := Ideal) m' g')
  obtain ⟨h0, kept⟩ := h c
  obtain ⟨e0, e1, e2⟩ := hm c
  refine ⟨h0.trans ?_, kept⟩
  · rw [Cert.Reference7Ideal.Read.val_main_v6_eq, e0, e1, e2]
    exact (Cert.ProjZ.equal m c).symm

theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The same of a branch's projection. -/
theorem equal8 : Cert.algebraic_Kernel8Ideal_Reference8Ideal := by
  intro m g m' g' _ hm
  refine ⟨fun c => Cert.ConvProj.result m c, Cert.Kernel8Ideal.Value.run_blocks (F := Ideal) m g, ?_⟩
  refine (θ_run Cert.Reference8Ideal.defs _ _).mono (fun r h c => ?_) (Cert.Reference8Ideal.Value.run (F := Ideal) m' g')
  obtain ⟨h0, kept⟩ := h c
  obtain ⟨e0, e1⟩ := hm c
  refine ⟨h0.trans ?_, kept⟩
  · rw [Cert.Reference8Ideal.Read.val_main_v3_eq, e0, e1]
    exact (Cert.ConvProj.equal m c).symm

/-! ## The norms and gates -/

theorem frame_reference9 : Cert.quiescent_Reference9Ideal := fun m ρ _ =>
  (θ_run Cert.Reference9Ideal.defs _ _).mono (fun r h => ⟨fun c => (h c).2.2.2.2, sem_eq_zero_of_no_sems (by decide) r.2⟩)
    (Cert.Reference9Ideal.Value.run (F := Ideal) m ρ)

/-- The same of the gated layer norm's gradient, where every argument is finite. -/
theorem equal9 : Cert.algebraic_Kernel9Ideal_Reference9Ideal_pre_finite9 := by
  intro m g m' g' hpre hm
  have H := fun c => Cert.LnGate.real_of_finite _ _ _ _ _ _ (hpre c)
  refine ⟨fun c => Cert.LnGate.resultA m c, fun c => Cert.LnGate.resultZ m c, fun c => Cert.LnGate.resultG m c, fun c => Cert.LnGate.resultB m c, Cert.Kernel9Ideal.Value.run_blocks (F := Ideal) m g, ?_⟩
  refine (θ_run Cert.Reference9Ideal.defs _ _).mono (fun r h c => ?_) (Cert.Reference9Ideal.Value.run (F := Ideal) m' g')
  obtain ⟨h0, h1, h2, h3, kept⟩ := h c
  obtain ⟨e0, e1, e2, e3, e4, e5⟩ := hm c
  refine ⟨h0.trans ?_, h1.trans ?_, h2.trans ?_, h3.trans ?_, kept⟩
  · rw [Cert.Reference9Ideal.Read.val_main_v70_eq, e0, e1, e2, e3, e4, e5]
    exact (Cert.LnGate.equalA m c (H c)).symm
  · rw [Cert.Reference9Ideal.Read.val_main_v38_eq, e0, e1, e2, e3, e4, e5]
    exact (Cert.LnGate.equalZ m c (H c)).symm
  · rw [Cert.Reference9Ideal.Read.val_main_v44_eq, e0, e1, e2, e3, e4, e5]
    exact (Cert.LnGate.equalG m c (H c)).symm
  · rw [Cert.Reference9Ideal.Read.val_main_v41_eq, e0, e1, e2, e3, e4, e5]
    exact (Cert.LnGate.equalB m c (H c)).symm

theorem frame_reference10 : Cert.quiescent_Reference10Ideal := fun m ρ _ =>
  (θ_run Cert.Reference10Ideal.defs _ _).mono (fun r h => ⟨fun c => (h c).2.2.2, sem_eq_zero_of_no_sems (by decide) r.2⟩)
    (Cert.Reference10Ideal.Value.run (F := Ideal) m ρ)

/-- The same of the recurrent branch's norm and gate, where every argument is finite. -/
theorem equal10 : Cert.algebraic_Kernel10Ideal_Reference10Ideal_pre_finite10 := by
  intro m g m' g' hpre hm
  have H := fun c => Cert.HeadNorm.real_of_finite _ _ _ _ _ _ (hpre c)
  refine ⟨fun c => Cert.HeadNorm.resultO m c, fun c => Cert.HeadNorm.resultR m c, fun c => Cert.HeadNorm.resultG m c, Cert.Kernel10Ideal.Value.run_blocks (F := Ideal) m g, ?_⟩
  refine (θ_run Cert.Reference10Ideal.defs _ _).mono (fun r h c => ?_) (Cert.Reference10Ideal.Value.run (F := Ideal) m' g')
  obtain ⟨h0, h1, h2, kept⟩ := h c
  obtain ⟨e0, e1, e2, e3, e4, e5⟩ := hm c
  refine ⟨h0.trans ?_, h1.trans ?_, h2.trans ?_, kept⟩
  · rw [Cert.Reference10Ideal.Read.val_main_v52_eq, e0, e1, e2, e3, e4, e5]
    exact (Cert.HeadNorm.equalO m c (H c)).symm
  · rw [Cert.Reference10Ideal.Read.val_main_v29_eq, e0, e1, e2, e3, e4, e5]
    exact (Cert.HeadNorm.equalR m c (H c)).symm
  · rw [Cert.Reference10Ideal.Read.val_main_v37_eq, e0, e1, e2, e3, e4]
    exact (Cert.HeadNorm.equalG m c (H c)).symm

theorem frame_reference11 : Cert.quiescent_Reference11Ideal := fun m ρ _ =>
  (θ_run Cert.Reference11Ideal.defs _ _).mono (fun r h => ⟨fun c => (h c).2.2.2.2.2.2, sem_eq_zero_of_no_sems (by decide) r.2⟩)
    (Cert.Reference11Ideal.Value.run (F := Ideal) m ρ)

/-- The same of the merge, the output projection, the final norm and the loss, where every argument is finite. -/
theorem equal11 : Cert.algebraic_Kernel11Ideal_Reference11Ideal_pre_finite11 := by
  intro m g m' g' hpre hm
  have H := fun c => Cert.Merge.real_of_finite _ _ _ _ _ _ _ _ (hpre c)
  refine ⟨fun c => Cert.Merge.resultM m c, fun c => Cert.Merge.resultH m c, fun c => Cert.Merge.resultO m c, fun c => Cert.Merge.resultU m c, fun c => Cert.Merge.resultG m c, fun c => Cert.Merge.resultL m c, Cert.Kernel11Ideal.Value.run_blocks (F := Ideal) m g, ?_⟩
  refine (θ_run Cert.Reference11Ideal.defs _ _).mono (fun r h c => ?_) (Cert.Reference11Ideal.Value.run (F := Ideal) m' g')
  obtain ⟨h0, h1, h2, h3, h4, h5, kept⟩ := h c
  obtain ⟨e0, e1, e2, e3, e4, e5, e6, e7⟩ := hm c
  refine ⟨h0.trans ?_, h1.trans ?_, h2.trans ?_, h3.trans ?_, h4.trans ?_, h5.trans ?_, kept⟩
  · rw [Cert.Reference11Ideal.Read.val_main_v20_eq, e0, e1, e2]
    exact (Cert.Merge.equalM m c (H c)).symm
  · rw [Cert.Reference11Ideal.Read.val_main_v88_eq, e0, e1, e2, e3, e4, e5, e6, e7]
    exact (Cert.Merge.equalH m c (H c)).symm
  · rw [Cert.Reference11Ideal.Read.val_main_v89_eq, e0, e1, e2, e3, e4, e5, e6, e7]
    exact (Cert.Merge.equalO m c (H c)).symm
  · rw [Cert.Reference11Ideal.Read.val_main_v86_eq, e0, e1, e2, e3, e4, e5, e6, e7]
    exact (Cert.Merge.equalU m c (H c)).symm
  · rw [Cert.Reference11Ideal.Read.val_main_v67_eq, e0, e1, e2, e3, e4, e5, e6, e7]
    exact (Cert.Merge.equalG m c (H c)).symm
  · rw [Cert.Reference11Ideal.Read.val_main_v90_eq, e0, e1, e2, e3, e4, e5, e6, e7]
    exact (Cert.Merge.equalL m c (H c)).symm

/-! ## The optimiser -/

theorem frame_reference12 : Cert.quiescent_Reference12Ideal := fun m ρ _ =>
  (θ_run Cert.Reference12Ideal.defs _ _).mono (fun r h => ⟨fun c => (h c).2.2.2, sem_eq_zero_of_no_sems (by decide) r.2⟩)
    (Cert.Reference12Ideal.Value.run (F := Ideal) m ρ)

/-- The same of the input weights' optimiser step. -/
theorem equal12 : Cert.algebraic_Kernel12Ideal_Reference12Ideal := by
  intro m g m' g' _ hm
  refine ⟨_, _, _, Cert.Kernel12Ideal.Value.run (F := Ideal) m g, ?_⟩
  refine (θ_run Cert.Reference12Ideal.defs _ _).mono (fun r h c => ?_) (Cert.Reference12Ideal.Value.run (F := Ideal) m' g')
  obtain ⟨h0, h1, h2, kept⟩ := h c
  obtain ⟨e0, e1, e2, e3⟩ := hm c
  refine ⟨h0.trans ?_, h1.trans ?_, h2.trans ?_, kept⟩
  · rw [Cert.Reference12Ideal.Read.val_main_v23_eq, e0, e1, e2, e3]
    exact (Cert.AdamW.WIn.step _ _ _ _).symm
  · rw [Cert.Reference12Ideal.Read.val_main_v4_eq, e1, e2]
    exact (Cert.AdamW.WIn.first _ _).symm
  · rw [Cert.Reference12Ideal.Read.val_main_v10_eq, e1, e3]
    exact (Cert.AdamW.WIn.second _ _).symm

theorem frame_reference13 : Cert.quiescent_Reference13Ideal := fun m ρ _ =>
  (θ_run Cert.Reference13Ideal.defs _ _).mono (fun r h => ⟨fun c => (h c).2.2.2, sem_eq_zero_of_no_sems (by decide) r.2⟩)
    (Cert.Reference13Ideal.Value.run (F := Ideal) m ρ)

/-- The same of the modulation weights' optimiser step. -/
theorem equal13 : Cert.algebraic_Kernel13Ideal_Reference13Ideal := by
  intro m g m' g' _ hm
  refine ⟨_, _, _, Cert.Kernel13Ideal.Value.run (F := Ideal) m g, ?_⟩
  refine (θ_run Cert.Reference13Ideal.defs _ _).mono (fun r h c => ?_) (Cert.Reference13Ideal.Value.run (F := Ideal) m' g')
  obtain ⟨h0, h1, h2, kept⟩ := h c
  obtain ⟨e0, e1, e2, e3⟩ := hm c
  refine ⟨h0.trans ?_, h1.trans ?_, h2.trans ?_, kept⟩
  · rw [Cert.Reference13Ideal.Read.val_main_v23_eq, e0, e1, e2, e3]
    exact (Cert.AdamW.AdaW.step _ _ _ _).symm
  · rw [Cert.Reference13Ideal.Read.val_main_v4_eq, e1, e2]
    exact (Cert.AdamW.AdaW.first _ _).symm
  · rw [Cert.Reference13Ideal.Read.val_main_v10_eq, e1, e3]
    exact (Cert.AdamW.AdaW.second _ _).symm

theorem frame_reference14 : Cert.quiescent_Reference14Ideal := fun m ρ _ =>
  (θ_run Cert.Reference14Ideal.defs _ _).mono (fun r h => ⟨fun c => (h c).2.2.2, sem_eq_zero_of_no_sems (by decide) r.2⟩)
    (Cert.Reference14Ideal.Value.run (F := Ideal) m ρ)

/-- The same of a square projection's optimiser step. -/
theorem equal14 : Cert.algebraic_Kernel14Ideal_Reference14Ideal := by
  intro m g m' g' _ hm
  refine ⟨_, _, _, Cert.Kernel14Ideal.Value.run (F := Ideal) m g, ?_⟩
  refine (θ_run Cert.Reference14Ideal.defs _ _).mono (fun r h c => ?_) (Cert.Reference14Ideal.Value.run (F := Ideal) m' g')
  obtain ⟨h0, h1, h2, kept⟩ := h c
  obtain ⟨e0, e1, e2, e3⟩ := hm c
  refine ⟨h0.trans ?_, h1.trans ?_, h2.trans ?_, kept⟩
  · rw [Cert.Reference14Ideal.Read.val_main_v23_eq, e0, e1, e2, e3]
    exact (Cert.AdamW.ConvProj.step _ _ _ _).symm
  · rw [Cert.Reference14Ideal.Read.val_main_v4_eq, e1, e2]
    exact (Cert.AdamW.ConvProj.first _ _).symm
  · rw [Cert.Reference14Ideal.Read.val_main_v10_eq, e1, e3]
    exact (Cert.AdamW.ConvProj.second _ _).symm

/-! ## The modulation's gradients and the sums over the devices -/

theorem frame_reference16 : Cert.quiescent_Reference16Ideal := fun m ρ _ =>
  (θ_run Cert.Reference16Ideal.defs _ _).mono (fun r h => ⟨fun c => (h c).2.2.2, sem_eq_zero_of_no_sems (by decide) r.2⟩)
    (Cert.Reference16Ideal.Value.run (F := Ideal) m ρ)

/-- The same of the modulation's gradients. -/
theorem equal16 : Cert.algebraic_Kernel16Ideal_Reference16Ideal := by
  intro m g m' g' _ hm
  refine ⟨_, _, _, Cert.Kernel16Ideal.Value.run (F := Ideal) m g, ?_⟩
  refine (θ_run Cert.Reference16Ideal.defs _ _).mono (fun r h c => ?_) (Cert.Reference16Ideal.Value.run (F := Ideal) m' g')
  obtain ⟨h0, h1, h2, kept⟩ := h c
  obtain ⟨e0, e1, e2, e3, e4⟩ := hm c
  refine ⟨h0.trans ?_, h1.trans ?_, h2.trans ?_, kept⟩
  · rw [Cert.Reference16Ideal.Read.val_main_v6_eq, e0, e1, e2]
    exact (Cert.Modulation.equalW _ _ _ _ _).symm
  · rw [Cert.Reference16Ideal.Read.val_main_v13_eq, e3]
    exact (Cert.Modulation.equalB _ _ _ _ _).symm
  · rw [Cert.Reference16Ideal.Read.val_main_v21_eq, e2, e4]
    exact (Cert.Modulation.equalC _ _ _ _ _).symm

theorem frame_reference17 : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

/-- The same of the context row's gradient, where every argument is finite. -/
theorem equal17 : Cert.algebraic_Kernel17Ideal_Reference17Ideal_pre_finite17 := by
  intro m g m' g' hpre hm
  have H := fun c => Cert.ContextGrad.real_of_finite _ _ (hpre c)
  refine ⟨_, Cert.Kernel17Ideal.Value.run (F := Ideal) m g, ?_⟩
  refine (θ_run Cert.Reference17Ideal.defs _ _).mono (fun r h c => ?_) (Cert.Reference17Ideal.Value.run (F := Ideal) m' g')
  obtain ⟨h0, kept⟩ := h c
  obtain ⟨e0, e1⟩ := hm c
  refine ⟨h0.trans ?_, kept⟩
  · rw [Cert.Reference17Ideal.Read.val_main_v2_eq, e0, e1]
    exact (Cert.ContextGrad.equal _ _ (H c)).symm

theorem frame_reference18 : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

/-- The same of the early gradients' sum. -/
theorem equal18 : Cert.algebraic_Kernel18Ideal_Reference18Ideal := by
  intro m g m' g' _ hm
  refine ⟨_, Cert.Kernel18Ideal.Value.run (F := Ideal) m g, ?_⟩
  refine (θ_run Cert.Reference18Ideal.defs _ _).mono (fun r h c => ?_) (Cert.Reference18Ideal.Value.run (F := Ideal) m' g')
  obtain ⟨h0, kept⟩ := h c
  have e0 := hm c
  refine ⟨h0.trans ?_, kept⟩
  · rw [Cert.Reference18Ideal.Read.val_main_v0_eq, e0]
    exact (Cert.SumEarly.equal _).symm

theorem frame_reference19 : Cert.quiescent_Reference19Ideal := fun m ρ _ =>
  (θ_run Cert.Reference19Ideal.defs _ _).mono (fun r h => ⟨fun c => (h c).2, sem_eq_zero_of_no_sems (by decide) r.2⟩)
    (Cert.Reference19Ideal.Value.run (F := Ideal) m ρ)

/-- The same of the late gradients' sum. -/
theorem equal19 : Cert.algebraic_Kernel19Ideal_Reference19Ideal := by
  intro m g m' g' _ hm
  refine ⟨_, Cert.Kernel19Ideal.Value.run (F := Ideal) m g, ?_⟩
  refine (θ_run Cert.Reference19Ideal.defs _ _).mono (fun r h c => ?_) (Cert.Reference19Ideal.Value.run (F := Ideal) m' g')
  obtain ⟨h0, kept⟩ := h c
  have e0 := hm c
  refine ⟨h0.trans ?_, kept⟩
  · rw [Cert.Reference19Ideal.Read.val_main_v0_eq, e0]
    exact (Cert.SumLate.equal _).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts, Cert.Pre_finite.facts, Cert.LnGate.facts,
  Cert.HeadNorm.facts, Cert.Merge.facts, Cert.ContextGrad.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, fun m ρ _ => Cert.Kernel9Ideal.Gen.frame m ρ,
  frame_reference9, fun m ρ _ => frame_reference9 m ρ trivial,
  fun m ρ _ => Cert.Kernel10.Gen.frame m ρ, fun m ρ _ => Cert.Kernel10Ideal.Gen.frame m ρ, fun m ρ _ => Cert.Kernel10Ideal.Gen.frame m ρ,
  frame_reference10, fun m ρ _ => frame_reference10 m ρ trivial,
  fun m ρ _ => Cert.Kernel11.Gen.frame m ρ, fun m ρ _ => Cert.Kernel11Ideal.Gen.frame m ρ, fun m ρ _ => Cert.Kernel11Ideal.Gen.frame m ρ,
  frame_reference11, fun m ρ _ => frame_reference11 m ρ trivial,
  fun m ρ _ => Cert.Kernel12.Gen.frame m ρ, fun m ρ _ => Cert.Kernel12Ideal.Gen.frame m ρ, frame_reference12,
  fun m ρ _ => Cert.Kernel13.Gen.frame m ρ, fun m ρ _ => Cert.Kernel13Ideal.Gen.frame m ρ, frame_reference13,
  fun m ρ _ => Cert.Kernel14.Gen.frame m ρ, fun m ρ _ => Cert.Kernel14Ideal.Gen.frame m ρ, frame_reference14,
  fun m ρ _ => Cert.Kernel16.Gen.frame m ρ, fun m ρ _ => Cert.Kernel16Ideal.Gen.frame m ρ, frame_reference16,
  fun m ρ _ => Cert.Kernel17.Gen.frame m ρ, fun m ρ _ => Cert.Kernel17Ideal.Gen.frame m ρ, fun m ρ _ => Cert.Kernel17Ideal.Gen.frame m ρ,
  frame_reference17, fun m ρ _ => frame_reference17 m ρ trivial,
  fun m ρ _ => Cert.Kernel18.Gen.frame m ρ, fun m ρ _ => Cert.Kernel18Ideal.Gen.frame m ρ, frame_reference18,
  fun m ρ _ => Cert.Kernel19.Gen.frame m ρ, fun m ρ _ => Cert.Kernel19Ideal.Gen.frame m ρ, frame_reference19,
  trivial, equal,
  trivial, equal2, trivial, equal3, trivial, equal4, trivial, equal5, trivial, equal6, trivial, equal7, trivial, equal8, trivial, equal9,
  trivial, equal10, trivial, equal11, trivial, equal12, trivial, equal13, trivial, equal14, trivial, equal16, trivial, equal17, trivial, equal18,
  trivial, equal19⟩

end Cert.Proof

end
